-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "scale2" .f32 0x3DD53B95#32 (((Real.sqrt 192)⁻¹ * (Real.log 2)⁻¹ : ℝ) : EReal)
  ∧ IdealRules.named_const.Statement Cert.Kernel2Ideal.κ "scale" .f32 0x3D93CD3A#32 (((Real.sqrt 192)⁻¹ : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v73_0)) (v1 : (c : Dev Cert.Kernel2Ideal.nD) → Buf (Elt Ideal) ((c.tc : Thread Cert.Kernel2Ideal.nD Cert.Kernel2Ideal.τ).loc Cert.Kernel2Ideal.main_v73_1)) (v2 : (c : Dev Cert.Kernel2Ideal.nD) → Buf (Elt Ideal) ((c.tc : Thread Cert.Kernel2Ideal.nD Cert.Kernel2Ideal.τ).loc Cert.Kernel2Ideal.main_v73_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v73_0) = v0 c
          ∧ r.2.mem ((c.tc : Thread Cert.Kernel2Ideal.nD Cert.Kernel2Ideal.τ).loc Cert.Kernel2Ideal.main_v73_1) = v1 c
          ∧ r.2.mem ((c.tc : Thread Cert.Kernel2Ideal.nD Cert.Kernel2Ideal.τ).loc Cert.Kernel2Ideal.main_v73_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v118) = v0 c
          ∧ r.2.mem ((c.tc : Thread Cert.Reference2Ideal.nD Cert.Reference2Ideal.τ).loc Cert.Reference2Ideal.main_v119) = v1 c
          ∧ r.2.mem ((c.tc : Thread Cert.Reference2Ideal.nD Cert.Reference2Ideal.τ).loc Cert.Reference2Ideal.main_v121) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v3) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S4096x16x192 : Shape := ⟨3, ![4096, 16, 192]⟩
abbrev S4096x16x256 : Shape := ⟨3, ![4096, 16, 256]⟩
abbrev S4096x64 : Shape := ⟨2, ![4096, 64]⟩
abbrev S4096x16x128 : Shape := ⟨3, ![4096, 16, 128]⟩
abbrev S4096x32 : Shape := ⟨2, ![4096, 32]⟩
abbrev S_ : Shape := ⟨0, ![]⟩

class Facts : Prop where
  bcast_S_S4096x16x192 : S_.BroadcastsInDim S4096x16x192 (![] : Fin 0 → Fin S4096x16x192.rank)
  bcast_S_S4096x16x256 : S_.BroadcastsInDim S4096x16x256 (![] : Fin 0 → Fin S4096x16x256.rank)
  bcast_S_S4096x64 : S_.BroadcastsInDim S4096x64 (![] : Fin 0 → Fin S4096x64.rank)
  bcast_S_S4096x16x128 : S_.BroadcastsInDim S4096x16x128 (![] : Fin 0 → Fin S4096x16x128.rank)
  bcast_S_S4096x32 : S_.BroadcastsInDim S4096x32 (![] : Fin 0 → Fin S4096x32.rank)

variable [Facts]

def fn {F : FTy → Type} [FloatOps F] (main_arg0 : FVec F S4096x16x192 .f32) (main_arg1 : FVec F S4096x16x256 .f32) (main_arg2 : FVec F S4096x64 .f32) (main_arg3 : FVec F S4096x16x128 .f32) (main_arg4 : FVec F S4096x32 .f32) (main_arg5 : FVec F S4096x32 .f32) : IVec S4096x16x192 1 × IVec S4096x16x256 1 × IVec S4096x64 1 × IVec S4096x16x128 1 × IVec S4096x32 1 × IVec S4096x32 1 :=
  let main_v0 : FVec F S4096x16x192 .f32 := Host.absf main_arg0
  let main_cst : FVec F S_ .f32 := constant S_ .f32 0x7F800000#32
  let main_v1 : FVec F S4096x16x192 .f32 := broadcastInDim S4096x16x192 ![] bcast_S_S4096x16x192 main_cst
  let main_v2 : IVec S4096x16x192 1 := cmpf .olt main_v0 main_v1
  let main_v3 : FVec F S4096x16x256 .f32 := Host.absf main_arg1
  let main_cst_0 : FVec F S_ .f32 := constant S_ .f32 0x7F800000#32
  let main_v4 : FVec F S4096x16x256 .f32 := broadcastInDim S4096x16x256 ![] bcast_S_S4096x16x256 main_cst_0
  let main_v5 : IVec S4096x16x256 1 := cmpf .olt main_v3 main_v4
  let main_v6 : FVec F S4096x64 .f32 := Host.absf main_arg2
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  let main_v9 : FVec F S4096x16x128 .f32 := Host.absf main_arg3
  let main_cst_2 : FVec F S_ .f32 := constant S_ .f32 0x7F800000#32
  let main_v10 : FVec F S4096x16x128 .f32 := broadcastInDim S4096x16x128 ![] bcast_S_S4096x16x128 main_cst_2
  let main_v11 : IVec S4096x16x128 1 := cmpf .olt main_v9 main_v10
  let main_v12 : FVec F S4096x32 .f32 := Host.absf main_arg4
  let main_cst_3 : FVec F S_ .f32 := constant S_ .f32 0x7F800000#32
  let main_v13 : FVec F S4096x32 .f32 := broadcastInDim S4096x32 ![] bcast_S_S4096x32 main_cst_3
  let main_v14 : IVec S4096x32 1 := cmpf .olt main_v12 main_v13
  let main_v15 : FVec F S4096x32 .f32 := Host.absf main_arg5
  let main_cst_4 : FVec F S_ .f32 := constant S_ .f32 0x7F800000#32
  let main_v16 : FVec F S4096x32 .f32 := broadcastInDim S4096x32 ![] bcast_S_S4096x32 main_cst_4
  let main_v17 : IVec S4096x32 1 := cmpf .olt main_v15 main_v16
  (main_v2, main_v5, main_v8, main_v11, main_v14, main_v17)
-- ==== Kernel.lean ====
abbrev S4096x2048 : Shape := ⟨2, ![4096, 2048]⟩
abbrev S4096x6144 : Shape := ⟨2, ![4096, 6144]⟩
abbrev S3x2048 : Shape := ⟨2, ![3, 2048]⟩
abbrev S_ : Shape := ⟨0, ![]⟩
abbrev S8x2048 : Shape := ⟨2, ![8, 2048]⟩
abbrev S4096x128 : Shape := ⟨2, ![4096, 128]⟩
abbrev S8x128 : Shape := ⟨2, ![8, 128]⟩
abbrev S1x128 : Shape := ⟨2, ![1, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S3x2048, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S4096x6144, .bf16⟩
  | .hbm, ⟨7, _⟩ => ⟨S8x2048, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S8x128, .f32⟩
  | .local _ .vmem, ⟨9, _⟩ => ⟨S8x128, .f32⟩
  | .local _ .vmem, ⟨10, _⟩ => ⟨S4096x128, .bf16⟩
  | .local _ .vmem, ⟨11, _⟩ => ⟨S4096x128, .bf16⟩
  | .local _ .vmem, ⟨12, _⟩ => ⟨S8x128, .f32⟩
  | .local _ .vmem, ⟨13, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4096x2048 : Shape := ⟨2, ![4096, 2048]⟩
abbrev S4096x6144 : Shape := ⟨2, ![4096, 6144]⟩
abbrev S3x2048 : Shape := ⟨2, ![3, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S5x2048 : Shape := ⟨2, ![5, 2048]⟩
abbrev S8x2048 : Shape := ⟨2, ![8, 2048]⟩

abbrev nBuf : Space → Nat
  | .hbm => 94
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S3x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S2x2048, .f32⟩
  | .hbm, ⟨9, _⟩ => ⟨S4098x2048, .f32⟩
  | .hbm, ⟨10, _⟩ => ⟨S_, .f32⟩
  | .hbm, ⟨11, _⟩ => ⟨S2x2048, .f32⟩
  | .hbm, ⟨12, _⟩ => ⟨S1x2048, .f32⟩
  | .hbm, ⟨13, _⟩ => ⟨S2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S4098x2048, .f32⟩
  | .hbm, ⟨45, _⟩ => ⟨S1x2048, .f32⟩
  | .hbm, ⟨46, _⟩ => ⟨S_, .f32⟩
  | .hbm, ⟨47, _⟩ => ⟨S3x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S2048, .f32⟩
  | .hbm, ⟨56, _⟩ => ⟨S_, .f32⟩
  | .hbm, ⟨57, _⟩ => ⟨S4098x2048, .f32⟩
  | .hbm, ⟨58, _⟩ => ⟨S4098x2048, .f32⟩
  | .hbm, ⟨59, _⟩ => ⟨S1x2048, .f32⟩
  | .hbm, ⟨60, _⟩ => ⟨S_, .f32⟩
  | .hbm, ⟨61, _⟩ => ⟨S3x2048, .f32⟩
  | .hbm, ⟨62, _⟩ => ⟨S3x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S_, .f32⟩
  | .hbm, ⟨70, _⟩ => ⟨S2048, .f32⟩
  | .hbm, ⟨71, _⟩ => ⟨S_, .f32⟩
  | .hbm, ⟨72, _⟩ => ⟨S4098x2048, .f32⟩
  | .hbm, ⟨73, _⟩ => ⟨S4098x2048, .f32⟩
  | .hbm, ⟨74, _⟩ => ⟨S1x2048, .f32⟩
  | .hbm, ⟨75, _⟩ => ⟨S_, .f32⟩
  | .hbm, ⟨76, _⟩ => ⟨S3x2048, .f32⟩
  | .hbm, ⟨77, _⟩ => ⟨S3x2048, .f32⟩
  | .hbm, ⟨78, _⟩ => ⟨S2x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S4096x6144, .f32⟩
  | .hbm, ⟨84, _⟩ => ⟨S_, .f32⟩
  | .hbm, ⟨85, _⟩ => ⟨S4096x6144, .f32⟩
  | .hbm, ⟨86, _⟩ => ⟨S4096x6144, .f32⟩
  | .hbm, ⟨87, _⟩ => ⟨S_, .f32⟩
  | .hbm, ⟨88, _⟩ => ⟨S4096x6144, .f32⟩
  | .hbm, ⟨89, _⟩ => ⟨S4096x6144, .f32⟩
  | .hbm, ⟨90, _⟩ => ⟨S4096x6144, .bf16⟩
  | .hbm, ⟨91, _⟩ => ⟨S_, .f32⟩
  | .hbm, ⟨92, _⟩ => ⟨S5x2048, .f32⟩
  | .hbm, ⟨93, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]
-- ==== Kernel2.lean ====
abbrev S4096x16x192 : Shape := ⟨3, ![4096, 16, 192]⟩
abbrev S4096x16x256 : Shape := ⟨3, ![4096, 16, 256]⟩
abbrev S4096x64 : Shape := ⟨2, ![4096, 64]⟩
abbrev S4096x16x128 : Shape := ⟨3, ![4096, 16, 128]⟩
abbrev S4096x32 : Shape := ⟨2, ![4096, 32]⟩
abbrev S4096x16x64 : Shape := ⟨3, ![4096, 16, 64]⟩
abbrev S4096x1x32 : Shape := ⟨3, ![4096, 1, 32]⟩
abbrev S4096x16x32 : Shape := ⟨3, ![4096, 16, 32]⟩
abbrev S4096x1x64 : Shape := ⟨3, ![4096, 1, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S4096x16x1 : Shape := ⟨3, ![4096, 16, 1]⟩
abbrev S4096x128 : Shape := ⟨2, ![4096, 128]⟩
abbrev S4096x2048 : Shape := ⟨2, ![4096, 2048]⟩
abbrev S4096x256 : Shape := ⟨2, ![4096, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 93
  | .vmem => 22
  | .smem => 0
  | _ => 0

abbrev bufTy : (tb : Table) → Fin (tcTables nBuf tb) → BufTy
  | .hbm, ⟨0, _⟩ => ⟨S4096x16x192, .f32⟩
  | .hbm, ⟨1, _⟩ => ⟨S4096x16x256, .f32⟩
  | .hbm, ⟨2, _⟩ => ⟨S4096x64, .f32⟩
  | .hbm, ⟨3, _⟩ => ⟨S4096x16x128, .f32⟩
  | .hbm, ⟨4, _⟩ => ⟨S4096x32, .f32⟩
  | .hbm, ⟨5, _⟩ => ⟨S4096x32, .f32⟩
  | .hbm, ⟨6, _⟩ => ⟨S4096x16x128, .f32⟩
  | .hbm, ⟨7, _⟩ => ⟨S4096x16x64, .f32⟩
  | .hbm, ⟨8, _⟩ => ⟨S4096x1x32, .f32⟩
  | .hbm, ⟨9, _⟩ => ⟨S4096x1x32, .f32⟩
  | .hbm, ⟨10, _⟩ => ⟨S4096x16x32, .f32⟩
  | .hbm, ⟨11, _⟩ => ⟨S4096x16x32, .f32⟩
  | .hbm, ⟨12, _⟩ => ⟨S4096x16x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x64, .f32⟩
  | .hbm, ⟨23, _⟩ => ⟨S4096x16x128, .f32⟩
  | .hbm, ⟨24, _⟩ => ⟨S4096x16x128, .f32⟩
  | .hbm, ⟨25, _⟩ => ⟨S4096x1x64, .f32⟩
  | .hbm, ⟨26, _⟩ => ⟨S4096x16x64, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S_, .f32⟩
  | .hbm, ⟨32, _⟩ => ⟨S16x4096x4096, .f32⟩
  | .hbm, ⟨33, _⟩ => ⟨S16x4096x4096, .f32⟩
  | .hbm, ⟨34, _⟩ => ⟨S4096, .i32⟩
  | .hbm, ⟨35, _⟩ => ⟨S1x4096, .i32⟩
  | .hbm, ⟨36, _⟩ => ⟨S4096x1, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S_, .f32⟩
  | .hbm, ⟨41, _⟩ => ⟨S_, .f32⟩
  | .hbm, ⟨42, _⟩ => ⟨S16x4096x4096, .i1⟩
  | .hbm, ⟨43, _⟩ => ⟨S16x4096x4096, .f32⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S16x4096x4096, .f32⟩
  | .hbm, ⟨55, _⟩ => ⟨S16x4096x4096, .f32⟩
  | .hbm, ⟨56, _⟩ => ⟨S16x128x4096, .f32⟩
  | .hbm, ⟨57, _⟩ => ⟨S4096x16x128, .f32⟩
  | .hbm, ⟨58, _⟩ => ⟨S16x4096x1, .f32⟩
  | .hbm, ⟨59, _⟩ => ⟨S16x4096x1, .f32⟩
  | .hbm, ⟨60, _⟩ => ⟨S_, .f32⟩
  | .hbm, ⟨61, _⟩ => ⟨S_, .f32⟩
  | .hbm, ⟨62, _⟩ => ⟨S16x4096x1, .f32⟩
  | .hbm, ⟨63, _⟩ => ⟨S16x4096x1, .f32⟩
  | .hbm, ⟨64, _⟩ => ⟨S4096x16x1, .f32⟩
  | .hbm, ⟨65, _⟩ => ⟨S_, .f32⟩
  | .hbm, ⟨66, _⟩ => ⟨S4096x32, .f32⟩
  | .hbm, ⟨67, _⟩ => ⟨S_, .f32⟩
  | .hbm, ⟨68, _⟩ => ⟨S4096x64, .f32⟩
  | .hbm, ⟨69, _⟩ => ⟨S4096x128, .f32⟩
  | .hbm, ⟨70, _⟩ => ⟨S4096x32, .f32⟩
  | .hbm, ⟨71, _⟩ => ⟨S4096x128, .f32⟩
  | .hbm, ⟨72, _⟩ => ⟨S4096x128, .f32⟩
  | .hbm, ⟨73, _⟩ => ⟨S_, .f32⟩
  | .hbm, ⟨74, _⟩ => ⟨S4096x16x64, .f32⟩
  | .hbm, ⟨75, _⟩ => ⟨S4096x16x256, .f32⟩
  | .hbm, ⟨76, _⟩ => ⟨S4096x4096, .f32⟩
  | .hbm, ⟨77, _⟩ => ⟨S4096x4096, .bf16⟩
  | .hbm, ⟨78, _⟩ => ⟨S4096x4096, .f32⟩
  | .hbm, ⟨79, _⟩ => ⟨S4096x4096, .bf16⟩
  | .hbm, ⟨80, _⟩ => ⟨S4096x128, .f32⟩
  | .hbm, ⟨81, _⟩ => ⟨S4096x128, .bf16⟩
  | .hbm, ⟨82, _⟩ => ⟨S4096x2048, .f32⟩
  | .hbm, ⟨83, _⟩ => ⟨S4096x2048, .bf16⟩
  | .hbm, ⟨84, _⟩ => ⟨S4096x16x128, .f32⟩
  | .hbm, ⟨85, _⟩ => ⟨S4096x2048, .f32⟩
  | .hbm, ⟨86, _⟩ => ⟨S4096x2048, .f32⟩
  | .hbm, ⟨87, _⟩ => ⟨S4096x2048, .bf16⟩
  | .hbm, ⟨88, _⟩ => ⟨S4096x128, .f32⟩
  | .hbm, ⟨89, _⟩ => ⟨S4096x128, .f32⟩
  | .hbm, ⟨90, _⟩ => ⟨S4096x4096, .bf16⟩
  | .hbm, ⟨91, _⟩ => ⟨S4096x2048, .f32⟩
  | .hbm, ⟨92, _⟩ => ⟨S4096x4096, .bf16⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S512x256, .bf16⟩
  | .local _ .vmem, ⟨16, _⟩ => ⟨S512x256, .bf16⟩
  | .local _ .vmem, ⟨17, _⟩ => ⟨S512x128, .f32⟩
  | .local _ .vmem, ⟨18, _⟩ => ⟨S512x128, .f32⟩
  | .local _ .vmem, ⟨19, _⟩ => ⟨S4096x256, .bf16⟩
  | .local _ .vmem, ⟨20, _⟩ => ⟨S4096x256, .bf16⟩
  | .local _ .vmem, ⟨21, _⟩ => ⟨S4096x256, .f32⟩
  | _, _ => ⟨S4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73_0 : Ref sig .tc := ⟨.hbm, 90, rfl⟩
abbrev main_v73_1 : Ref sig .tc := ⟨.hbm, 91, rfl⟩
abbrev main_v73_2 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_6 : Index := 0#32
  ![v14.toNat, 0]
def k0_off2 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v17 : Index := Scalar.indexCast v13
  let c0_7 : Index := 0#32
  ![v17.toNat, 0]
def k0_off3 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v31 : Index := Scalar.indexCast v13
  let c0_12 : Index := 0#32
  ![v31.toNat, 0]
@[reducible] def k0_t1_loop (i : grid0.Coords) : Scf.Loop 32 :=
  let arg1 : BitVec 32 := BitVec.ofNat 32 (i 1).val
  let c1_i32 : BitVec 32 := 1#32
  let v64 : BitVec 32 := Scalar.addi arg1 c1_i32
  let c8_i32 : BitVec 32 := 8#32
  let v65 : BitVec 32 := Scalar.subi c8_i32 v64
  let c1_i32_22 : BitVec 32 := 1#32
  let v67 : BitVec 32 := Scalar.divsi v65 c1_i32_22
  let v68 : BitVec 32 := Scalar.muli v67 c1_i32_22
  let v69 : BitVec 32 := Scalar.addi v64 v68
  let c1_i32_23 : BitVec 32 := 1#32
  ⟨v64, v69, c1_i32_23⟩
def k0_mult2 (i : grid0.Coords) (k0_t1 : Fin (k0_t1_loop i).trips) : BitVec 32 :=
  let arg1 : BitVec 32 := BitVec.ofNat 32 (i 1).val
  let c1_i32 : BitVec 32 := 1#32
  let v64 : BitVec 32 := Scalar.addi arg1 c1_i32
  let c1_i32_23 : BitVec 32 := 1#32
  let arg15 : BitVec 32 := Scf.iv v64 c1_i32_23 k0_t1
  let c512_i32_32 : BitVec 32 := 512#32
  let v82 : BitVec 32 := Scalar.muli arg15 c512_i32_32
  v82
def k0_off4 (i : grid0.Coords) (k0_t1 : Fin (k0_t1_loop i).trips) : Fin 2 → Nat :=
  let arg1 : BitVec 32 := BitVec.ofNat 32 (i 1).val
  let c1_i32 : BitVec 32 := 1#32
  let v64 : BitVec 32 := Scalar.addi arg1 c1_i32
  let c1_i32_23 : BitVec 32 := 1#32
  let arg15 : BitVec 32 := Scf.iv v64 c1_i32_23 k0_t1
  let c512_i32_32 : BitVec 32 := 512#32
  let v82 : BitVec 32 := Scalar.muli arg15 c512_i32_32
  let v83 : BitVec 32 := v82
  let v84 : Index := Scalar.indexCast v83
  let c0_33 : Index := 0#32
  ![v84.toNat, 0]
def k0_off5 (i : grid0.Coords) (k0_t1 : Fin (k0_t1_loop i).trips) : Fin 2 → Nat :=
  let arg1 : BitVec 32 := BitVec.ofNat 32 (i 1).val
  let c1_i32 : BitVec 32 := 1#32
  let v64 : BitVec 32 := Scalar.addi arg1 c1_i32
  let c1_i32_23 : BitVec 32 := 1#32
  let arg15 : BitVec 32 := Scf.iv v64 c1_i32_23 k0_t1
  let c512_i32_32 : BitVec 32 := 512#32
  let v82 : BitVec 32 := Scalar.muli arg15 c512_i32_32
  let v83 : BitVec 32 := v82
  let v87 : Index := Scalar.indexCast v83
  let c0_34 : Index := 0#32
  ![v87.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v64 : BitVec 32 := Scalar.addi arg1 c1_i32
  let c1_i32_23 : BitVec 32 := 1#32
  let arg15 : BitVec 32 := Scf.iv v64 c1_i32_23 k0_t1
  let c512_i32_32 : BitVec 32 := 512#32
  let v82 : BitVec 32 := Scalar.muli arg15 c512_i32_32
  let v83 : BitVec 32 := v82
  let v101 : Index := Scalar.indexCast v83
  let c0_39 : Index := 0#32
  ![v101.toNat, 0]
@[reducible] def k0_t2_loop (i : grid0.Coords) : Scf.Loop 32 :=
  let arg1 : BitVec 32 := BitVec.ofNat 32 (i 1).val
  let c1_i32 : BitVec 32 := 1#32
  let v64 : BitVec 32 := Scalar.addi arg1 c1_i32
  let c8_i32 : BitVec 32 := 8#32
  let v65 : BitVec 32 := Scalar.subi c8_i32 v64
  let c1_i32_22 : BitVec 32 := 1#32
  let v67 : BitVec 32 := Scalar.divsi v65 c1_i32_22
  let v68 : BitVec 32 := Scalar.muli v67 c1_i32_22
  let v69 : BitVec 32 := Scalar.addi v64 v68
  let v66 : BitVec 32 := Scalar.addi v64 v65
  let c1_i32_24 : BitVec 32 := 1#32
  ⟨v69, v66, c1_i32_24⟩
def k0_mult3 (i : grid0.Coords) (k0_t2 : Fin (k0_t2_loop i).trips) : BitVec 32 :=
  let arg1 : BitVec 32 := BitVec.ofNat 32 (i 1).val
  let c1_i32 : BitVec 32 := 1#32
  let v64 : BitVec 32 := Scalar.addi arg1 c1_i32
  let c8_i32 : BitVec 32 := 8#32
  let v65 : BitVec 32 := Scalar.subi c8_i32 v64
  let c1_i32_22 : BitVec 32 := 1#32
  let v67 : BitVec 32 := Scalar.divsi v65 c1_i32_22
  let v68 : BitVec 32 := Scalar.muli v67 c1_i32_22
  let v69 : BitVec 32 := Scalar.addi v64 v68
  let c1_i32_24 : BitVec 32 := 1#32
  let arg15 : BitVec 32 := Scf.iv v69 c1_i32_24 k0_t2
  let c512_i32_32 : BitVec 32 := 512#32
  let v82 : BitVec 32 := Scalar.muli arg15 c512_i32_32
  v82
def k0_off7 (i : grid0.Coords) (k0_t2 : Fin (k0_t2_loop i).trips) : Fin 2 → Nat :=
  let arg1 : BitVec 32 := BitVec.ofNat 32 (i 1).val
  let c1_i32 : BitVec 32 := 1#32
  let v64 : BitVec 32 := Scalar.addi arg1 c1_i32
  let c8_i32 : BitVec 32 := 8#32
  let v65 : BitVec 32 := Scalar.subi c8_i32 v64
  let c1_i32_22 : BitVec 32 := 1#32
  let v67 : BitVec 32 := Scalar.divsi v65 c1_i32_22
  let v68 : BitVec 32 := Scalar.muli v67 c1_i32_22
  let v69 : BitVec 32 := Scalar.addi v64 v68
  let c1_i32_24 : BitVec 32 := 1#32
  let arg15 : BitVec 32 := Scf.iv v69 c1_i32_24 k0_t2
  let c512_i32_32 : BitVec 32 := 512#32
  let v82 : BitVec 32 := Scalar.muli arg15 c512_i32_32
  let v83 : BitVec 32 := v82
  let v84 : Index := Scalar.indexCast v83
  let c0_33 : Index := 0#32
  ![v84.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v64 : BitVec 32 := Scalar.addi arg1 c1_i32
  let c8_i32 : BitVec 32 := 8#32
  let v65 : BitVec 32 := Scalar.subi c8_i32 v64
  let c1_i32_22 : BitVec 32 := 1#32
  let v67 : BitVec 32 := Scalar.divsi v65 c1_i32_22
  let v68 : BitVec 32 := Scalar.muli v67 c1_i32_22
  let v69 : BitVec 32 := Scalar.addi v64 v68
  let c1_i32_24 : BitVec 32 := 1#32
  let arg15 : BitVec 32 := Scf.iv v69 c1_i32_24 k0_t2
  let c512_i32_32 : BitVec 32 := 512#32
  let v82 : BitVec 32 := Scalar.muli arg15 c512_i32_32
  let v83 : BitVec 32 := v82
  let v87 : Index := Scalar.indexCast v83
  let c0_34 : Index := 0#32
  ![v87.toNat, 0]
def k0_off9 (i : grid0.Coords) (k0_t2 : Fin (k0_t2_loop i).trips) : Fin 2 → Nat :=
  let arg1 : BitVec 32 := BitVec.ofNat 32 (i 1).val
  let c1_i32 : BitVec 32 := 1#32
  let v64 : BitVec 32 := Scalar.addi arg1 c1_i32
  let c8_i32 : BitVec 32 := 8#32
  let v65 : BitVec 32 := Scalar.subi c8_i32 v64
  let c1_i32_22 : BitVec 32 := 1#32
  let v67 : BitVec 32 := Scalar.divsi v65 c1_i32_22
  let v68 : BitVec 32 := Scalar.muli v67 c1_i32_22
  let v69 : BitVec 32 := Scalar.addi v64 v68
  let c1_i32_24 : BitVec 32 := 1#32
  let arg15 : BitVec 32 := Scf.iv v69 c1_i32_24 k0_t2
  let c512_i32_32 : BitVec 32 := 512#32
  let v82 : BitVec 32 := Scalar.muli arg15 c512_i32_32
  let v83 : BitVec 32 := v82
  let v101 : Index := Scalar.indexCast v83
  let c0_39 : Index := 0#32
  ![v101.toNat, 0]
def k0_cond2 (i : grid0.Coords) : BitVec 1 :=
  let arg1 : BitVec 32 := BitVec.ofNat 32 (i 1).val
  let c7_i32 : BitVec 32 := 7#32
  let v79 : BitVec 1 := Scalar.cmpi .eq arg1 c7_i32
  let v80 : BitVec 32 := Scalar.extui v79
  let c0_i32_31 : BitVec 32 := 0#32
  let v81 : BitVec 1 := Scalar.cmpi .ne v80 c0_i32_31
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Kernel2Ideal.lean ====
variable {F : FTy → Type} [FloatOps F] [Named F]
def κ : String → Option EReal := fun
  | "scale" => some (((Real.sqrt 192)⁻¹ : ℝ) : EReal)
  | "scale2" => some (((Real.sqrt 192)⁻¹ * (Real.log 2)⁻¹ : ℝ) : EReal)
  | _ => none
-- ==== Reference2Ideal.lean ====
abbrev S4096x16x192 : Shape := ⟨3, ![4096, 16, 192]⟩
abbrev S4096x16x256 : Shape := ⟨3, ![4096, 16, 256]⟩
abbrev S4096x64 : Shape := ⟨2, ![4096, 64]⟩
abbrev S4096x16x128 : Shape := ⟨3, ![4096, 16, 128]⟩
abbrev S4096x32 : Shape := ⟨2, ![4096, 32]⟩
abbrev S4096x1x64 : Shape := ⟨3, ![4096, 1, 64]⟩
abbrev S4096x16x64 : Shape := ⟨3, ![4096, 16, 64]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x64 : Shape := ⟨3, ![16, 4096, 64]⟩
abbrev S16x4096x128 : Shape := ⟨3, ![16, 4096, 128]⟩
abbrev S4096x2048 : Shape := ⟨2, ![4096, 2048]⟩

abbrev nBuf : Space → Nat
  | .hbm => 157
  | .vmem => 0
  | .smem => 0
  | _ => 0

abbrev hbmTy0_0 (i : Nat) : BufTy := match i % 128 with
  | 0 => ⟨S4096x16x192, .f32⟩
  | 1 => ⟨S4096x16x256, .f32⟩
  | 2 => ⟨S4096x64, .f32⟩
  | 3 => ⟨S4096x16x128, .f32⟩
  | 4 => ⟨S4096x32, .f32⟩
  | 5 => ⟨S4096x32, .f32⟩
  | 6 => ⟨S4096x1x64, .f32⟩
  | 7 => ⟨S4096x16x64, .f32⟩
  | 8 => ⟨S4096x16x64, .f32⟩
  | 9 => ⟨S4096x1x32, .f32⟩
  | 10 => ⟨S4096x1x32, .f32⟩
  | 11 => ⟨S4096x16x32, .f32⟩
  | 12 => ⟨S4096x16x32, .f32⟩
  | 13 => ⟨S4096x16x32, .f32⟩
  | 14 => ⟨S4096x16x32, .f32⟩
  | 15 => ⟨S4096x16x32, .f32⟩
  | 16 => ⟨S4096x16x32, .f32⟩
  | 17 => ⟨S4096x16x32, .f32⟩
  | 18 => ⟨S4096x16x32, .f32⟩
  | 19 => ⟨S4096x16x32, .f32⟩
  | 20 => ⟨S4096x16x32, .f32⟩
  | 21 => ⟨S4096x16x32, .f32⟩
  | 22 => ⟨S4096x16x32, .f32⟩
  | 23 => ⟨S4096x16x64, .f32⟩
  | 24 => ⟨S4096x16x128, .f32⟩
  | 25 => ⟨S4096x16x128, .f32⟩
  | 26 => ⟨S4096x16x128, .f32⟩
  | 27 => ⟨S16x4096x4096, .f32⟩
  | 28 => ⟨S16x4096x4096, .f32⟩
  | 29 => ⟨S16x4096x4096, .f32⟩
  | 30 => ⟨S_, .f32⟩
  | 31 => ⟨S_, .f32⟩
  | 32 => ⟨S16x4096x4096, .f32⟩
  | 33 => ⟨S16x4096x4096, .f32⟩
  | 34 => ⟨S4096, .i32⟩
  | 35 => ⟨S1x4096, .i32⟩
  | 36 => ⟨S4096x1, .i32⟩
  | 37 => ⟨S4096x4096, .i32⟩
  | 38 => ⟨S4096x4096, .i32⟩
  | 39 => ⟨S4096x4096, .i1⟩
  | 40 => ⟨S_, .f32⟩
  | 41 => ⟨S_, .f32⟩
  | 42 => ⟨S16x4096x4096, .i1⟩
  | 43 => ⟨S16x4096x4096, .f32⟩
  | 44 => ⟨S16x4096x4096, .f32⟩
  | 45 => ⟨S_, .f32⟩
  | 46 => ⟨S16x4096x4096, .f32⟩
  | 47 => ⟨S_, .f32⟩
  | 48 => ⟨S16x4096, .f32⟩
  | 49 => ⟨S16x4096x1, .f32⟩
  | 50 => ⟨S16x4096x4096, .f32⟩
  | 51 => ⟨S16x4096x4096, .i1⟩
  | 52 => ⟨S16x4096x4096, .f32⟩
  | 53 => ⟨S_, .f32⟩
  | 54 => ⟨S16x4096, .f32⟩
  | 55 => ⟨S_, .f32⟩
  | 56 => ⟨S16x4096, .f32⟩
  | 57 => ⟨S16x4096, .f32⟩
  | 58 => ⟨S_, .f32⟩
  | 59 => ⟨S16x4096, .f32⟩
  | 60 => ⟨S16x4096, .i1⟩
  | 61 => ⟨S_, .f32⟩
  | 62 => ⟨S16x4096, .f32⟩
  | 63 => ⟨S16x4096, .i1⟩
  | 64 => ⟨S_, .f32⟩
  | 65 => ⟨S16x4096, .f32⟩
  | 66 => ⟨S_, .f32⟩
  | 67 => ⟨S16x4096, .f32⟩
  | 68 => ⟨S_, .f32⟩
  | 69 => ⟨S16x4096, .f32⟩
  | 70 => ⟨S16x4096, .f32⟩
  | 71 => ⟨S16x4096, .f32⟩
  | 72 => ⟨S16x4096x1, .f32⟩
  | 73 => ⟨S16x4096x4096, .f32⟩
  | 74 => ⟨S16x4096x4096, .f32⟩
  | 75 => ⟨S16x4096x4096, .f32⟩
  | 76 => ⟨S_, .f32⟩
  | 77 => ⟨S16x4096, .f32⟩
  | 78 => ⟨S16x4096x1, .f32⟩
  | 79 => ⟨S16x4096x4096, .f32⟩
  | 80 => ⟨S16x4096x4096, .f32⟩
  | 81 => ⟨S16x4096x1, .f32⟩
  | 82 => ⟨S_, .f32⟩
  | 83 => ⟨S16x4096x1, .f32⟩
  | 84 => ⟨S16x4096x1, .f32⟩
  | 85 => ⟨S16x128x4096, .f32⟩
  | 86 => ⟨S4096x16x128, .f32⟩
  | 87 => ⟨S16x128x4096, .f32⟩
  | 88 => ⟨S16x4096x4096, .f32⟩
  | 89 => ⟨S16x128x4096, .f32⟩
  | 90 => ⟨S4096x16x128, .f32⟩
  | 91 => ⟨S16x4096x4096, .f32⟩
  | 92 => ⟨S16x4096x4096, .f32⟩
  | 93 => ⟨S16x4096x4096, .f32⟩
  | 94 => ⟨S_, .f32⟩
  | 95 => ⟨S16x4096, .f32⟩
  | 96 => ⟨S16x4096x1, .f32⟩
  | 97 => ⟨S16x4096x1, .f32⟩
  | 98 => ⟨S16x4096x4096, .f32⟩
  | 99 => ⟨S16x4096x4096, .f32⟩
  | 100 => ⟨S_, .f32⟩
  | 101 => ⟨S16x4096, .f32⟩
  | 102 => ⟨S16x4096x4096, .f32⟩
  | 103 => ⟨S16x4096x4096, .f32⟩
  | 104 => ⟨S16x4096x4096, .f32⟩
  | 105 => ⟨S_, .f32⟩
  | 106 => ⟨S16x4096x4096, .f32⟩
  | 107 => ⟨S16x4096x4096, .f32⟩
  | 108 => ⟨S16x4096x4096, .f32⟩
  | 109 => ⟨S16x4096x4096, .f32⟩
  | 110 => ⟨S16x4096x64, .f32⟩
  | 111 => ⟨S4096x16x64, .f32⟩
  | 112 => ⟨S16x4096x64, .f32⟩
  | 113 => ⟨S4096x16x64, .f32⟩
  | 114 => ⟨S16x4096x128, .f32⟩
  | 115 => ⟨S4096x16x128, .f32⟩
  | 116 => ⟨S16x4096x128, .f32⟩
  | 117 => ⟨S4096x16x128, .f32⟩
  | 118 => ⟨S_, .f32⟩
  | 119 => ⟨S4096x16x192, .f32⟩
  | 120 => ⟨S_, .f32⟩
  | 121 => ⟨S4096x16x256, .f32⟩
  | 122 => ⟨S_, .f32⟩
  | 123 => ⟨S4096x16x256, .f32⟩
  | 124 => ⟨S4096x16x256, .f32⟩
  | 125 => ⟨S4096x16x32, .f32⟩
  | 126 => ⟨S4096x16x32, .f32⟩
  | 127 => ⟨S4096x16x32, .f32⟩
  | _ => ⟨S4096x16x192, .f32⟩

abbrev hbmTy0_1 (i : Nat) : BufTy := match i % 128 with
  | 0 => ⟨S4096x16x32, .f32⟩
  | 1 => ⟨S4096x16x32, .f32⟩
  | 2 => ⟨S4096x16x32, .f32⟩
  | 3 => ⟨S4096x16x32, .f32⟩
  | 4 => ⟨S4096x16x32, .f32⟩
  | 5 => ⟨S4096x16x32, .f32⟩
  | 6 => ⟨S4096x16x32, .f32⟩
  | 7 => ⟨S4096x16x32, .f32⟩
  | 8 => ⟨S4096x16x32, .f32⟩
  | 9 => ⟨S4096x16x32, .f32⟩
  | 10 => ⟨S_, .f32⟩
  | 11 => ⟨S4096x16x64, .f32⟩
  | 12 => ⟨S_, .f32⟩
  | 13 => ⟨S4096x16x64, .f32⟩
  | 14 => ⟨S4096x16x64, .f32⟩
  | 15 => ⟨S_, .f32⟩
  | 16 => ⟨S4096x16x192, .f32⟩
  | 17 => ⟨S4096x16x192, .f32⟩
  | 18 => ⟨S_, .f32⟩
  | 19 => ⟨S4096x16x64, .f32⟩
  | 20 => ⟨S4096x16x256, .f32⟩
  | 21 => ⟨S_, .f32⟩
  | 22 => ⟨S4096x16x64, .f32⟩
  | 23 => ⟨S4096x16x128, .f32⟩
  | 24 => ⟨S4096x4096, .f32⟩
  | 25 => ⟨S4096x4096, .bf16⟩
  | 26 => ⟨S4096x2048, .f32⟩
  | 27 => ⟨S4096x4096, .f32⟩
  | 28 => ⟨S4096x4096, .bf16⟩
  | _ => ⟨S4096x16x192, .f32⟩

abbrev hbmTy (i : Nat) : BufTy := match i / 128 with
  | 0 => hbmTy0_0 i
  | 1 => hbmTy0_1 i
  | _ => ⟨S4096x16x192, .f32⟩

abbrev bufTy : (tb : Table) → Fin (tcTables nBuf tb) → BufTy
  | .hbm, ⟨i, _⟩ => hbmTy i
  | _, _ => ⟨S4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_call0_v0 : Ref sig .tc := ⟨.hbm, 41, rfl⟩
abbrev main_v33_1 : Ref sig .tc := ⟨.hbm, 42, rfl⟩
abbrev main_call0_v2 : Ref sig .tc := ⟨.hbm, 43, rfl⟩
abbrev main_v33_0 : Ref sig .tc := ⟨.hbm, 44, rfl⟩
abbrev main_call0_cst : Ref sig .tc := ⟨.hbm, 45, rfl⟩
abbrev main_v33_2 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_11 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_call1_cst : Ref sig .tc := ⟨.hbm, 105, rfl⟩
abbrev main_call1_v0 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_13 : Ref sig .tc := ⟨.hbm, 118, rfl⟩
abbrev main_v91 : Ref sig .tc := ⟨.hbm, 119, rfl⟩
abbrev main_cst_14 : Ref sig .tc := ⟨.hbm, 120, rfl⟩
abbrev main_v92 : Ref sig .tc := ⟨.hbm, 121, rfl⟩
abbrev main_cst_15 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_16 : Ref sig .tc := ⟨.hbm, 138, rfl⟩
abbrev main_v108 : Ref sig .tc := ⟨.hbm, 139, rfl⟩
abbrev main_cst_17 : Ref sig .tc := ⟨.hbm, 140, rfl⟩
abbrev main_v109 : Ref sig .tc := ⟨.hbm, 141, rfl⟩
abbrev main_v110 : Ref sig .tc := ⟨.hbm, 142, rfl⟩
abbrev main_cst_18 : Ref sig .tc := ⟨.hbm, 143, rfl⟩
abbrev main_v111 : Ref sig .tc := ⟨.hbm, 144, rfl⟩
abbrev main_v112 : Ref sig .tc := ⟨.hbm, 145, rfl⟩
abbrev main_cst_19 : Ref sig .tc := ⟨.hbm, 146, rfl⟩
abbrev main_v113 : Ref sig .tc := ⟨.hbm, 147, rfl⟩
abbrev main_v114 : Ref sig .tc := ⟨.hbm, 148, rfl⟩
abbrev main_cst_20 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩

abbrev nD : Nat := 1
abbrev τ : Topo := Topo.v7x

variable {F : FTy → Type} [FloatOps F]
-- ==== Kernel3.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S4096x2048, .bf16⟩
  | .hbm, ⟨4, _⟩ => ⟨S8192x2048, .bf16⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel4.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x2048, .bf16⟩
  | .hbm, ⟨9, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S4096x2048 : Shape := ⟨2, ![4096, 2048]⟩
abbrev S2048x8192 : Shape := ⟨2, ![2048, 8192]⟩
abbrev S4096x8192 : Shape := ⟨2, ![4096, 8192]⟩
abbrev S2048x8x1024 : Shape := ⟨3, ![2048, 8, 1024]⟩
abbrev S8x2048x1024 : Shape := ⟨3, ![8, 2048, 1024]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x2048, .bf16⟩
  | .hbm, ⟨4, _⟩ => ⟨S4096x8192, .bf16⟩
  | .hbm, ⟨5, _⟩ => ⟨S2048x8x1024, .f32⟩
  | .hbm, ⟨6, _⟩ => ⟨S8x2048x1024, .f32⟩
  | .hbm, ⟨7, _⟩ => ⟨S8x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S2048x8x1024, .f32⟩
  | .hbm, ⟨7, _⟩ => ⟨S8x2048x1024, .f32⟩
  | .hbm, ⟨8, _⟩ => ⟨S8x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2048 : Shape := ⟨2, ![4096, 2048]⟩
abbrev S2048x8192 : Shape := ⟨2, ![2048, 8192]⟩
abbrev S4096x8192 : Shape := ⟨2, ![4096, 8192]⟩
abbrev S2048x8x1024 : Shape := ⟨3, ![2048, 8, 1024]⟩
abbrev S8x2048x1024 : Shape := ⟨3, ![8, 2048, 1024]⟩
abbrev S_ : Shape := ⟨0, ![]⟩
abbrev S8x128 : Shape := ⟨2, ![8, 128]⟩
abbrev S512x8192 : Shape := ⟨2, ![512, 8192]⟩
abbrev S8x512x1024 : Shape := ⟨3, ![8, 512, 1024]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | .hbm, ⟨4, _⟩ => ⟨S2048x8x1024, .f32⟩
  | .hbm, ⟨5, _⟩ => ⟨S8x2048x1024, .f32⟩
  | .hbm, ⟨6, _⟩ => ⟨S8x2048x1024, .bf16⟩
  | .hbm, ⟨7, _⟩ => ⟨S_, .f32⟩
  | .hbm, ⟨8, _⟩ => ⟨S8x128, .f32⟩
  | .hbm, ⟨9, _⟩ => ⟨S4096x2048, .f32⟩
  | .local _ .vmem, ⟨0, _⟩ => ⟨S512x8192, .bf16⟩
  | .local _ .vmem, ⟨1, _⟩ => ⟨S512x8192, .bf16⟩
  | .local _ .vmem, ⟨2, _⟩ => ⟨S8x512x1024, .bf16⟩
  | .local _ .vmem, ⟨3, _⟩ => ⟨S8x512x1024, .bf16⟩
  | .local _ .vmem, ⟨4, _⟩ => ⟨S8x128, .f32⟩
  | .local _ .vmem, ⟨5, _⟩ => ⟨S512x512, .f32⟩
  | .local _ .vmem, ⟨6, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S4096x8192, .f32⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S4096x8192 : Shape := ⟨2, ![4096, 8192]⟩
abbrev S8192x2048 : Shape := ⟨2, ![8192, 2048]⟩
abbrev S_ : Shape := ⟨0, ![]⟩
abbrev S4096x2048 : Shape := ⟨2, ![4096, 2048]⟩
abbrev S512x8192 : Shape := ⟨2, ![512, 8192]⟩
abbrev S8192x512 : Shape := ⟨2, ![8192, 512]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .hbm, ⟨8, _⟩ => ⟨S4096x2048, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x8192 : Shape := ⟨2, ![4096, 8192]⟩
abbrev S8192x2048 : Shape := ⟨2, ![8192, 2048]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S4096x6144 : Shape := ⟨2, ![4096, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x2048, .bf16⟩
  | .hbm, ⟨3, _⟩ => ⟨S2048x8x768, .f32⟩
  | .hbm, ⟨4, _⟩ => ⟨S8x2048x768, .f32⟩
  | .hbm, ⟨5, _⟩ => ⟨S8x2048x768, .bf16⟩
  | .hbm, ⟨6, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x6144, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S4096x2048 : Shape := ⟨2, ![4096, 2048]⟩
abbrev S2048x6144 : Shape := ⟨2, ![2048, 6144]⟩
abbrev S4096x6144 : Shape := ⟨2, ![4096, 6144]⟩
abbrev S8x2048x768 : Shape := ⟨3, ![8, 2048, 768]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x6144, .f32⟩
  | .hbm, ⟨3, _⟩ => ⟨S4096x2048, .bf16⟩
  | .hbm, ⟨4, _⟩ => ⟨S4096x6144, .bf16⟩
  | .hbm, ⟨5, _⟩ => ⟨S8x2048x768, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .bf16⟩
  | .local _ .vmem, ⟨5, _⟩ => ⟨S1x1024x768, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x2048 : Shape := ⟨2, ![4096, 2048]⟩
abbrev S2048x6144 : Shape := ⟨2, ![2048, 6144]⟩
abbrev S4096x6144 : Shape := ⟨2, ![4096, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x6144, .f32⟩
  | .hbm, ⟨3, _⟩ => ⟨S4096x6144, .f32⟩
  | .hbm, ⟨4, _⟩ => ⟨S6144x2048, .f32⟩
  | .hbm, ⟨5, _⟩ => ⟨S2048x6144, .f32⟩
  | .hbm, ⟨6, _⟩ => ⟨S2048x8x768, .f32⟩
  | .hbm, ⟨7, _⟩ => ⟨S8x2048x768, .f32⟩
  | .hbm, ⟨8, _⟩ => ⟨S8x2048x768, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x2048 : Shape := ⟨2, ![4096, 2048]⟩
abbrev S2048x6144 : Shape := ⟨2, ![2048, 6144]⟩
abbrev S4096x6144 : Shape := ⟨2, ![4096, 6144]⟩
abbrev S2048x8x768 : Shape := ⟨3, ![2048, 8, 768]⟩
abbrev S8x2048x768 : Shape := ⟨3, ![8, 2048, 768]⟩
abbrev S_ : Shape := ⟨0, ![]⟩
abbrev S8x128 : Shape := ⟨2, ![8, 128]⟩
abbrev S512x6144 : Shape := ⟨2, ![512, 6144]⟩
abbrev S8x512x768 : Shape := ⟨3, ![8, 512, 768]⟩
abbrev S512x512 : Shape := ⟨2, ![512, 512]⟩
abbrev S512x768 : Shape := ⟨2, ![512, 768]⟩
abbrev S1x512x768 : Shape := ⟨3, ![1, 512, 768]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x6144, .f32⟩
  | .hbm, ⟨3, _⟩ => ⟨S4096x6144, .bf16⟩
  | .hbm, ⟨4, _⟩ => ⟨S2048x8x768, .f32⟩
  | .hbm, ⟨5, _⟩ => ⟨S8x2048x768, .f32⟩
  | .hbm, ⟨6, _⟩ => ⟨S8x2048x768, .bf16⟩
  | .hbm, ⟨7, _⟩ => ⟨S_, .f32⟩
  | .hbm, ⟨8, _⟩ => ⟨S8x128, .f32⟩
  | .hbm, ⟨9, _⟩ => ⟨S4096x2048, .f32⟩
  | .local _ .vmem, ⟨0, _⟩ => ⟨S512x6144, .bf16⟩
  | .local _ .vmem, ⟨1, _⟩ => ⟨S512x6144, .bf16⟩
  | .local _ .vmem, ⟨2, _⟩ => ⟨S8x512x768, .bf16⟩
  | .local _ .vmem, ⟨3, _⟩ => ⟨S8x512x768, .bf16⟩
  | .local _ .vmem, ⟨4, _⟩ => ⟨S8x128, .f32⟩
  | .local _ .vmem, ⟨5, _⟩ => ⟨S512x512, .f32⟩
  | .local _ .vmem, ⟨6, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x6144, .f32⟩
  | .hbm, ⟨3, _⟩ => ⟨S4096x6144, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x512, .bf16⟩
  | .hbm, ⟨3, _⟩ => ⟨S512x4096, .bf16⟩
  | .hbm, ⟨4, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S4096x512 : Shape := ⟨2, ![4096, 512]⟩
abbrev S512x4096 : Shape := ⟨2, ![512, 4096]⟩
abbrev S4096x4096 : Shape := ⟨2, ![4096, 4096]⟩
abbrev S1024x4096 : Shape := ⟨2, ![1024, 4096]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .bf16⟩
  | .hbm, ⟨4, _⟩ => ⟨S512x4096, .bf16⟩
  | .hbm, ⟨5, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S1024x512, .f32⟩
  | .local _ .vmem, ⟨4, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .f32⟩
  | .hbm, ⟨4, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel18.lean ====
abbrev S4096x512 : Shape := ⟨2, ![4096, 512]⟩
abbrev S512x4096 : Shape := ⟨2, ![512, 4096]⟩
abbrev S4096x4096 : Shape := ⟨2, ![4096, 4096]⟩
abbrev S4096x1024 : Shape := ⟨2, ![4096, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x512, .bf16⟩
  | .hbm, ⟨4, _⟩ => ⟨S4096x4096, .bf16⟩
  | .hbm, ⟨5, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .f32⟩
  | .hbm, ⟨4, _⟩ => ⟨S4096x512, .f32⟩
  | .hbm, ⟨5, _⟩ => ⟨S512x4096, .f32⟩
  | .hbm, ⟨6, _⟩ => ⟨S512x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x2048 : Shape := ⟨2, ![4096, 2048]⟩
abbrev S2048x1152 : Shape := ⟨2, ![2048, 1152]⟩
abbrev S4096x1152 : Shape := ⟨2, ![4096, 1152]⟩
abbrev S1024x2048 : Shape := ⟨2, ![1024, 2048]⟩
abbrev S2048x384 : Shape := ⟨2, ![2048, 384]⟩
abbrev S1024x384 : Shape := ⟨2, ![1024, 384]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x1152, .f32⟩
  | .hbm, ⟨2, _⟩ => ⟨S4096x2048, .bf16⟩
  | .hbm, ⟨3, _⟩ => ⟨S2048x1152, .bf16⟩
  | .hbm, ⟨4, _⟩ => ⟨S4096x1152, .f32⟩
  | .local _ .vmem, ⟨0, _⟩ => ⟨S1024x2048, .bf16⟩
  | .local _ .vmem, ⟨1, _⟩ => ⟨S1024x2048, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .f32⟩
  | .local _ .vmem, ⟨5, _⟩ => ⟨S1024x384, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x2048 : Shape := ⟨2, ![4096, 2048]⟩
abbrev S2048x1152 : Shape := ⟨2, ![2048, 1152]⟩
abbrev S4096x1152 : Shape := ⟨2, ![4096, 1152]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1152, .f32⟩
  | .hbm, ⟨2, _⟩ => ⟨S4096x1152, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S4096x2048 : Shape := ⟨2, ![4096, 2048]⟩
abbrev S2048x1152 : Shape := ⟨2, ![2048, 1152]⟩
abbrev S4096x1152 : Shape := ⟨2, ![4096, 1152]⟩
abbrev S4096x1024 : Shape := ⟨2, ![4096, 1024]⟩
abbrev S4096x384 : Shape := ⟨2, ![4096, 384]⟩
abbrev S1024x384 : Shape := ⟨2, ![1024, 384]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x1152, .f32⟩
  | .hbm, ⟨2, _⟩ => ⟨S4096x1152, .f32⟩
  | .hbm, ⟨3, _⟩ => ⟨S4096x2048, .bf16⟩
  | .hbm, ⟨4, _⟩ => ⟨S4096x1152, .bf16⟩
  | .hbm, ⟨5, _⟩ => ⟨S2048x1152, .bf16⟩
  | .local _ .vmem, ⟨0, _⟩ => ⟨S4096x1024, .bf16⟩
  | .local _ .vmem, ⟨1, _⟩ => ⟨S4096x1024, .bf16⟩
  | .local _ .vmem, ⟨2, _⟩ => ⟨S4096x384, .bf16⟩
  | .local _ .vmem, ⟨3, _⟩ => ⟨S4096x384, .bf16⟩
  | .local _ .vmem, ⟨4, _⟩ => ⟨S1024x384, .bf16⟩
  | .local _ .vmem, ⟨5, _⟩ => ⟨S1024x384, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x2048 : Shape := ⟨2, ![4096, 2048]⟩
abbrev S2048x1152 : Shape := ⟨2, ![2048, 1152]⟩
abbrev S4096x1152 : Shape := ⟨2, ![4096, 1152]⟩
abbrev S1152x2048 : Shape := ⟨2, ![1152, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1152, .f32⟩
  | .hbm, ⟨2, _⟩ => ⟨S4096x1152, .f32⟩
  | .hbm, ⟨3, _⟩ => ⟨S4096x1152, .f32⟩
  | .hbm, ⟨4, _⟩ => ⟨S1152x2048, .f32⟩
  | .hbm, ⟨5, _⟩ => ⟨S2048x1152, .f32⟩
  | .hbm, ⟨6, _⟩ => ⟨S2048x1152, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4096x2048 : Shape := ⟨2, ![4096, 2048]⟩
abbrev S2048x1152 : Shape := ⟨2, ![2048, 1152]⟩
abbrev S4096x1152 : Shape := ⟨2, ![4096, 1152]⟩
abbrev S_ : Shape := ⟨0, ![]⟩
abbrev S8x128 : Shape := ⟨2, ![8, 128]⟩
abbrev S1024x1152 : Shape := ⟨2, ![1024, 1152]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x1152, .f32⟩
  | .hbm, ⟨2, _⟩ => ⟨S4096x1152, .f32⟩
  | .hbm, ⟨3, _⟩ => ⟨S4096x1152, .bf16⟩
  | .hbm, ⟨4, _⟩ => ⟨S2048x1152, .bf16⟩
  | .hbm, ⟨5, _⟩ => ⟨S_, .f32⟩
  | .hbm, ⟨6, _⟩ => ⟨S8x128, .f32⟩
  | .hbm, ⟨7, _⟩ => ⟨S4096x2048, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S4096x2048 : Shape := ⟨2, ![4096, 2048]⟩
abbrev S2048x1152 : Shape := ⟨2, ![2048, 1152]⟩
abbrev S4096x1152 : Shape := ⟨2, ![4096, 1152]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1152, .f32⟩
  | .hbm, ⟨2, _⟩ => ⟨S4096x1152, .f32⟩
  | .hbm, ⟨3, _⟩ => ⟨S4096x1152, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.ConvBody.lean ====
/-
  The backward pass of the gated causal convolution, one block of 128 channels at one grid point, at any
  number system.  What the body leaves in the gradient's staging buffer (a different third of it at each of
  the three steps of a channel block) and in the buffer of the three tap gradients (written at the first step
  only) is named by the payloads of the printed body.
-/
module

public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.Value
public import Idealize.ShloMosaic.Lib.Pipeline.TableIdle
public import Idealize.ShloMosaic.Lib.Claim
public import Idealize.ShloMosaic.Lib.Tactic

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves -/

/-- Row `0` of the block of convolution weights. -/
abbrev tap0 (w : Vec F S8x128 .f32) : Vec F S1x128 .f32 :=
  View.ld w (Rect.unit (s := S8x128) ![0, 0] S1x128.size inb_S8x128_S1x128_0_0)
/-- Row `1` of it. -/
abbrev tap1 (w : Vec F S8x128 .f32) : Vec F S1x128 .f32 :=
  View.ld w (Rect.unit (s := S8x128) ![1, 0] S1x128.size inb_S8x128_S1x128_1_0)
/-- Row `2` of it. -/
abbrev tap2 (w : Vec F S8x128 .f32) : Vec F S1x128 .f32 :=
  View.ld w (Rect.unit (s := S8x128) ![2, 0] S1x128.size inb_S8x128_S1x128_2_0)

/-- The first step's block of the gradient: that of the outer gate. -/
def gradGate (g c u : Vec F S4096x128 .f32) (w : Vec F S8x128 .f32) : Vec F S4096x128 .bf16 :=
  k0_pay10 (k0_pay1 (tap0 w)) (k0_pay2 (tap1 w)) (k0_pay3 (tap2 w)) c u g

/-- A later step's block: that of the inner gate (step 1) or of the gated value (step 2). -/
def gradInner (i : grid0.Coords) (g b c u : Vec F S4096x128 .f32) (w : Vec F S8x128 .f32) : Vec F S4096x128 .bf16 :=
  k0_pay6 i (tap0 w) (tap1 w) (tap2 w) g b u c

/-- The block of the taps' gradients: three rows of sums over the tokens, the other rows zero. -/
def gradTaps (g b c u : Vec F S4096x128 .f32) : Vec F S8x128 .f32 :=
  View.canon (Val := Elt F) (e := .f32)
    [⟨Rect.unit (s := S8x128) ![2, 0] S1x128.size inb_S8x128_S1x128_2_0, k0_pay5 (k0_pay7 c u) (k0_pay11 g b)⟩,
     ⟨Rect.unit (s := S8x128) ![1, 0] S1x128.size inb_S8x128_S1x128_1_0, k0_pay4 (k0_pay8 c u) (k0_pay11 g b)⟩,
     ⟨Rect.unit (s := S8x128) ![0, 0] S1x128.size inb_S8x128_S1x128_0_0, k0_pay13 c u g b⟩,
     ⟨Rect.unit (s := S8x128) ![0, 0] S8x128.size inb_S8x128_S8x128_0_0, k0_pay12⟩]

/-- The zero offsets. -/
theorem hz : (![0, 0] : Fin 2 → Nat) = fun _ => 0 := funext fun a => by fin_cases a <;> rfl

/-! ## The two runs of the body -/

/-- The body's first branch is taken at the first step of a channel block. -/
abbrev first (i : grid0.Coords) : Prop := k0_cond1 i = 1#1
/-- Its second branch is taken at the two later steps. -/
abbrev later (i : grid0.Coords) : Prop := k0_cond2 i = 1#1

set_option maxHeartbeats 1000000 in
/-- The body at the first step of a channel block. -/
theorem run_first (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S4096x128 .bf16) (harg7 : arg7.IsWhole) (arg8 : Memref sig .tc .vmem S8x128 .f32) (harg8 : arg8.IsWhole) (hc0 : first i) (hc1 : ¬later i)
    (x0 x1 x2 x3 : Vec F S4096x128 .f32) (x4 : Vec F S8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (gradGate x0 x2 x3 x4) ∗ owns (c : Thread nD τ) arg8 fullShare (gradTaps x0 x1 x2 x3)) -∗ K ⟨⟩))
          ⊢ wp frame (wpE (defs₀ (F := F)) Variants.none c none) E (cc0_conv_mix_bwd i arg2 harg2 arg3 harg3 arg4 harg4 arg5 harg5 arg6 harg6 arg7 harg7 arg8 harg8) K := by
    intro E K
    simp only [cc0_conv_mix_bwd_eq_skeleton]; unfold cc0_conv_mix_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [View.read_writes_eq_canon _ _ _ (fun y => ⟨_, List.mem_singleton_self _, View.mem_set_unit_zero hz inb_S4096x128_S4096x128_0_0 y⟩), View.canon_unit_zero hz]
      unfold gradGate
      simp only [View.readAt_eq_ld, harg2.read_unread, harg3.read_unread, harg4.read_unread, harg5.read_unread, harg6.read_unread, View.ld_unit_zero (S := S4096x128) hz]
      done
    iexists _; isplitr; swap; · iexact H6
    ipureintro
    rw [View.read_writes_eq_canon _ _ _ (fun y => ⟨_, by simp only [List.mem_cons]; exact .inr (.inr (.inr (.inl rfl))), View.mem_set_unit_zero hz inb_S8x128_S8x128_0_0 y⟩)]
    unfold gradTaps
    sl_unfold_words
    simp only [View.readAt_eq_ld, harg2.read_unread, harg3.read_unread, harg4.read_unread, harg5.read_unread, harg6.read_unread, View.ld_unit_zero (S := S4096x128) hz]
    done

set_option maxHeartbeats 1000000 in
/-- The body at a later step: the taps' buffer is left as found. -/
theorem run_later (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S8x128 .f32) (harg6 : arg6.IsWhole) (arg7 : Memref sig .tc .vmem S4096x128 .bf16) (harg7 : arg7.IsWhole) (arg8 : Memref sig .tc .vmem S8x128 .f32) (harg8 : arg8.IsWhole) (hc0 : ¬first i) (hc1 : later i)
    (x0 x1 x2 x3 : Vec F S4096x128 .f32) (x4 : Vec F S8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (gradInner i x0 x1 x2 x3 x4)) -∗ K ⟨⟩))
          ⊢ wp frame (wpE (defs₀ (F := F)) Variants.none c none) E (cc0_conv_mix_bwd i arg2 harg2 arg3 harg3 arg4 harg4 arg5 harg5 arg6 harg6 arg7 harg7 arg8 harg8) K := by
    intro E K
    simp only [cc0_conv_mix_bwd_eq_skeleton]; unfold cc0_conv_mix_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; swap; · iexact H5
    ipureintro
    rw [View.read_writes_eq_canon _ _ _ (fun y => ⟨_, List.mem_singleton_self _, View.mem_set_unit_zero hz inb_S4096x128_S4096x128_0_0 y⟩), View.canon_unit_zero hz]
    unfold gradInner
    simp only [View.readAt_eq_ld, harg2.read_unread, harg3.read_unread, harg4.read_unread, harg5.read_unread, harg6.read_unread, View.ld_unit_zero (S := S4096x128) hz]
    done

end Cert.Conv

end
-- ==== Proof.ConvRun.lean ====
/-
  The run of the convolution's backward pass over its grid of 16 channel blocks by 3 steps: what each staging
  buffer holds after each point, the body's obligation at a generic point, the run, and the frame with every
  counter at zero.
-/
module

public import proofs.«01_k».proof.Proof.ConvBody

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The steps of a channel block, in closed form over the points -/

/-- The first step comes at every third point. -/
theorem first_iff : ∀ t : Fin cfg0.N, first (grid0.coords t) ↔ t.val % 3 = 0 :=
  (fun t => by
    have ht : t.val < 48 := Nat.lt_of_lt_of_eq t.isLt N_0
    have e1 : (grid0.coords t 1).val = t.val / 1 % 3 := Pipeline.Grid.coords_val t 1 (by decide) rfl
    simp only [first, k0_cond1, e1]
    word_cmp
   : ∀ t : Fin grid0.N, first (grid0.coords t) ↔ t.val % 3 = 0)

/-- The other two are the later steps. -/
theorem later_iff : ∀ t : Fin cfg0.N, later (grid0.coords t) ↔ 1 ≤ t.val % 3 :=
  (by decide +kernel : ∀ t : Fin grid0.N, later (grid0.coords t) ↔ 1 ≤ t.val % 3)

/-- The window of the gradient is in use at such a point. -/
theorem live0 (t : Fin cfg0.N) : cfg0.idle 0 (grid0.coords t) = false := rfl
/-- The window of the first projection is in use at such a point. -/
theorem live1 (t : Fin cfg0.N) : cfg0.idle 1 (grid0.coords t) = false := rfl
/-- The window of the second projection is in use at such a point. -/
theorem live2 (t : Fin cfg0.N) : cfg0.idle 2 (grid0.coords t) = false := rfl
/-- The window of the third projection is in use at such a point. -/
theorem live3 (t : Fin cfg0.N) : cfg0.idle 3 (grid0.coords t) = false := rfl
/-- The window of the taps is in use at such a point. -/
theorem live4 (t : Fin cfg0.N) : cfg0.idle 4 (grid0.coords t) = false := rfl

/-- The gradient's window is written at every point. -/
theorem live5 (t : Fin cfg0.N) : cfg0.idle 5 (grid0.coords t) = false := by
  show (!(k0_cond1 (grid0.coords t) == 1#1) && !(k0_cond2 (grid0.coords t) == 1#1)) = false
  have h1 := first_iff t
  have h2 := later_iff t
  by_cases h : t.val % 3 = 0
  · rw [show k0_cond1 (grid0.coords t) = 1#1 from h1.mpr h]; rfl
  · rw [show k0_cond2 (grid0.coords t) = 1#1 from h2.mpr (by omega)]; simp

/-- The taps' window is written at the first step of a channel block only. -/
theorem live6 (t : Fin cfg0.N) (h : t.val % 3 = 0) : cfg0.idle 6 (grid0.coords t) = false := by
  show (!(k0_cond1 (grid0.coords t) == 1#1)) = false
  rw [show k0_cond1 (grid0.coords t) = 1#1 from (first_iff t).mpr h]; rfl

/-- The window of the taps' gradient is idle at the other points. -/
theorem idle6 (t : Fin cfg0.N) (h : t.val % 3 ≠ 0) : cfg0.idle 6 (grid0.coords t) = true := by
  show (!(k0_cond1 (grid0.coords t) == 1#1)) = true
  have : ¬ k0_cond1 (grid0.coords t) = 1#1 := fun e => h ((first_iff t).mp e)
  simpa using this

/-! ## The proof data -/

/-- The first point of `t`'s channel block. -/
abbrev start (t : Fin cfg0.N) : Fin cfg0.N := ⟨t.val - t.val % 3, by have := t.isLt; omega⟩

/-- The gradient's buffer after point `t`. -/
def gradAt (c : Dev nD) (t : Fin cfg0.N) : Vec F S4096x128 .bf16 :=
  if t.val % 3 = 0 then gradGate (iblk m c 0 t) (iblk m c 2 t) (iblk m c 3 t) (iblk m c 4 t)
  else gradInner (grid0.coords t) (iblk m c 0 t) (iblk m c 1 t) (iblk m c 2 t) (iblk m c 3 t) (iblk m c 4 t)

/-- The taps' buffer after point `t`: what the first point of `t`'s channel block left there. -/
def tapsAt (c : Dev nD) (t : Fin cfg0.N) : Vec F S8x128 .f32 :=
  gradTaps (iblk m c 0 (start t)) (iblk m c 1 (start t)) (iblk m c 2 (start t)) (iblk m c 3 (start t))

/-- What each window's buffer holds after each point, from the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gradAt m c t
    | ⟨6, _⟩ => tapsAt m c t
  Φ _ := Pipeline.ΦA spec0 c
  q w := Pipeline.shareOf spec0 w
  owed _ := 0

/-- A window starts from what the launch finds in its array. -/
theorem A_eq (c : Dev nD) (w : Fin cfg0.W) : (dats m 0 c).A w = V m c (Pipeline.arrRef spec0 w) := by
  dsimp only [dats]

/-- What the window of the gradient holds after a point. -/
theorem after0 (c : Dev nD) (t : Fin cfg0.N) : (dats m 0 c).after 0 t = iblk m c 0 t := by dsimp only [dats]
/-- What the window of the first projection holds after a point. -/
theorem after1 (c : Dev nD) (t : Fin cfg0.N) : (dats m 0 c).after 1 t = iblk m c 1 t := by dsimp only [dats]
/-- What the window of the second projection holds after a point. -/
theorem after2 (c : Dev nD) (t : Fin cfg0.N) : (dats m 0 c).after 2 t = iblk m c 2 t := by dsimp only [dats]
/-- What the window of the third projection holds after a point. -/
theorem after3 (c : Dev nD) (t : Fin cfg0.N) : (dats m 0 c).after 3 t = iblk m c 3 t := by dsimp only [dats]
/-- What the window of the taps holds after a point. -/
theorem after4 (c : Dev nD) (t : Fin cfg0.N) : (dats m 0 c).after 4 t = iblk m c 4 t := by dsimp only [dats]
/-- What the window of the projections' gradient holds after a point. -/
theorem after5 (c : Dev nD) (t : Fin cfg0.N) : (dats m 0 c).after 5 t = gradAt m c t := by dsimp only [dats]
/-- What the window of the taps' gradient holds after a point. -/
theorem after6 (c : Dev nD) (t : Fin cfg0.N) : (dats m 0 c).after 6 t = tapsAt m c t := by dsimp only [dats]

/-- What the window of the gradient holds before a point. -/
theorem before0 (c : Dev nD) (t : Fin cfg0.N) (d) : (dats m 0 c).before 0 t d = iblk m c 0 t :=
  before0_0_of m (dats m 0 c) (A_eq m c 0) (after0 m c) t d
/-- What the window of the first projection holds before a point. -/
theorem before1 (c : Dev nD) (t : Fin cfg0.N) (d) : (dats m 0 c).before 1 t d = iblk m c 1 t :=
  before0_1_of m (dats m 0 c) (A_eq m c 1) (after1 m c) t d
/-- What the window of the second projection holds before a point. -/
theorem before2 (c : Dev nD) (t : Fin cfg0.N) (d) : (dats m 0 c).before 2 t d = iblk m c 2 t :=
  before0_2_of m (dats m 0 c) (A_eq m c 2) (after2 m c) t d
/-- What the window of the third projection holds before a point. -/
theorem before3 (c : Dev nD) (t : Fin cfg0.N) (d) : (dats m 0 c).before 3 t d = iblk m c 3 t :=
  before0_3_of m (dats m 0 c) (A_eq m c 3) (after3 m c) t d
/-- What the window of the taps holds before a point. -/
theorem before4 (c : Dev nD) (t : Fin cfg0.N) (d) : (dats m 0 c).before 4 t d = iblk m c 4 t :=
  before0_4_of m (dats m 0 c) (A_eq m c 4) (after4 m c) t d

/-- At the last step of a channel block the taps' buffer still holds what the first step left. -/
theorem before6 (c : Dev nD) (t : Fin cfg0.N) (h : t.val % 3 = 2) (d) : (dats m 0 c).before 6 t d = tapsAt m c t := by
  have hN : t.val < 48 := lt_of_lt_of_eq t.isLt (show cfg0.N = 48 from N_0)
  have hfl (s : Fin cfg0.N) (hs : s.val % 3 ≠ 2) : (cfg0.win 6).flush s = false := by
    have := mt (flush0_6 s).mp hs; simpa using this
  rw [(dats m 0 c).before_idle_run 6 (fun s => (cfg0.win 6).fetch_out rfl s) d 1 t (by omega) (fun j h₁ h₂ =>
    ⟨idle6 j (by omega), hfl j (by omega)⟩)]
  rw [(dats m 0 c).before_of_pos 6 _ (by show t.val - 1 ≠ 0; omega) ((cfg0.win 6).fetch_out rfl _) d]
  rw [if_neg (by rw [hfl _ (by show (t.val - 1 - 1) % 3 ≠ 2; omega)]; exact Bool.false_ne_true)]
  unfold Dat.left
  rw [show cfg0.idle 6 (cfg0.grid.coords ⟨t.val - 1 - 1, lt_of_le_of_lt (by omega) t.isLt⟩) = false from live6 _ (by show (t.val - 1 - 1) % 3 = 0; omega)]
  show (dats m 0 c).kept 6 _ d = _
  unfold Dat.kept
  rw [Pipeline.fill_of_clip_none 6 _ (fun a => rfl) d ((dats m 0 c).after 6 _), Window.fill_cut, after6]
  unfold tapsAt
  have e : start (⟨t.val - 1 - 1, lt_of_le_of_lt (by omega) t.isLt⟩ : Fin cfg0.N) = start t :=
    Fin.ext (by show t.val - 1 - 1 - (t.val - 1 - 1) % 3 = t.val - t.val % 3; omega)
  rw [e]

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point: the first step writes both outputs, a later one the gradient only. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl]
  have hN : t.val < 48 := lt_of_lt_of_eq t.isLt (show cfg0.N = 48 from N_0)
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  rw [show (dats m 0 c).leavesExact 5 t = owns (c : Thread nD τ) (st0_5 t) fullShare ((dats m 0 c).after 5 t) from by
    unfold Dat.leavesExact; rw [live5 t], after5]
  by_cases h0 : t.val % 3 = 0
  · rw [show (dats m 0 c).leavesExact 6 t = owns (c : Thread nD τ) (st0_6 t) fullShare ((dats m 0 c).after 6 t) from by
      unfold Dat.leavesExact; rw [live6 t h0], after6]
    have hst : start t = t := Fin.ext (by show t.val - t.val % 3 = t.val; omega)
    rw [show gradAt m c t = _ from if_pos h0, show tapsAt m c t = gradTaps (iblk m c 0 t) (iblk m c 1 t) (iblk m c 2 t) (iblk m c 3 t) from by
      unfold tapsAt; rw [hst]]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_first c (grid0.coords t) _ _ _ _ _ _ _ _ _ _ _ _ _ _ ((first_iff t).mpr h0) (fun h => absurd ((later_iff t).mp h) (by omega)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show gradAt m c t = _ from if_neg h0]
    have h6 : iprop(∃ d, owns (c : Thread nD τ) (st0_6 t) fullShare ((dats m 0 c).before 6 t d)) ⊢ (dats m 0 c).leavesExact 6 t := by
      by_cases h2 : t.val % 3 = 2
      · rw [show (dats m 0 c).leavesExact 6 t = owns (c : Thread nD τ) (st0_6 t) fullShare ((dats m 0 c).after 6 t) from by
          unfold Dat.leavesExact; rw [idle6 t h0, (flush0_6 t).mpr h2], after6]
        simp only [before6 m c t h2]
        iintro ⟨%d, H⟩; iexact H
      · rw [(dats m 0 c).leavesExact_idle 6 t (idle6 t h0) (by have := mt (flush0_6 t).mp h2; simpa using this)]
    iintro ⟨HΦ, Ho, ⟨%d0, H0⟩, ⟨%d1, H1⟩, ⟨%d2, H2⟩, ⟨%d3, H3⟩, ⟨%d4, H4⟩, ⟨%d5, H5⟩, H6⟩
    iapply ((run_later c (grid0.coords t) _ _ _ _ _ _ _ _ _ _ _ _ _ (hstage0_6 ((cfg0.slots t 6).cast nbuf0_6)) (fun h => h0 ((first_iff t).mp h)) ((later_iff t).mpr (by omega)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply h6; iexact H6

/-- The row of the body table at point `t` is the body. -/
theorem defs₀_row (t : Fin cfg0.N) :
    defs₀ (F := F) .tc cfg0.body (cfg0.bodyArgs t (cfg0.slots t)) = bodyAt0 t := by
  unfold defs₀; rw [Defs.onTc_tc]

/-- The body does at every point what the run asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every fair run ends with the windowed arrays as the grid leaves them and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The kernel runs, and its windows end with what the points leave. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame, with every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Conv

end
-- ==== Proof.ConvMath.lean ====
/-
  The gradient of the gated causal convolution, read element by element over the extended reals: one column of
  tokens at a time, a delay or an advance along the tokens filled with zeros.
-/
module

public import proofs.«01_k».proof.Proof.ConvBody
public import Idealize.ShloMosaic.Lib.Pointwise

@[expose] public section

set_option maxRecDepth 16384

noncomputable section

namespace Cert.Conv

open Idealize.ShloMosaic Idealize.ShloMosaic.TcCoe

/-- A column delayed by `n` tokens, zeros before its start. -/
def delay (n : ℕ) (z : Fin 4096 → EReal) (r : Fin 4096) : EReal :=
  if h : n ≤ r.val then z ⟨r.val - n, by have := r.isLt; omega⟩ else 0

/-- A column advanced by `n` tokens, zeros after its end. -/
def advance (n : ℕ) (z : Fin 4096 → EReal) (r : Fin 4096) : EReal :=
  if h : r.val + n < 4096 then z ⟨r.val + n, h⟩ else 0

/-- The convolution of a column with three weights. -/
def conv (w0 w1 w2 : EReal) (z : Fin 4096 → EReal) (r : Fin 4096) : EReal :=
  w0 * delay 2 z r + w1 * delay 1 z r + w2 * z r

/-- Its transpose. -/
def convT (w0 w1 w2 : EReal) (d : Fin 4096 → EReal) (r : Fin 4096) : EReal :=
  w2 * d r + w1 * advance 1 d r + w0 * advance 2 d r

section Kernel
open Cert.KernelIdeal Cert.KernelIdeal.Gen

/-- An element of the convolved product. -/
theorem pay7_apply (x y : Vec Ideal S4096x128 .f32) (r : Fin 4096) (l : Fin 128) :
    k0_pay7 (F := Ideal) x y (ix2 r l) = x (ix2 r l) * y (ix2 r l) := by
  pointwise [k0_pay7]

/-- A small number is itself as a signed word. -/
theorem toInt_small (a : ℕ) (ha : a < 8192) : (BitVec.ofNat 32 a).toInt = (a : ℤ) := by
  have h : (BitVec.ofNat 32 a).toNat = a := by rw [BitVec.toNat_ofNat]; omega
  rw [BitVec.toInt_eq_toNat_of_lt (by omega), h]

/-- A signed comparison of two small words is the comparison of the naturals. -/
theorem slt_small (a b : ℕ) (ha : a < 8192) (hb : b < 8192) :
    IntOp.cmpi .slt (BitVec.ofNat 32 a) (BitVec.ofNat 32 b) = if a < b then 1#1 else 0#1 := by
  simp only [IntOp.cmpi, BitVec.slt, toInt_small a ha, toInt_small b hb]
  simp only [Nat.cast_lt]
  by_cases h : a < b <;> simp [h]

/-- Comparing small words compares the numbers. -/
theorem sge_small (a b : ℕ) (ha : a < 8192) (hb : b < 8192) :
    IntOp.cmpi .sge (BitVec.ofNat 32 a) (BitVec.ofNat 32 b) = if b ≤ a then 1#1 else 0#1 := by
  simp only [IntOp.cmpi, BitVec.sle, toInt_small a ha, toInt_small b hb]
  simp only [Nat.cast_le]
  by_cases h : b ≤ a <;> simp [h]

/-- Selecting by a decided condition. -/
theorem select_ite (p : Prop) [Decidable p] (x y : EReal) : Scalar.select (if p then 1#1 else 0#1) x y = if p then x else y := by
  by_cases h : p <;> simp [h, Scalar.select]

/-- The rows moved down by `n`, as the body writes it: a rotation masked by the row number. -/
def down (n : BitVec 32) (z : FVec Ideal S4096x128 .f32) : FVec Ideal S4096x128 .f32 :=
  select (cmpi .sge (iota .tc S4096x128 32 [0] iota_S4096x128_d0_w32) (broadcast S4096x128 n))
    (dynamicRotate 0 n none z rotates_S4096x128_d0) (broadcast S4096x128 (Scalar.ofBits .f32 0x00000000#32))

/-- The rows moved up, the rotation's amount `n` being `4096` less the distance. -/
def up (n : BitVec 32) (z : FVec Ideal S4096x128 .f32) : FVec Ideal S4096x128 .f32 :=
  select (cmpi .slt (iota .tc S4096x128 32 [0] iota_S4096x128_d0_w32) (broadcast S4096x128 n))
    (dynamicRotate 0 n none z rotates_S4096x128_d0) (broadcast S4096x128 (Scalar.ofBits .f32 0x00000000#32))

/-- An element of an array moved down. -/
theorem down_apply (n : ℕ) (hn : n < 4096) (z : FVec Ideal S4096x128 .f32) (r : Fin 4096) (l : Fin 128) :
    down (BitVec.ofNat 32 n) z (ix2 r l) = delay n (fun r => z (ix2 r l)) r := by
  have hr := r.isLt
  have hm : n % 2 ^ 32 = n := Nat.mod_eq_of_lt (by omega)
  unfold down
  pointwise [BitVec.toNat_ofNat, hm]
  rw [sge_small _ _ (by omega) (by omega), select_ite]
  unfold delay
  by_cases h : n ≤ r.val
  · rw [if_pos h, dif_pos h]
    exact congrArg (fun r => z (ix2 r l)) (Fin.ext (by show (r.val + 4096 - n % 4096) % 4096 = r.val - n; omega))
  · rw [if_neg h, dif_neg h]

/-- An element of an array moved up. -/
theorem up_apply (n k : ℕ) (hn : n + k = 4096) (hk : 0 < k) (z : FVec Ideal S4096x128 .f32) (r : Fin 4096) (l : Fin 128) :
    up (BitVec.ofNat 32 n) z (ix2 r l) = advance k (fun r => z (ix2 r l)) r := by
  have hr := r.isLt
  have hm : n % 2 ^ 32 = n := Nat.mod_eq_of_lt (by omega)
  unfold up
  pointwise [BitVec.toNat_ofNat, hm]
  rw [slt_small _ _ (by omega) (by omega), select_ite]
  unfold advance
  by_cases h : r.val < n
  · rw [if_pos h, dif_pos (by omega)]
    exact congrArg (fun r => z (ix2 r l)) (Fin.ext (by show (r.val + 4096 - n % 4096) % 4096 = r.val + k; omega))
  · rw [if_neg h, dif_neg (by omega)]

/-- An element of it one row later. -/
theorem pay8_apply (x y : Vec Ideal S4096x128 .f32) (r : Fin 4096) (l : Fin 128) :
    k0_pay8 (F := Ideal) x y (ix2 r l) = delay 1 (fun r => x (ix2 r l) * y (ix2 r l)) r := by
  have e := down_apply 1 (by omega) (k0_pay7 x y) r l
  simp only [pay7_apply] at e
  exact e

/-- An element of it two rows later. -/
theorem pay9_apply (x y : Vec Ideal S4096x128 .f32) (r : Fin 4096) (l : Fin 128) :
    k0_pay9 (F := Ideal) x y (ix2 r l) = delay 2 (fun r => x (ix2 r l) * y (ix2 r l)) r := by
  have e := down_apply 2 (by omega) (k0_pay7 x y) r l
  simp only [pay7_apply] at e
  exact e

/-- An element of the first tap. -/
theorem tap0_apply (w : Vec Ideal S8x128 .f32) (l : Fin 128) : tap0 w (ix2 0 l) = w (ix2 0 l) := by
  unfold tap0; rw [View.ld_unit]; exact extractStridedSlice_apply _ _ _ _ _ fun a => by fin_cases a <;> simp [ix2]
/-- An element of the second tap. -/
theorem tap1_apply (w : Vec Ideal S8x128 .f32) (l : Fin 128) : tap1 w (ix2 0 l) = w (ix2 1 l) := by
  unfold tap1; rw [View.ld_unit]; exact extractStridedSlice_apply _ _ _ _ _ fun a => by fin_cases a <;> simp [ix2]
/-- An element of the third tap. -/
theorem tap2_apply (w : Vec Ideal S8x128 .f32) (l : Fin 128) : tap2 w (ix2 0 l) = w (ix2 2 l) := by
  unfold tap2; rw [View.ld_unit]; exact extractStridedSlice_apply _ _ _ _ _ fun a => by fin_cases a <;> simp [ix2]

/-- The outer gate's gradient at an element. -/
theorem gradGate_apply (g c u : Vec Ideal S4096x128 .f32) (w : Vec Ideal S8x128 .f32) (r : Fin 4096) (l : Fin 128) :
    gradGate (F := Ideal) g c u w (ix2 r l)
      = g (ix2 r l) * conv (w (ix2 0 l)) (w (ix2 1 l)) (w (ix2 2 l)) (fun r => c (ix2 r l) * u (ix2 r l)) r := by
  unfold gradGate
  pointwise [k0_pay10, k0_pay1, k0_pay2, k0_pay3, pay7_apply, pay8_apply, pay9_apply]
  rw [tap0_apply, tap1_apply, tap2_apply]
  unfold conv
  beta_reduce
  rfl

/-- Which factor a later step takes. -/
theorem sel_step (i : grid0.Coords) (x y : EReal) :
    Scalar.select (Scalar.cmpi .eq (BitVec.ofNat 32 (i 1).val) 1#32) x y = if (i 1).val = 1 then x else y := by
  have h : (i 1).val < 3 := (i 1).isLt
  generalize (i 1).val = k at h
  interval_cases k <;> rfl

/-- The gradient of the inner gate or of the gated value at an element. -/
theorem gradInner_apply (i : grid0.Coords) (g b c u : Vec Ideal S4096x128 .f32) (w : Vec Ideal S8x128 .f32) (r : Fin 4096) (l : Fin 128) :
    gradInner (F := Ideal) i g b c u w (ix2 r l)
      = convT (w (ix2 0 l)) (w (ix2 1 l)) (w (ix2 2 l)) (fun r => g (ix2 r l) * b (ix2 r l)) r
        * (if (i 1).val = 1 then u (ix2 r l) else c (ix2 r l)) := by
  have e1 := up_apply 4095 1 rfl (by omega) (mulf g b) r l
  have e2 := up_apply 4094 2 rfl (by omega) (mulf g b) r l
  have e : gradInner (F := Ideal) i g b c u w
      = truncf .bf16 (mulf (addf (addf (mulf (broadcastTo S4096x128 (k0_pay3 (tap2 w)) broadcasts_S1x128_S4096x128) (mulf g b))
          (mulf (broadcastTo S4096x128 (k0_pay2 (tap1 w)) broadcasts_S1x128_S4096x128) (up (BitVec.ofNat 32 4095) (mulf g b))))
          (mulf (broadcastTo S4096x128 (k0_pay1 (tap0 w)) broadcasts_S1x128_S4096x128) (up (BitVec.ofNat 32 4094) (mulf g b))))
          (Scalar.select (Scalar.cmpi .eq (BitVec.ofNat 32 (i 1).val) 1#32) u c)) bitsLt_bf16_f32 := rfl
  rw [e]
  generalize up (BitVec.ofNat 32 4095) (mulf g b) = z1 at e1 ⊢
  generalize up (BitVec.ofNat 32 4094) (mulf g b) = z2 at e2 ⊢
  pointwise [k0_pay1, k0_pay2, k0_pay3, e1, e2, sel_step]
  rw [tap0_apply, tap1_apply, tap2_apply]
  unfold convT
  beta_reduce
  rfl

/-- An element of the first tap's column sum. -/
theorem pay4_apply (z d : Vec Ideal S4096x128 .f32) (l : Fin 128) :
    k0_pay4 (F := Ideal) z d (ix2 0 l) = ∑ r : Fin 4096, d (ix2 r l) * z (ix2 r l) := by
  pointwise [k0_pay4]

/-- An element of the second tap's column sum. -/
theorem pay5_apply (z d : Vec Ideal S4096x128 .f32) (l : Fin 128) :
    k0_pay5 (F := Ideal) z d (ix2 0 l) = ∑ r : Fin 4096, d (ix2 r l) * z (ix2 r l) := by
  pointwise [k0_pay5]

/-- An element of the gradient before the gate. -/
theorem pay11_apply (g b : Vec Ideal S4096x128 .f32) (r : Fin 4096) (l : Fin 128) :
    k0_pay11 (F := Ideal) g b (ix2 r l) = g (ix2 r l) * b (ix2 r l) := by
  pointwise [k0_pay11]

/-- An element of the last tap's column sum. -/
theorem pay13_apply (x y g b : Vec Ideal S4096x128 .f32) (l : Fin 128) :
    k0_pay13 (F := Ideal) x y g b (ix2 0 l)
      = ∑ r : Fin 4096, g (ix2 r l) * b (ix2 r l) * delay 2 (fun r => x (ix2 r l) * y (ix2 r l)) r := by
  pointwise [k0_pay13, k0_pay11, pay9_apply]

/-- A row stored last, read on it. -/
theorem row_hit (k : ℕ) (inb : ∀ x, (![k, 0] : Fin 2 → ℕ) x + S1x128.size x ≤ S8x128.size x) (p : FVec Ideal S1x128 .f32)
    (L : List (View.Piece (Elt Ideal) S8x128 .f32)) (a : Fin 8) (l : Fin 128) (h : a.val = k) :
    View.canon ((⟨Rect.unit (s := S8x128) ![k, 0] S1x128.size inb, p⟩ : View.Piece (Elt Ideal) S8x128 .f32) :: L) (ix2 a l) = p (ix2 0 l) := by
  have e : (Rect.unit (s := S8x128) ![k, 0] S1x128.size inb).emb (ix2 (0 : Fin 1) l : S1x128.Idx) = (ix2 a l : S8x128.Idx) :=
    Shape.idx_ext₂ (by show k + 1 * 0 = a.val; omega) (by show 0 + 1 * l.val = l.val; omega)
  rw [← e]
  exact View.canon_cons_emb (Rect.unit (s := S8x128) ![k, 0] S1x128.size inb) p L (ix2 (0 : Fin 1) l : S1x128.Idx)

/-- A row stored last, read off it. -/
theorem row_miss (k : ℕ) (inb : ∀ x, (![k, 0] : Fin 2 → ℕ) x + S1x128.size x ≤ S8x128.size x) (p : FVec Ideal S1x128 .f32)
    (L : List (View.Piece (Elt Ideal) S8x128 .f32)) (a : Fin 8) (l : Fin 128) (h : a.val ≠ k) :
    View.canon ((⟨Rect.unit (s := S8x128) ![k, 0] S1x128.size inb, p⟩ : View.Piece (Elt Ideal) S8x128 .f32) :: L) (ix2 a l) = View.canon L (ix2 a l) := by
  refine View.canon_cons_of_not_mem _ _ ?_
  rw [Rect.mem_set_unit]
  intro hh
  have : k ≤ a.val ∧ a.val < k + 1 := hh 0
  omega

/-- A delay of nothing. -/
theorem delay_zero (z : Fin 4096 → EReal) : delay 0 z = z := funext fun r => by
  unfold delay; rw [dif_pos (Nat.zero_le _)]; rfl

/-- An element of the cleared sums. -/
theorem pay12_apply (a : Fin 8) (l : Fin 128) : k0_pay12 (F := Ideal) (ix2 a l) = 0 := by
  pointwise [k0_pay12]

/-- The taps' gradients at an element: row `k` weighs the tokens delayed by `2 - k`, the other rows are zero. -/
theorem gradTaps_apply (g b c u : Vec Ideal S4096x128 .f32) (a : Fin 8) (l : Fin 128) :
    gradTaps (F := Ideal) g b c u (ix2 a l)
      = if a.val < 3 then ∑ r : Fin 4096, g (ix2 r l) * b (ix2 r l) * delay (2 - a.val) (fun r => c (ix2 r l) * u (ix2 r l)) r else 0 := by
  have e5 : k0_pay5 (F := Ideal) (k0_pay7 c u) (k0_pay11 g b) (ix2 0 l)
      = ∑ r : Fin 4096, g (ix2 r l) * b (ix2 r l) * delay 0 (fun r => c (ix2 r l) * u (ix2 r l)) r := by
    rw [pay5_apply, delay_zero]; simp only [pay7_apply, pay11_apply]
  have e4 : k0_pay4 (F := Ideal) (k0_pay8 c u) (k0_pay11 g b) (ix2 0 l)
      = ∑ r : Fin 4096, g (ix2 r l) * b (ix2 r l) * delay 1 (fun r => c (ix2 r l) * u (ix2 r l)) r := by
    rw [pay4_apply]; simp only [pay8_apply, pay11_apply]
  have e3 := pay13_apply c u g b l
  have e12 := pay12_apply a l
  unfold gradTaps
  generalize k0_pay5 (F := Ideal) (k0_pay7 c u) (k0_pay11 g b) = p2 at e5 ⊢
  generalize k0_pay4 (F := Ideal) (k0_pay8 c u) (k0_pay11 g b) = p1 at e4 ⊢
  generalize k0_pay13 (F := Ideal) c u g b = p0 at e3 ⊢
  generalize k0_pay12 (F := Ideal) = p at e12 ⊢
  generalize (fun r => c (ix2 r l) * u (ix2 r l)) = z at e5 e4 e3 ⊢
  have ha := a.isLt
  by_cases h2 : a.val = 2
  · rw [if_pos (by omega), h2, ← e5]
    exact row_hit 2 _ p2 _ a l h2
  refine (row_miss 2 _ p2 _ a l h2).trans ?_
  by_cases h1 : a.val = 1
  · rw [if_pos (by omega), h1, ← e4]
    exact row_hit 1 _ p1 _ a l h1
  refine (row_miss 1 _ p1 _ a l h1).trans ?_
  by_cases h0 : a.val = 0
  · rw [if_pos (by omega), h0, ← e3]
    exact row_hit 0 _ p0 _ a l h0
  refine (row_miss 0 _ p0 _ a l h0).trans ?_
  rw [if_neg (by omega), ← e12]
  exact congrFun (View.canon_unit_zero (Val := Elt Ideal) (e := .f32) hz inb_S8x128_S8x128_0_0 p) _

end Kernel

end Cert.Conv

end
-- ==== Proof.ConvRef.lean ====
/-
  The reference gradient of the gated causal convolution, read element by element over the extended reals.
-/
module

public import proofs.«01_k».proof.Proof.ConvMath
public import proofs.«01_k».proof.Proof.Gen.ReferenceIdeal.Run
public import Idealize.ShloMosaic.Lib.Pointwise

@[expose] public section

set_option maxRecDepth 16384

noncomputable section

namespace Cert.Conv

open Idealize.ShloMosaic Idealize.ShloMosaic.TcCoe Idealize.SL.Sem Idealize.ShloMosaic.StableHlo

section Reference
open Cert.ReferenceIdeal Cert.ReferenceIdeal.Gen Cert.ReferenceIdeal.Value

/-- The gradient of the projection, an element at a time. -/
def projGrad (g : S4096x2048.Idx → EReal) (p : S4096x6144.Idx → EReal) (w : S3x2048.Idx → EReal) (r : Fin 4096) (q : Fin 6144) : EReal :=
  if h : q.val < 2048 then
    g (ix2 r ⟨q.val, h⟩) * conv (w (ix2 0 ⟨q.val, h⟩)) (w (ix2 1 ⟨q.val, h⟩)) (w (ix2 2 ⟨q.val, h⟩))
      (fun r => p (ix2 r ⟨2048 + q.val, by omega⟩) * p (ix2 r ⟨4096 + q.val, by omega⟩)) r
  else if h' : q.val < 4096 then
    convT (w (ix2 0 ⟨q.val - 2048, by omega⟩)) (w (ix2 1 ⟨q.val - 2048, by omega⟩)) (w (ix2 2 ⟨q.val - 2048, by omega⟩))
      (fun r => g (ix2 r ⟨q.val - 2048, by omega⟩) * p (ix2 r ⟨q.val - 2048, by omega⟩)) r * p (ix2 r ⟨4096 + (q.val - 2048), by omega⟩)
  else
    convT (w (ix2 0 ⟨q.val - 4096, by omega⟩)) (w (ix2 1 ⟨q.val - 4096, by omega⟩)) (w (ix2 2 ⟨q.val - 4096, by omega⟩))
      (fun r => g (ix2 r ⟨q.val - 4096, by omega⟩) * p (ix2 r ⟨q.val - 4096, by omega⟩)) r * p (ix2 r ⟨2048 + (q.val - 4096), by omega⟩)

/-- The gradient of the taps, padded to eight rows, an element at a time. -/
def tapsGrad (g : S4096x2048.Idx → EReal) (p : S4096x6144.Idx → EReal) (a : Fin 8) (l : Fin 2048) : EReal :=
  if a.val < 3 then ∑ r : Fin 4096, g (ix2 r l) * p (ix2 r ⟨l.val, by omega⟩)
      * delay (2 - a.val) (fun r => p (ix2 r ⟨2048 + l.val, by omega⟩) * p (ix2 r ⟨4096 + l.val, by omega⟩)) r else 0

/-- Row `0` of the weights, spread over the tokens. -/
def refRow0 (w : FVec Ideal S3x2048 .f32) : FVec Ideal S4096x2048 .f32 :=
  broadcastInDim S4096x2048 ![0, 1] bcast_S1x2048_S4096x2048_0_1 (broadcastInDim S1x2048 ![1] bcast_S2048_S1x2048_1 (shapeCast S2048 (extractStridedSlice S1x2048 ![0, 0] w slices_S3x2048_S1x2048_0_0) shapeCasts_S1x2048_S2048))

/-- Row `1` of the weights, spread over the tokens. -/
def refRow1 (w : FVec Ideal S3x2048 .f32) : FVec Ideal S4096x2048 .f32 :=
  broadcastInDim S4096x2048 ![0, 1] bcast_S1x2048_S4096x2048_0_1 (broadcastInDim S1x2048 ![1] bcast_S2048_S1x2048_1 (shapeCast S2048 (extractStridedSlice S1x2048 ![1, 0] w slices_S3x2048_S1x2048_1_0) shapeCasts_S1x2048_S2048))

/-- Row `2` of the weights, spread over the tokens. -/
def refRow2 (w : FVec Ideal S3x2048 .f32) : FVec Ideal S4096x2048 .f32 :=
  broadcastInDim S4096x2048 ![0, 1] bcast_S1x2048_S4096x2048_0_1 (broadcastInDim S1x2048 ![1] bcast_S2048_S1x2048_1 (shapeCast S2048 (extractStridedSlice S1x2048 ![2, 0] w slices_S3x2048_S1x2048_2_0) shapeCasts_S1x2048_S2048))

/-- The gradient of the convolution's result. -/
def refDc (g : FVec Ideal S4096x2048 .f32) (p : FVec Ideal S4096x6144 .f32) : FVec Ideal S4096x2048 .f32 :=
  mulf (extractStridedSlice S4096x2048 ![0, 0] p slices_S4096x6144_S4096x2048_0_0) g

/-- The gated values, two rows of zeros before them. -/
def refZ (p : FVec Ideal S4096x6144 .f32) : FVec Ideal S4098x2048 .f32 :=
  concatenate S4098x2048 0 [⟨S2x2048, (broadcastInDim S2x2048 ![] bcast_S_S2x2048 (constant S_ .f32 0x00000000#32))⟩, ⟨S4096x2048, (mulf (extractStridedSlice S4096x2048 ![0, 2048] p slices_S4096x6144_S4096x2048_0_2048) (extractStridedSlice S4096x2048 ![0, 4096] p slices_S4096x6144_S4096x2048_0_4096))⟩] concatenates_S2x2048_S4096x2048_S4098x2048_d0

/-- The convolution. -/
def refConv (p : FVec Ideal S4096x6144 .f32) (w : FVec Ideal S3x2048 .f32) : FVec Ideal S4096x2048 .f32 :=
  addf (addf (mulf (refRow0 w) (extractStridedSlice S4096x2048 ![0, 0] (refZ p) slices_S4098x2048_S4096x2048_0_0)) (mulf (refRow1 w) (extractStridedSlice S4096x2048 ![1, 0] (refZ p) slices_S4098x2048_S4096x2048_1_0))) (mulf (refRow2 w) (extractStridedSlice S4096x2048 ![2, 0] (refZ p) slices_S4098x2048_S4096x2048_2_0))

/-- The gradient of the gated values. -/
def refBack (g : FVec Ideal S4096x2048 .f32) (p : FVec Ideal S4096x6144 .f32) (w : FVec Ideal S3x2048 .f32) : FVec Ideal S4096x2048 .f32 :=
  extractStridedSlice S4096x2048 ![2, 0] (addf (addf (pad S4098x2048 ![2, 0] ![0, 0] ![0, 0] (mulf (refRow2 w) (refDc g p)) (constant S_ .f32 0x00000000#32) pads_S4096x2048_S4098x2048_200_000 h_S_) (pad S4098x2048 ![1, 0] ![1, 0] ![0, 0] (mulf (refRow1 w) (refDc g p)) (constant S_ .f32 0x00000000#32) pads_S4096x2048_S4098x2048_110_000 h_S_)) (pad S4098x2048 ![0, 0] ![2, 0] ![0, 0] (mulf (refRow0 w) (refDc g p)) (constant S_ .f32 0x00000000#32) pads_S4096x2048_S4098x2048_020_000 h_S_)) slices_S4098x2048_S4096x2048_2_0

/-- The gradient of row `0` of the weights. -/
def refSum0 (g : FVec Ideal S4096x2048 .f32) (p : FVec Ideal S4096x6144 .f32) : FVec Ideal S1x2048 .f32 :=
  broadcastInDim S1x2048 ![1] bcast_S2048_S1x2048_1 (Host.reduceAdd (shapeCast S1x2048 (Host.reduceAdd (mulf (refDc g p) (extractStridedSlice S4096x2048 ![0, 0] (refZ p) slices_S4098x2048_S4096x2048_0_0)) (constant S_ .f32 0x00000000#32) reducesTo_S4096x2048_S2048_d0 h_S_) shapeCasts_S2048_S1x2048) (constant S_ .f32 0x00000000#32) reducesTo_S1x2048_S2048_d0 h_S_)

/-- The gradient of row `1` of the weights. -/
def refSum1 (g : FVec Ideal S4096x2048 .f32) (p : FVec Ideal S4096x6144 .f32) : FVec Ideal S1x2048 .f32 :=
  broadcastInDim S1x2048 ![1] bcast_S2048_S1x2048_1 (Host.reduceAdd (shapeCast S1x2048 (Host.reduceAdd (mulf (refDc g p) (extractStridedSlice S4096x2048 ![1, 0] (refZ p) slices_S4098x2048_S4096x2048_1_0)) (constant S_ .f32 0x00000000#32) reducesTo_S4096x2048_S2048_d0 h_S_) shapeCasts_S2048_S1x2048) (constant S_ .f32 0x00000000#32) reducesTo_S1x2048_S2048_d0 h_S_)

/-- The gradient of row `2` of the weights. -/
def refSum2 (g : FVec Ideal S4096x2048 .f32) (p : FVec Ideal S4096x6144 .f32) : FVec Ideal S1x2048 .f32 :=
  broadcastInDim S1x2048 ![1] bcast_S2048_S1x2048_1 (Host.reduceAdd (shapeCast S1x2048 (Host.reduceAdd (mulf (refDc g p) (extractStridedSlice S4096x2048 ![2, 0] (refZ p) slices_S4098x2048_S4096x2048_2_0)) (constant S_ .f32 0x00000000#32) reducesTo_S4096x2048_S2048_d0 h_S_) shapeCasts_S2048_S1x2048) (constant S_ .f32 0x00000000#32) reducesTo_S1x2048_S2048_d0 h_S_)

/-- The reference's first result. -/
def refGrad (g : FVec Ideal S4096x2048 .f32) (p : FVec Ideal S4096x6144 .f32) (w : FVec Ideal S3x2048 .f32) : FVec Ideal S4096x6144 .bf16 :=
  truncf .bf16 (addf (addf (pad S4096x6144 ![0, 4096] ![0, 0] ![0, 0] (mulf (extractStridedSlice S4096x2048 ![0, 2048] p slices_S4096x6144_S4096x2048_0_2048) (refBack g p w)) (constant S_ .f32 0x00000000#32) pads_S4096x2048_S4096x6144_000_409600 h_S_) (pad S4096x6144 ![0, 2048] ![0, 2048] ![0, 0] (mulf (refBack g p w) (extractStridedSlice S4096x2048 ![0, 4096] p slices_S4096x6144_S4096x2048_0_4096)) (constant S_ .f32 0x00000000#32) pads_S4096x2048_S4096x6144_000_204820480 h_S_)) (pad S4096x6144 ![0, 0] ![0, 4096] ![0, 0] (mulf g (refConv p w)) (constant S_ .f32 0x00000000#32) pads_S4096x2048_S4096x6144_000_040960 h_S_)) bitsLt_bf16_f32

/-- The reference's second result. -/
def refTaps (g : FVec Ideal S4096x2048 .f32) (p : FVec Ideal S4096x6144 .f32) : FVec Ideal S8x2048 .f32 :=
  concatenate S8x2048 0 [⟨S3x2048, (addf (addf (pad S3x2048 ![2, 0] ![0, 0] ![0, 0] (refSum2 g p) (constant S_ .f32 0x00000000#32) pads_S1x2048_S3x2048_200_000 h_S_) (pad S3x2048 ![1, 0] ![1, 0] ![0, 0] (refSum1 g p) (constant S_ .f32 0x00000000#32) pads_S1x2048_S3x2048_110_000 h_S_)) (pad S3x2048 ![0, 0] ![2, 0] ![0, 0] (refSum0 g p) (constant S_ .f32 0x00000000#32) pads_S1x2048_S3x2048_020_000 h_S_))⟩, ⟨S5x2048, (broadcastInDim S5x2048 ![] bcast_S_S5x2048 (constant S_ .f32 0x00000000#32))⟩] concatenates_S3x2048_S5x2048_S8x2048_d0

/-- An element of the first tap's row of the reference. -/
theorem refRow0_apply (w : FVec Ideal S3x2048 .f32) (r : Fin 4096) (q : Fin 2048) : refRow0 w (ix2 r q) = w (ix2 0 q) := by
  pointwise [refRow0]

/-- An element of the second tap's row of the reference. -/
theorem refRow1_apply (w : FVec Ideal S3x2048 .f32) (r : Fin 4096) (q : Fin 2048) : refRow1 w (ix2 r q) = w (ix2 1 q) := by
  pointwise [refRow1]

/-- An element of the third tap's row of the reference. -/
theorem refRow2_apply (w : FVec Ideal S3x2048 .f32) (r : Fin 4096) (q : Fin 2048) : refRow2 w (ix2 r q) = w (ix2 2 q) := by
  pointwise [refRow2]

/-- An element of the gradient before the gate of the reference. -/
theorem refDc_apply (g : FVec Ideal S4096x2048 .f32) (p : FVec Ideal S4096x6144 .f32) (r : Fin 4096) (q : Fin 2048) :
    refDc g p (ix2 r q) = p (ix2 r ⟨q.val, by omega⟩) * g (ix2 r q) := by
  pointwise [refDc]

/-- An element of the padded product of the reference. -/
theorem refZ_apply (p : FVec Ideal S4096x6144 .f32) (n : ℕ) (hn : n ≤ 2) (r : Fin 4096) (q : Fin 2048) (s : Fin 4098) (hs : s.val + n = r.val + 2) :
    refZ p (ix2 s q) = delay n (fun r => p (ix2 r ⟨2048 + q.val, by omega⟩) * p (ix2 r ⟨4096 + q.val, by omega⟩)) r := by
  have hr := r.isLt
  pointwise [refZ]
  unfold delay
  by_cases h : n ≤ r.val
  · rw [dif_pos h, dif_neg (by omega)]
    have e : s.val - 2 = r.val - n := by omega
    simp only [e]
  · rw [dif_neg h, dif_pos (by omega)]

/-- An element of the convolution of the reference. -/
theorem refConv_apply (p : FVec Ideal S4096x6144 .f32) (w : FVec Ideal S3x2048 .f32) (r : Fin 4096) (q : Fin 2048) :
    refConv p w (ix2 r q) = conv (w (ix2 0 q)) (w (ix2 1 q)) (w (ix2 2 q))
      (fun r => p (ix2 r ⟨2048 + q.val, by omega⟩) * p (ix2 r ⟨4096 + q.val, by omega⟩)) r := by
  have hr := r.isLt
  have e0 := refZ_apply p 2 (by omega) r q ⟨r.val, by omega⟩ rfl
  have e1 := refZ_apply p 1 (by omega) r q ⟨1 + r.val, by omega⟩ (by show 1 + r.val + 1 = r.val + 2; omega)
  have e2 := refZ_apply p 0 (by omega) r q ⟨2 + r.val, by omega⟩ (by show 2 + r.val + 0 = r.val + 2; omega)
  rw [delay_zero] at e2
  unfold conv
  beta_reduce
  rw [← e0, ← e1, ← e2]
  pointwise [refConv, refRow0_apply, refRow1_apply, refRow2_apply]

/-- An element of the gradient through the convolution of the reference. -/
theorem refBack_apply (g : FVec Ideal S4096x2048 .f32) (p : FVec Ideal S4096x6144 .f32) (w : FVec Ideal S3x2048 .f32) (r : Fin 4096) (q : Fin 2048) :
    refBack g p w (ix2 r q) = convT (w (ix2 0 q)) (w (ix2 1 q)) (w (ix2 2 q)) (fun r => g (ix2 r q) * p (ix2 r ⟨q.val, by omega⟩)) r := by
  have hr := r.isLt
  have hq := q.isLt
  pointwise [refBack, refRow0_apply, refRow1_apply, refRow2_apply, refDc_apply]
  unfold convT advance
  beta_reduce
  have c1 : (1 ≤ 2 + r.val ∧ 2 + r.val - 1 < 4096) ↔ r.val + 1 < 4096 := by omega
  have c2 : 2 + r.val = r.val + 2 := by omega
  have c3 : r.val + 2 - 1 = r.val + 1 := by omega
  have c4 : 1 ≤ r.val + 2 := by omega
  simp only [c2, c3, c4, true_and]
  rw [mul_comm (p _) (g _)]
  congr 1
  · congr 1
    by_cases h : r.val + 1 < 4096
    · rw [dif_pos h, dif_pos h, mul_comm (p _) (g _)]
    · rw [dif_neg h, dif_neg h, mul_zero]
  · by_cases h : r.val + 2 < 4096
    · rw [dif_pos h, dif_pos h, mul_comm (p _) (g _)]
    · rw [dif_neg h, dif_neg h, mul_zero]

/-- An element of the first tap's gradient of the reference. -/
theorem refSum0_apply (g : FVec Ideal S4096x2048 .f32) (p : FVec Ideal S4096x6144 .f32) (q : Fin 2048) :
    refSum0 g p (ix2 0 q) = ∑ r : Fin 4096, g (ix2 r q) * p (ix2 r ⟨q.val, by omega⟩)
      * delay 2 (fun r => p (ix2 r ⟨2048 + q.val, by omega⟩) * p (ix2 r ⟨4096 + q.val, by omega⟩)) r := by
  have e (r : Fin 4096) := refZ_apply p 2 (by omega) r q ⟨0 + r.val, by omega⟩ (by show 0 + r.val + 2 = r.val + 2; omega)
  pointwise [refSum0, refDc_apply]
  rw [Finset.sum_const, Finset.card_univ, Fintype.card_fin, one_smul]
  refine Finset.sum_congr rfl fun r _ => ?_
  rw [← e r, mul_comm (p _) (g _)]
  simp only [Nat.zero_add]

/-- An element of the second tap's gradient of the reference. -/
theorem refSum1_apply (g : FVec Ideal S4096x2048 .f32) (p : FVec Ideal S4096x6144 .f32) (q : Fin 2048) :
    refSum1 g p (ix2 0 q) = ∑ r : Fin 4096, g (ix2 r q) * p (ix2 r ⟨q.val, by omega⟩)
      * delay 1 (fun r => p (ix2 r ⟨2048 + q.val, by omega⟩) * p (ix2 r ⟨4096 + q.val, by omega⟩)) r := by
  have e (r : Fin 4096) := refZ_apply p 1 (by omega) r q ⟨1 + r.val, by omega⟩ (by show 1 + r.val + 1 = r.val + 2; omega)
  pointwise [refSum1, refDc_apply]
  rw [Finset.sum_const, Finset.card_univ, Fintype.card_fin, one_smul]
  refine Finset.sum_congr rfl fun r _ => ?_
  rw [← e r, mul_comm (p _) (g _)]

/-- An element of the third tap's gradient of the reference. -/
theorem refSum2_apply (g : FVec Ideal S4096x2048 .f32) (p : FVec Ideal S4096x6144 .f32) (q : Fin 2048) :
    refSum2 g p (ix2 0 q) = ∑ r : Fin 4096, g (ix2 r q) * p (ix2 r ⟨q.val, by omega⟩)
      * delay 0 (fun r => p (ix2 r ⟨2048 + q.val, by omega⟩) * p (ix2 r ⟨4096 + q.val, by omega⟩)) r := by
  have e (r : Fin 4096) := refZ_apply p 0 (by omega) r q ⟨2 + r.val, by omega⟩ (by show 2 + r.val + 0 = r.val + 2; omega)
  pointwise [refSum2, refDc_apply]
  rw [Finset.sum_const, Finset.card_univ, Fintype.card_fin, one_smul]
  refine Finset.sum_congr rfl fun r _ => ?_
  rw [← e r, mul_comm (p _) (g _)]

/-- An element of the projections' gradient of the reference. -/
theorem refGrad_apply (g : FVec Ideal S4096x2048 .f32) (p : FVec Ideal S4096x6144 .f32) (w : FVec Ideal S3x2048 .f32) (r : Fin 4096) (q : Fin 6144) :
    refGrad g p w (ix2 r q) = projGrad g p w r q := by
  have hq := q.isLt
  pointwise [refGrad, refBack_apply, refConv_apply]
  unfold projGrad
  by_cases h1 : q.val < 2048
  · rw [dif_neg (by omega), dif_neg (by omega), dif_pos h1, dif_pos h1, zero_add, zero_add]
  rw [dif_neg h1, dif_neg h1, add_zero]
  by_cases h2 : q.val < 4096
  · rw [dif_neg (by omega), dif_pos (by omega), dif_pos h2, zero_add]
  · rw [dif_pos (by omega), dif_neg (by omega), dif_neg h2, add_zero, mul_comm]

/-- An element of the taps' gradient of the reference. -/
theorem refTaps_apply (g : FVec Ideal S4096x2048 .f32) (p : FVec Ideal S4096x6144 .f32) (a : Fin 8) (q : Fin 2048) :
    refTaps g p (ix2 a q) = tapsGrad g p a q := by
  pointwise [refTaps]
  unfold tapsGrad
  have ha := a.isLt
  by_cases h3 : a.val < 3
  · rw [dif_pos h3, if_pos h3]
    obtain h | h | h : a.val = 0 ∨ a.val = 1 ∨ a.val = 2 := by omega
    · rw [dif_neg (by omega), dif_neg (by omega), dif_pos (by omega), zero_add, zero_add]
      refine Eq.trans (congrArg _ (congrArg (ix2 · q) (Fin.ext (by show a.val = 0; omega)))) ((refSum0_apply g p q).trans ?_)
      rw [h]
    · rw [dif_neg (by omega), dif_pos (by omega), dif_neg (by omega), zero_add, add_zero]
      refine Eq.trans (congrArg _ (congrArg (ix2 · q) (Fin.ext (by show a.val - 1 = 0; omega)))) ((refSum1_apply g p q).trans ?_)
      rw [h]
    · rw [dif_pos (by omega), dif_neg (by omega), dif_neg (by omega), add_zero, add_zero]
      refine Eq.trans (congrArg _ (congrArg (ix2 · q) (Fin.ext (by show a.val - 2 = 0; omega)))) ((refSum2_apply g p q).trans ?_)
      rw [h]
  · rw [dif_neg h3, if_neg h3]

variable (m : (ℓ : Loc nD τ sig) → Buf (Elt Ideal) ℓ) (ρ : Dev nD → PrngReg)

/-- The reference's run: its results at the terms above. -/
theorem ref_run : θ_run defs (onTc (τ := τ) (main (F := Ideal))) ⟨m, fun _ => 0, ρ⟩ fun r => ∀ c : Dev nD,
      r.2.mem ((c.tc : Thread nD τ).loc main_v70) = refGrad (m ((c.tc : Thread nD τ).loc main_arg0)) (m ((c.tc : Thread nD τ).loc main_arg1)) (m ((c.tc : Thread nD τ).loc main_arg2))
      ∧ r.2.mem ((c.tc : Thread nD τ).loc main_v72) = refTaps (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by unfold res_main_v70; rfl), (h c).2.1.trans rfl, (h c).2.2⟩) (run m ρ)

end Reference

end Cert.Conv

end
-- ==== Proof.ConvValue.lean ====
/-
  What the backward pass of the gated causal convolution computes: over the extended reals its two result arrays
  are the gradients that the reference computes, element for element.
-/
module

public import proofs.«01_k».proof.Proof.ConvRun
public import proofs.«01_k».proof.Proof.ConvRef
public import Idealize.ShloMosaic.Lib.Pipeline.Value

@[expose] public section

set_option maxRecDepth 16384

noncomputable section

namespace Cert.Conv

open Cert.KernelIdeal Cert.KernelIdeal.Gen
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

/-! ## The blocks, an element at a time -/

/-- There are 48 points. -/
theorem point_lt (t : Fin cfg0.N) : t.val < 48 := lt_of_lt_of_eq t.isLt N_0

/-- The incoming gradient, as a matrix. -/
abbrev gArg (c : Dev nD) : S4096x2048.Idx → EReal := m ((c.tc : Thread nD τ).loc main_arg0)
/-- The three projections side by side. -/
abbrev pArg (c : Dev nD) : S4096x6144.Idx → EReal := m ((c.tc : Thread nD τ).loc main_arg1)
/-- The taps' weights. -/
abbrev wArg (c : Dev nD) : S3x2048.Idx → EReal := m ((c.tc : Thread nD τ).loc main_arg2)

/-- The blocks a point reads, as matrices. -/
abbrev gBlk (c : Dev nD) (t : Fin cfg0.N) : S4096x128.Idx → EReal := iblk m c 0 t
/-- A block of the first projection. -/
abbrev bBlk (c : Dev nD) (t : Fin cfg0.N) : S4096x128.Idx → EReal := iblk m c 1 t
/-- A block of the second projection. -/
abbrev cBlk (c : Dev nD) (t : Fin cfg0.N) : S4096x128.Idx → EReal := iblk m c 2 t
/-- A block of the third projection. -/
abbrev uBlk (c : Dev nD) (t : Fin cfg0.N) : S4096x128.Idx → EReal := iblk m c 3 t
/-- A block of the taps. -/
abbrev wBlk (c : Dev nD) (t : Fin cfg0.N) : S8x128.Idx → EReal := iblk m c 4 t

/-- Where each window's block begins, in blocks, at every point. -/
theorem index0 : ∀ t : Fin cfg0.N, win0_0.index t 0 = 0 ∧ win0_0.index t 1 = t.val / 3 :=
  (by decide +kernel : ∀ t : Fin grid0.N, win0_0.index t 0 = 0 ∧ win0_0.index t 1 = t.val / 3)
/-- Which block of the first projection a point uses. -/
theorem index1 : ∀ t : Fin cfg0.N, win0_1.index t 0 = 0 ∧ win0_1.index t 1 = t.val / 3 :=
  (by decide +kernel : ∀ t : Fin grid0.N, win0_1.index t 0 = 0 ∧ win0_1.index t 1 = t.val / 3)
/-- Which block of the second projection a point uses. -/
theorem index2 : ∀ t : Fin cfg0.N, win0_2.index t 0 = 0 ∧ win0_2.index t 1 = 16 + t.val / 3 :=
  (by decide +kernel : ∀ t : Fin grid0.N, win0_2.index t 0 = 0 ∧ win0_2.index t 1 = 16 + t.val / 3)
/-- Which block of the third projection a point uses. -/
theorem index3 : ∀ t : Fin cfg0.N, win0_3.index t 0 = 0 ∧ win0_3.index t 1 = 32 + t.val / 3 :=
  (by decide +kernel : ∀ t : Fin grid0.N, win0_3.index t 0 = 0 ∧ win0_3.index t 1 = 32 + t.val / 3)
/-- Which block of the taps a point uses. -/
theorem index4 : ∀ t : Fin cfg0.N, win0_4.index t 0 = 0 ∧ win0_4.index t 1 = t.val / 3 :=
  (by decide +kernel : ∀ t : Fin grid0.N, win0_4.index t 0 = 0 ∧ win0_4.index t 1 = t.val / 3)
/-- Which block of the projections' gradient a point uses. -/
theorem index5 : ∀ t : Fin cfg0.N, win0_5.index t 0 = 0 ∧ win0_5.index t 1 = 16 * (t.val % 3) + t.val / 3 :=
  (by decide +kernel : ∀ t : Fin grid0.N, win0_5.index t 0 = 0 ∧ win0_5.index t 1 = 16 * (t.val % 3) + t.val / 3)
/-- Which block of the taps' gradient a point uses. -/
theorem index6 : ∀ t : Fin cfg0.N, win0_6.index t 0 = 0 ∧ win0_6.index t 1 = t.val / 3 :=
  (by decide +kernel : ∀ t : Fin grid0.N, win0_6.index t 0 = 0 ∧ win0_6.index t 1 = t.val / 3)

/-- The second coordinate of a point is its step within the channel block. -/
theorem step_val (t : Fin cfg0.N) : (grid0.coords t 1).val = t.val % 3 := by
  have e1 : (grid0.coords t 1).val = t.val / 1 % 3 := Pipeline.Grid.coords_val t 1 (by decide) rfl
  rw [e1, Nat.div_one]

/-- An element of a point's block of the gradient. -/
theorem iblk0_apply (c : Dev nD) (t : Fin cfg0.N) (r : Fin 4096) (l : Fin 128) (q : Fin 2048) (hq : q.val = 128 * (t.val / 3) + l.val) :
    gBlk m c t (ix2 r l) = gArg m c (ix2 r q) := by
  show iblk m c 0 t _ = _
  unfold iblk
  rw [View.read_apply]
  show V m c main_arg0 _ = _
  rw [V_main_arg0]
  refine congrArg (m ((c.tc : Thread nD τ).loc main_arg0)) (funext fun a => Fin.ext ?_)
  match a with
  | ⟨0, _⟩ => show win0_0.index t 0 * 4096 + 1 * r.val = r.val; rw [(index0 t).1]; omega
  | ⟨1, _⟩ => show win0_0.index t 1 * 128 + 1 * l.val = q.val; rw [(index0 t).2, hq]; omega

/-- An element of a point's block of the first projection. -/
theorem iblk1_apply (c : Dev nD) (t : Fin cfg0.N) (r : Fin 4096) (l : Fin 128) (q : Fin 6144) (hq : q.val = 128 * (t.val / 3) + l.val) :
    bBlk m c t (ix2 r l) = pArg m c (ix2 r q) := by
  show iblk m c 1 t _ = _
  unfold iblk
  rw [View.read_apply]
  show V m c main_arg1 _ = _
  rw [V_main_arg1]
  refine congrArg (m ((c.tc : Thread nD τ).loc main_arg1)) (funext fun a => Fin.ext ?_)
  match a with
  | ⟨0, _⟩ => show win0_1.index t 0 * 4096 + 1 * r.val = r.val; rw [(index1 t).1]; omega
  | ⟨1, _⟩ => show win0_1.index t 1 * 128 + 1 * l.val = q.val; rw [(index1 t).2, hq]; omega

/-- An element of a point's block of the second projection. -/
theorem iblk2_apply (c : Dev nD) (t : Fin cfg0.N) (r : Fin 4096) (l : Fin 128) (q : Fin 6144) (hq : q.val = 2048 + (128 * (t.val / 3) + l.val)) :
    cBlk m c t (ix2 r l) = pArg m c (ix2 r q) := by
  show iblk m c 2 t _ = _
  unfold iblk
  rw [View.read_apply]
  show V m c main_arg1 _ = _
  rw [V_main_arg1]
  refine congrArg (m ((c.tc : Thread nD τ).loc main_arg1)) (funext fun a => Fin.ext ?_)
  match a with
  | ⟨0, _⟩ => show win0_2.index t 0 * 4096 + 1 * r.val = r.val; rw [(index2 t).1]; omega
  | ⟨1, _⟩ => show win0_2.index t 1 * 128 + 1 * l.val = q.val; rw [(index2 t).2, hq]; omega

/-- An element of a point's block of the third projection. -/
theorem iblk3_apply (c : Dev nD) (t : Fin cfg0.N) (r : Fin 4096) (l : Fin 128) (q : Fin 6144) (hq : q.val = 4096 + (128 * (t.val / 3) + l.val)) :
    uBlk m c t (ix2 r l) = pArg m c (ix2 r q) := by
  show iblk m c 3 t _ = _
  unfold iblk
  rw [View.read_apply]
  show V m c main_arg1 _ = _
  rw [V_main_arg1]
  refine congrArg (m ((c.tc : Thread nD τ).loc main_arg1)) (funext fun a => Fin.ext ?_)
  match a with
  | ⟨0, _⟩ => show win0_3.index t 0 * 4096 + 1 * r.val = r.val; rw [(index3 t).1]; omega
  | ⟨1, _⟩ => show win0_3.index t 1 * 128 + 1 * l.val = q.val; rw [(index3 t).2, hq]; omega

/-- The padded weights: their first three rows are the weights. -/
theorem padded_apply (c : Dev nD) (a : Fin 3) (q : Fin 2048) :
    (V m c main_v0 : S8x2048.Idx → EReal) (ix2 ⟨a.val, by omega⟩ q) = wArg m c (ix2 a q) := by
  have e : (V m c main_v0 : S8x2048.Idx → EReal) = pad S8x2048 ![0, 0] ![5, 0] ![0, 0] (wArg m c) (V m c main_call0_v0) pads_S3x2048_S8x2048_050_000 h_S_ := by
    unfold V
    simp only [hostOps0, hostOps0_1, List.flatten_cons, List.flatten_nil, List.append_nil, List.cons_append, List.nil_append]
    after_results
    rfl
  rw [e]
  pointwise []

/-- An element of a point's block of the taps. -/
theorem iblk4_apply (c : Dev nD) (t : Fin cfg0.N) (a : Fin 3) (l : Fin 128) (q : Fin 2048) (hq : q.val = 128 * (t.val / 3) + l.val) :
    wBlk m c t (ix2 ⟨a.val, by omega⟩ l) = wArg m c (ix2 a q) := by
  rw [← padded_apply m c a q]
  show iblk m c 4 t _ = _
  unfold iblk
  rw [View.read_apply]
  show V m c main_v0 _ = _
  refine congrArg (V m c main_v0) (funext fun b => Fin.ext ?_)
  match b with
  | ⟨0, _⟩ => show win0_4.index t 0 * 8 + 1 * a.val = a.val; rw [(index4 t).1]; omega
  | ⟨1, _⟩ => show win0_4.index t 1 * 128 + 1 * l.val = q.val; rw [(index4 t).2, hq]; omega

/-! ## The blocks written -/

/-- Every block of the projection's gradient. -/
theorem gradAt_apply (c : Dev nD) (t : Fin cfg0.N) (r : Fin 4096) (l : Fin 128) (q : Fin 6144)
    (hq : q.val = 128 * (16 * (t.val % 3) + t.val / 3) + l.val) :
    (gradAt m c t : S4096x128.Idx → EReal) (ix2 r l) = projGrad (gArg m c) (pArg m c) (wArg m c) r q := by
  have ht := point_lt t
  have hl := l.isLt
  have e0 (r : Fin 4096) := iblk0_apply m c t r l ⟨128 * (t.val / 3) + l.val, by omega⟩ rfl
  have e1 (r : Fin 4096) := iblk1_apply m c t r l ⟨128 * (t.val / 3) + l.val, by omega⟩ rfl
  have e2 (r : Fin 4096) := iblk2_apply m c t r l ⟨2048 + (128 * (t.val / 3) + l.val), by omega⟩ rfl
  have e3 (r : Fin 4096) := iblk3_apply m c t r l ⟨4096 + (128 * (t.val / 3) + l.val), by omega⟩ rfl
  have w0 := iblk4_apply m c t 0 l ⟨128 * (t.val / 3) + l.val, by omega⟩ rfl
  have w1 := iblk4_apply m c t 1 l ⟨128 * (t.val / 3) + l.val, by omega⟩ rfl
  have w2 := iblk4_apply m c t 2 l ⟨128 * (t.val / 3) + l.val, by omega⟩ rfl
  unfold gradAt
  by_cases h0 : t.val % 3 = 0
  · rw [if_pos h0]
    refine (gradGate_apply (gBlk m c t) (cBlk m c t) (uBlk m c t) (wBlk m c t) r l).trans ?_
    unfold projGrad
    rw [dif_pos (by omega)]
    have hq' : q.val = 128 * (t.val / 3) + l.val := by omega
    simp only [hq']
    refine congrArg₂ (· * ·) (e0 r) ?_
    rw [show (fun r => cBlk m c t (ix2 r l) * uBlk m c t (ix2 r l)) = _ from funext fun r => congrArg₂ (· * ·) (e2 r) (e3 r)]
    unfold conv
    exact congrArg₂ (· + ·) (congrArg₂ (· + ·) (congrArg (· * _) w0) (congrArg (· * _) w1)) (congrArg (· * _) w2)
  · rw [if_neg h0]
    refine (gradInner_apply (grid0.coords t) (gBlk m c t) (bBlk m c t) (cBlk m c t) (uBlk m c t) (wBlk m c t) r l).trans ?_
    rw [step_val]
    have hg : convT (wBlk m c t (ix2 0 l)) (wBlk m c t (ix2 1 l)) (wBlk m c t (ix2 2 l))
        (fun r => gBlk m c t (ix2 r l) * bBlk m c t (ix2 r l)) r
        = convT (wArg m c (ix2 0 ⟨128 * (t.val / 3) + l.val, by omega⟩)) (wArg m c (ix2 1 ⟨128 * (t.val / 3) + l.val, by omega⟩)) (wArg m c (ix2 2 ⟨128 * (t.val / 3) + l.val, by omega⟩))
          (fun r => gArg m c (ix2 r ⟨128 * (t.val / 3) + l.val, by omega⟩) * pArg m c (ix2 r ⟨128 * (t.val / 3) + l.val, by omega⟩)) r := by
      rw [show (fun r => gBlk m c t (ix2 r l) * bBlk m c t (ix2 r l)) = _ from funext fun r => congrArg₂ (· * ·) (e0 r) (e1 r)]
      unfold convT
      exact congrArg₂ (· + ·) (congrArg₂ (· + ·) (congrArg (· * _) w2) (congrArg (· * _) w1)) (congrArg (· * _) w0)
    refine (congrArg (· * _) hg).trans ?_
    unfold projGrad
    by_cases h1 : t.val % 3 = 1
    · rw [if_pos h1, dif_neg (by omega), dif_pos (by omega)]
      have hq' : q.val - 2048 = 128 * (t.val / 3) + l.val := by omega
      simp only [hq']
      exact congrArg (_ * ·) (e3 r)
    · rw [if_neg h1, dif_neg (by omega), dif_neg (by omega)]
      have hq' : q.val - 4096 = 128 * (t.val / 3) + l.val := by omega
      simp only [hq']
      exact congrArg (_ * ·) (e2 r)

/-- Every block of the taps' gradient. -/
theorem tapsAt_apply (c : Dev nD) (t : Fin cfg0.N) (a : Fin 8) (l : Fin 128) (q : Fin 2048) (hq : q.val = 128 * (t.val / 3) + l.val) :
    (tapsAt m c t : S8x128.Idx → EReal) (ix2 a l) = tapsGrad (gArg m c) (pArg m c) a q := by
  have ht := point_lt t
  have hl := l.isLt
  have hs : (start t).val / 3 = t.val / 3 := by show (t.val - t.val % 3) / 3 = t.val / 3; omega
  have hq' : q.val = 128 * ((start t).val / 3) + l.val := by rw [hs, hq]
  have e0 (r : Fin 4096) := iblk0_apply m c (start t) r l q hq'
  have e1 (r : Fin 4096) := iblk1_apply m c (start t) r l ⟨q.val, by omega⟩ hq'
  have e2 (r : Fin 4096) := iblk2_apply m c (start t) r l ⟨2048 + q.val, by omega⟩ (by rw [← hq'])
  have e3 (r : Fin 4096) := iblk3_apply m c (start t) r l ⟨4096 + q.val, by omega⟩ (by rw [← hq'])
  unfold tapsAt
  refine (gradTaps_apply (gBlk m c (start t)) (bBlk m c (start t)) (cBlk m c (start t)) (uBlk m c (start t)) a l).trans ?_
  unfold tapsGrad
  refine if_congr Iff.rfl (Finset.sum_congr rfl fun r _ => ?_) rfl
  rw [show (fun r => cBlk m c (start t) (ix2 r l) * uBlk m c (start t) (ix2 r l)) = _ from funext fun r => congrArg₂ (· * ·) (e2 r) (e3 r)]
  exact congrArg (· * _) (congrArg₂ (· * ·) (e0 r) (e1 r))

/-! ## The result arrays -/

/-- The projection's gradient, as the array the kernel leaves. -/
def gradFinal (c : Dev nD) : S4096x6144.Idx → EReal := fun i => projGrad (gArg m c) (pArg m c) (wArg m c) (i 0) (i 1)
/-- The taps' gradient, as the array the kernel leaves. -/
def tapsFinal (c : Dev nD) : S8x2048.Idx → EReal := fun i => tapsGrad (gArg m c) (pArg m c) (i 0) (i 1)

/-- What a point writes back of the projections' gradient is its block of the result. -/
theorem flushed5 (c : Dev nD) (t : Fin cfg0.N) (hf : (cfg0.win 5).flush t = true) :
    (dats m 0 c).flushed 5 t = ((cfg0.win 5).blk t).view.read (Elt Ideal) (gradFinal m c) := by
  have ht := point_lt t
  show (cfg0.win 5).cut (grid0.coords t) ((dats m 0 c).after 5 t) = _
  rw [after5]
  funext j
  rw [View.read_apply]
  have hl : (j 1).val < 128 := (j 1).isLt
  refine Eq.trans (b := (gradAt m c t : S4096x128.Idx → EReal) (ix2 (j 0) (j 1))) (congrArg (gradAt m c t) (Shape.idx_ext₂ rfl rfl)) ?_
  rw [gradAt_apply m c t (j 0) (j 1) ⟨128 * (16 * (t.val % 3) + t.val / 3) + (j 1).val, by omega⟩ rfl]
  unfold gradFinal
  refine congrArg₂ (projGrad (gArg m c) (pArg m c) (wArg m c)) (Fin.ext ?_) (Fin.ext ?_)
  · show (j 0).val = win0_5.index t 0 * 4096 + 1 * (j 0).val; rw [(index5 t).1]; omega
  · show 128 * (16 * (t.val % 3) + t.val / 3) + (j 1).val = win0_5.index t 1 * 128 + 1 * (j 1).val; rw [(index5 t).2]; omega

/-- What a point writes back of the taps' gradient is its block of the result. -/
theorem flushed6 (c : Dev nD) (t : Fin cfg0.N) (hf : (cfg0.win 6).flush t = true) :
    (dats m 0 c).flushed 6 t = ((cfg0.win 6).blk t).view.read (Elt Ideal) (tapsFinal m c) := by
  have ht := point_lt t
  show (cfg0.win 6).cut (grid0.coords t) ((dats m 0 c).after 6 t) = _
  rw [after6]
  funext j
  rw [View.read_apply]
  have hl : (j 1).val < 128 := (j 1).isLt
  refine Eq.trans (b := (tapsAt m c t : S8x128.Idx → EReal) (ix2 (j 0) (j 1))) (congrArg (tapsAt m c t) (Shape.idx_ext₂ rfl rfl)) ?_
  rw [tapsAt_apply m c t (j 0) (j 1) ⟨128 * (t.val / 3) + (j 1).val, by omega⟩ rfl]
  unfold tapsFinal
  refine congrArg₂ (tapsGrad (gArg m c) (pArg m c)) (Fin.ext ?_) (Fin.ext ?_)
  · show (j 0).val = win0_6.index t 0 * 8 + 1 * (j 0).val; rw [(index6 t).1]; omega
  · show 128 * (t.val / 3) + (j 1).val = win0_6.index t 1 * 128 + 1 * (j 1).val; rw [(index6 t).2]; omega

/-- The blocks written cover the projection's gradient. -/
theorem final5 (c : Dev nD) : (dats m 0 c).arrAt 5 cfg0.N = gradFinal m c :=
  (dats m 0 c).arrAt_eq_of_cover 5 (gradFinal m c) (flushed5 m c) fun (i : S4096x6144.Idx) => by
    have h0 : (i 0 : Nat) < 4096 := (i 0).isLt
    have h1 : (i 1 : Nat) < 6144 := (i 1).isLt
    have hN : cfg0.N = 48 := N_0
    obtain ⟨t, ht⟩ : ∃ t : Fin cfg0.N, t = ⟨3 * ((i 1 : Nat) / 128 % 16) + (i 1 : Nat) / 2048, by rw [hN]; omega⟩ := ⟨_, rfl⟩
    have ht' := congrArg Fin.val ht
    dsimp only at ht'
    refine ⟨t, flush0_5 t, ?_⟩
    have hj : (i 1 : Nat) / 2048 = (i 1 : Nat) / 128 / 16 := by omega
    have hj' : (i 1 : Nat) / 2048 ≤ 2 := by omega
    have hk : t.val / 3 = (i 1 : Nat) / 128 % 16 := by omega
    have hs : t.val % 3 = (i 1 : Nat) / 2048 := by omega
    clear ht ht'
    show i ∈ ((View.whole main_v1_0).slice (win0_5.rect t)).set
    rw [View.set_slice_whole, Rect.mem_set_unit]
    intro a
    match a with
    | ⟨0, _⟩ =>
      show win0_5.index t 0 * 4096 ≤ (i 0 : Nat) ∧ (i 0 : Nat) < win0_5.index t 0 * 4096 + 4096
      rw [(index5 t).1]; omega
    | ⟨1, _⟩ =>
      show win0_5.index t 1 * 128 ≤ (i 1 : Nat) ∧ (i 1 : Nat) < win0_5.index t 1 * 128 + 128
      rw [(index5 t).2, hk, hs]
      omega

/-- The blocks written cover the taps' gradient. -/
theorem final6 (c : Dev nD) : (dats m 0 c).arrAt 6 cfg0.N = tapsFinal m c :=
  (dats m 0 c).arrAt_eq_of_cover 6 (tapsFinal m c) (flushed6 m c) fun (i : S8x2048.Idx) => by
    have h0 : (i 0 : Nat) < 8 := (i 0).isLt
    have h1 : (i 1 : Nat) < 2048 := (i 1).isLt
    have hN : cfg0.N = 48 := N_0
    obtain ⟨t, ht⟩ : ∃ t : Fin cfg0.N, t = ⟨3 * ((i 1 : Nat) / 128) + 2, by rw [hN]; omega⟩ := ⟨_, rfl⟩
    have ht' := congrArg Fin.val ht
    dsimp only at ht'
    refine ⟨t, (flush0_6 t).mpr (by omega), ?_⟩
    show i ∈ ((View.whole main_v1_1).slice (win0_6.rect t)).set
    rw [View.set_slice_whole, Rect.mem_set_unit]
    intro a
    match a with
    | ⟨0, _⟩ =>
      show win0_6.index t 0 * 8 ≤ (i 0 : Nat) ∧ (i 0 : Nat) < win0_6.index t 0 * 8 + 8
      rw [(index6 t).1]; omega
    | ⟨1, _⟩ =>
      show win0_6.index t 1 * 128 ≤ (i 1 : Nat) ∧ (i 1 : Nat) < win0_6.index t 1 * 128 + 128
      rw [(index6 t).2]
      omega

/-- The array of the projections' gradient at the end. -/
theorem gradFinal_eq (c : Dev nD) : gradFinal m c = refGrad (gArg m c) (pArg m c) (wArg m c) :=
  funext fun i => by
    obtain ⟨r, q, rfl⟩ : ∃ r q, i = ix2 r q := ⟨i 0, i 1, Shape.idx_ext₂ rfl rfl⟩
    exact (refGrad_apply (gArg m c) (pArg m c) (wArg m c) r q).symm

/-- The array of the taps' gradient at the end. -/
theorem tapsFinal_eq (c : Dev nD) : tapsFinal m c = refTaps (gArg m c) (pArg m c) :=
  funext fun i => by
    obtain ⟨r, q, rfl⟩ : ∃ r q, i = ix2 r q := ⟨i 0, i 1, Shape.idx_ext₂ rfl rfl⟩
    exact (refTaps_apply (gArg m c) (pArg m c) r q).symm

/-- The kernel's run: its results are the reference's, its arguments unchanged. -/
theorem kernel_run : θ_run defs (onTc (τ := τ) (main (F := Ideal))) ⟨m, fun _ => 0, ρ⟩ fun r => ∀ c : Dev nD,
      r.2.mem ((c.tc : Thread nD τ).loc main_v1_0) = refGrad (gArg m c) (pArg m c) (wArg m c)
      ∧ r.2.mem ((c.tc : Thread nD τ).loc main_v1_1) = refTaps (gArg m c) (pArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 5).trans ((final5 m c).trans (gradFinal_eq m c)), ((h.1 c).1 6).trans ((final6 m c).trans (tapsFinal_eq m c)), h.2 c⟩)
    (θ_run_and (run_main m ρ) (unchanged m ρ))

end Cert.Conv

end
-- ==== Proof.AttnLoop.lean ====
/-
  The counted loop of the gradient of the attention: at key block `j` the query blocks below it, one trip each. A trip
  adds to the key and value gradients carried from trip to trip and to the query gradient's rows in the scratch buffer.
  What the loop carries is stated as a plain recursion over vectors, and the loop's invariant says it holds that.
-/
module

public import proofs.«01_k».proof.Proof.Gen.Kernel2Ideal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 16384
set_option maxHeartbeats 4000000

noncomputable section

namespace Cert.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The rows of a trip's query block in a buffer of 256 lanes, in the row statistics, and in a buffer of 128 lanes. -/
abbrev rectQ (i : grid0.Coords) (k : Fin (k0_t1_loop i).trips) : Rect S4096x256 := Rect.unit (s := S4096x256) (k0_off4 i k) S512x256.size (k0_off4_inb i k)
/-- The output's rows that a trip reads. -/
abbrev rectV (i : grid0.Coords) (k : Fin (k0_t1_loop i).trips) : Rect S4096x128 := Rect.unit (s := S4096x128) (k0_off5 i k) S512x128.size (k0_off5_inb i k)
/-- The row constants that a trip reads. -/
abbrev rectL (i : grid0.Coords) (k : Fin (k0_t1_loop i).trips) : Rect S4096x128 := Rect.unit (s := S4096x128) (k0_off6 i k) S512x1.size (k0_off6_inb i k)

/-- What one trip leaves in the query gradient's rows, from the scratch as found. -/
abbrev tripRows (i : grid0.Coords) (v7 : FVec F S512x256 .bf16) (v9 : FVec F S512x128 .bf16) (q : Vec F S4096x256 .bf16) (o : Vec F S4096x128 .bf16) (l : Vec F S4096x128 .f32) (d : Vec F S4096x128 .bf16)
    (k : Fin (k0_t1_loop i).trips) (s : Vec F S4096x256 .f32) : FVec F S512x256 .f32 :=
  k0_pay31 (k0_pay9 v7 v9 (View.ld q (rectQ i k)) (View.ld d (rectV i k)) (View.ld o (rectV i k)) (View.ld l (rectL i k)) (View.ld s (rectQ i k)))

/-- What one trip makes of the carried key and value gradients. -/
abbrev tripAcc (i : grid0.Coords) (v7 : FVec F S512x256 .bf16) (v9 : FVec F S512x128 .bf16) (q : Vec F S4096x256 .bf16) (o : Vec F S4096x128 .bf16) (l : Vec F S4096x128 .f32) (d : Vec F S4096x128 .bf16)
    (k : Fin (k0_t1_loop i).trips) (a : FVec F S512x256 .f32 × FVec F S512x128 .f32) : FVec F S512x256 .f32 × FVec F S512x128 .f32 :=
  (k0_pay8 v7 v9 a.1 (View.ld q (rectQ i k)) (View.ld d (rectV i k)) (View.ld o (rectV i k)) (View.ld l (rectL i k)),
   k0_pay6 v7 a.2 (View.ld q (rectQ i k)) (View.ld d (rectV i k)) (View.ld l (rectL i k)))

/-- The carried gradients and the scratch before trip `k`, over vectors. -/
def carried (i : grid0.Coords) (v7 : FVec F S512x256 .bf16) (v9 : FVec F S512x128 .bf16) (q : Vec F S4096x256 .bf16) (o : Vec F S4096x128 .bf16) (l : Vec F S4096x128 .f32) (d : Vec F S4096x128 .bf16)
    (s : Vec F S4096x256 .f32) (init : FVec F S512x256 .f32 × FVec F S512x128 .f32) : ℕ → (FVec F S512x256 .f32 × FVec F S512x128 .f32) × Vec F S4096x256 .f32
  | 0 => (init, s)
  | k + 1 =>
    let p := carried i v7 v9 q o l d s init k
    if h : k < (k0_t1_loop i).trips then
      (tripAcc i v7 v9 q o l d ⟨k, h⟩ p.1, VecWindow.put p.2 (k0_off4 i ⟨k, h⟩) S512x256.size (tripRows i v7 v9 q o l d ⟨k, h⟩ p.2))
    else p

/-- What one more trip carries on. -/
theorem carried_succ (i : grid0.Coords) (v7 : FVec F S512x256 .bf16) (v9 : FVec F S512x128 .bf16) (q : Vec F S4096x256 .bf16) (o : Vec F S4096x128 .bf16) (l : Vec F S4096x128 .f32) (d : Vec F S4096x128 .bf16)
    (s : Vec F S4096x256 .f32) (init : FVec F S512x256 .f32 × FVec F S512x128 .f32) (k : Fin (k0_t1_loop i).trips) :
    carried i v7 v9 q o l d s init (k.val + 1)
      = (tripAcc i v7 v9 q o l d k (carried i v7 v9 q o l d s init k.val).1,
         VecWindow.put (carried i v7 v9 q o l d s init k.val).2 (k0_off4 i k) S512x256.size (tripRows i v7 v9 q o l d k (carried i v7 v9 q o l d s init k.val).2)) := by
  rw [carried]; exact dif_pos k.isLt

set_option warn.classDefReducibility false in
/-- The loop by its invariant: the buffers read stay as they are, the scratch and the carried gradients are the recursion's. -/
@[sl_loop] def t1Inv (c : Dev nD) (E : Set ℕ) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .bf16) (harg13 : arg13.IsWhole) (arg14 : Memref sig .tc .vmem S4096x256 .f32) (harg14 : arg14.IsWhole) (arg1 : BitVec 32) (v7 : FVec F S512x256 .bf16) (v9 : FVec F S512x128 .bf16) (v10 : FVec F S512x256 .f32) (v11 : FVec F S512x128 .f32) (v13 : BitVec 32) (v16 : FVec F S512x256 .bf16) (v19 : FVec F S512x128 .bf16) (v27 : FVec F S512x1 .f32) (v36 : FVec F S512x512 .f32) (v37 : IVec S512x512 32) (c0_i32_13 : BitVec 32) (v64 : BitVec 32) (init : FVec F S512x256 .f32 × FVec F S512x128 .f32)
    (q : Vec F S4096x256 .bf16) (o : Vec F S4096x128 .bf16) (l : Vec F S4096x128 .f32) (d : Vec F S4096x128 .bf16) (s : Vec F S4096x256 .f32) :
    Idealize.ShloMosaic.LoopInv (M := 𝕄) Idealize.ShloMosaic.frame (wpE (defs₀ (F := F)) Variants.none (c : Thread nD τ) none) E
      (k0_t1_loop i).lb (k0_t1_loop i).ub (k0_t1_loop i).st (k0_t1_ok i) init (k0_t1_body (F := F) i arg2 harg2 arg3 harg3 arg4 harg4 arg5 harg5 arg6 harg6 arg7 harg7 arg8 harg8 arg9 harg9 arg10 harg10 arg11 harg11 arg12 harg12 arg13 harg13 arg14 harg14 arg1 v7 v9 v10 v11 v13 v16 v19 v27 v36 v37 c0_i32_13 v64) where
  inv := fun k acc => iprop((arg2.view.loc (c : Thread nD τ) ↦[arg2.view.set]{fullShare} harg2.unread q) ∗ (arg5.view.loc (c : Thread nD τ) ↦[arg5.view.set]{fullShare} harg5.unread o)
    ∗ (arg6.view.loc (c : Thread nD τ) ↦[arg6.view.set]{fullShare} harg6.unread l) ∗ (arg7.view.loc (c : Thread nD τ) ↦[arg7.view.set]{fullShare} harg7.unread d)
    ∗ (∃ f, (arg14.view.loc (c : Thread nD τ) ↦[arg14.view.set]{fullShare} f) ∗ ⌜arg14.view.read (Elt F) f = (carried i v7 v9 q o l d s init k).2⌝) ∗ ⌜acc = (carried i v7 v9 q o l d s init k).1⌝)
  step k acc := by
    iintro ⟨H2, H5, H6, H7, ⟨%f, H14, %hf⟩, %ha⟩
    subst ha
    unfold k0_t1_body
    simp only [k0_part1_eq_skeleton]
    unfold k0_part1_skel
    sl_exec
    sl_step
    simp only [carried_succ]
    isplitl [H2]; · iexact H2
    isplitl [H5]; · iexact H5
    isplitl [H6]; · iexact H6
    isplitl [H7]; · iexact H7
    isplitl [H14]
    · iexists _; isplitl [H14]; · iexact H14
      ipureintro
      rw [View.read_writes_cons_put _ _ _ _ _ rfl, View.writes_nil, hf]
      simp only [View.readAt_eq_ld, harg2.read_unread, harg5.read_unread, harg6.read_unread, harg7.read_unread, hf]
    ipureintro
    simp only [View.readAt_eq_ld, harg2.read_unread, harg5.read_unread, harg6.read_unread, harg7.read_unread, hf]

end Cert.Attn

end
-- ==== Proof.AttnBody.lean ====
/-
  One run of the gradient of the attention, at one key block of one head: what it leaves in each buffer as a function of
  what it finds there. At a head's first key block the scratch is cleared, at its last the query gradient is written out.
-/
module

public import proofs.«01_k».proof.Proof.AttnLoop
public import Idealize.ShloMosaic.Lib.Pipeline.FrameBody
public import Idealize.ShloMosaic.Lib.Pointwise

@[expose] public section

set_option maxRecDepth 16384

noncomputable section

namespace Cert.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic (ix2)

variable {F : FTy → Type} [FloatOps F] [Named F]

local notation "𝕄" => MT nD τ sig Unit (Elt F) ℕ (UR sig nD τ) ℕ

/-- The point is a head's first key block, and its last. -/
abbrev firstKey (i : grid0.Coords) : Prop := Scalar.cmpi .ne (Scalar.extui (Scalar.cmpi .eq (BitVec.ofNat 32 (i 1).val) 0#32)) 0#32 = 1#1
/-- The grid point is at the last block of keys. -/
abbrev lastKey (i : grid0.Coords) : Prop := k0_cond2 i = 1#1

/-- The program's second loop makes no trip. -/
theorem noTrips (i : grid0.Coords) : (k0_t2_loop i).trips = 0 := by
  have h : ∀ j : Fin 8, (k0_t2_loop (fun a => match a with | ⟨0, _⟩ => (0 : Fin 16) | ⟨1, _⟩ => j : grid0.Coords)).trips = 0 := by decide +kernel
  exact h (i 1)

/-- The key block with its rotated part, and the value block. -/
abbrev keyOf (x1 : Vec F S512x256 .bf16) (x2 : Vec F S512x128 .bf16) : FVec F S512x256 .bf16 :=
  k0_pay18 (View.ld x1 (Rect.unit (s := S512x256) ![0, 0] S512x128.size inb_S512x256_S512x128_0_0)) x2
/-- The values, out of the block of keys and values. -/
abbrev valOf (x1 : Vec F S512x256 .bf16) : FVec F S512x128 .bf16 :=
  k0_pay19 (View.ld x1 (Rect.unit (s := S512x256) ![0, 128] S512x128.size inb_S512x256_S512x128_0_128))

/-- The rows of the diagonal block's queries. -/
abbrev diagQ (i : grid0.Coords) : Rect S4096x256 := Rect.unit (s := S4096x256) (k0_off1 i) S512x256.size (k0_off1_inb i)
/-- The output's rows of the diagonal block. -/
abbrev diagV (i : grid0.Coords) : Rect S4096x128 := Rect.unit (s := S4096x128) (k0_off2 i) S512x128.size (k0_off2_inb i)
/-- The row constants' rows of the diagonal block. -/
abbrev diagL (i : grid0.Coords) : Rect S4096x128 := Rect.unit (s := S4096x128) (k0_off3 i) S512x1.size (k0_off3_inb i)

/-- What the diagonal block makes of the scratch, and of the key and value gradients. -/
abbrev diagRows (i : grid0.Coords) (x0 : Vec F S4096x256 .bf16) (x1 : Vec F S512x256 .bf16) (x2 : Vec F S512x128 .bf16) (x3 : Vec F S4096x128 .bf16) (x4 : Vec F S4096x128 .f32) (x5 : Vec F S4096x128 .bf16)
    (s : Vec F S4096x256 .f32) : FVec F S512x256 .f32 :=
  k0_pay30 (keyOf x1 x2) (valOf x1) (k0_pay23 (View.ld x5 (diagV i))) (k0_pay24 (View.ld x5 (diagV i)) (View.ld x3 (diagV i)))
    (k0_pay25 (View.ld x1 (Rect.unit (s := S512x256) ![0, 0] S512x128.size inb_S512x256_S512x128_0_0)) x2 (View.ld x0 (diagQ i)) (View.ld x4 (diagL i)))
    (iota .tc S512x512 32 [0] iota_S512x512_d0_w32) 0#32 (View.ld s (diagQ i))
/-- The key and value gradients that the diagonal block starts. -/
abbrev diagAcc (i : grid0.Coords) (x0 : Vec F S4096x256 .bf16) (x1 : Vec F S512x256 .bf16) (x2 : Vec F S512x128 .bf16) (x3 : Vec F S4096x128 .bf16) (x4 : Vec F S4096x128 .f32) (x5 : Vec F S4096x128 .bf16) :
    FVec F S512x256 .f32 × FVec F S512x128 .f32 :=
  (k0_pay29 (valOf x1) (k0_pay20 (F := F)) (k0_pay22 (View.ld x0 (diagQ i))) (k0_pay23 (View.ld x5 (diagV i))) (k0_pay24 (View.ld x5 (diagV i)) (View.ld x3 (diagV i)))
    (k0_pay25 (View.ld x1 (Rect.unit (s := S512x256) ![0, 0] S512x128.size inb_S512x256_S512x128_0_0)) x2 (View.ld x0 (diagQ i)) (View.ld x4 (diagL i)))
    (iota .tc S512x512 32 [0] iota_S512x512_d0_w32) 0#32,
   k0_pay27 (k0_pay21 (F := F)) (k0_pay23 (View.ld x5 (diagV i)))
    (k0_pay25 (View.ld x1 (Rect.unit (s := S512x256) ![0, 0] S512x128.size inb_S512x256_S512x128_0_0)) x2 (View.ld x0 (diagQ i)) (View.ld x4 (diagL i)))
    (iota .tc S512x512 32 [0] iota_S512x512_d0_w32) 0#32)

/-- The key and value gradients and the scratch when the point is done, from the scratch it starts with. -/
def finish (i : grid0.Coords) (x0 : Vec F S4096x256 .bf16) (x1 : Vec F S512x256 .bf16) (x2 : Vec F S512x128 .bf16) (x3 : Vec F S4096x128 .bf16) (x4 : Vec F S4096x128 .f32) (x5 : Vec F S4096x128 .bf16)
    (s : Vec F S4096x256 .f32) : (FVec F S512x256 .f32 × FVec F S512x128 .f32) × Vec F S4096x256 .f32 :=
  carried i (keyOf x1 x2) (valOf x1) x0 x3 x4 x5 (VecWindow.put s (k0_off1 i) S512x256.size (diagRows i x0 x1 x2 x3 x4 x5 s)) (diagAcc i x0 x1 x2 x3 x4 x5)
    (k0_t1_loop i).trips

/-- The block of key and value gradients. -/
def outKV (a : FVec F S512x256 .f32 × FVec F S512x128 .f32) : Vec F S512x256 .bf16 := fun y =>
  if h : (y 1).val < 128 then k0_pay33 a.1 (ix2 (y 0) ⟨(y 1).val, h⟩)
  else k0_pay34 a.2 (ix2 (y 0) ⟨(y 1).val - 128, by have : (y 1).val < 256 := (y 1).isLt; omega⟩)

/-- The block of query gradients, the rotated half turned back. -/
def outQ (s : Vec F S4096x256 .f32) (x6 x7 x8 : Vec F S4096x128 .f32) : Vec F S4096x256 .bf16 := fun y =>
  if h : (y 1).val < 128 then k0_pay1 (View.ld s (Rect.unit (s := S4096x256) ![0, 0] S4096x128.size inb_S4096x256_S4096x128_0_0)) (ix2 (y 0) ⟨(y 1).val, h⟩)
  else k0_pay2 (View.ld s (Rect.unit (s := S4096x256) ![0, 128] S4096x128.size inb_S4096x256_S4096x128_0_128)) x6 x7 x8
    (ix2 (y 0) ⟨(y 1).val - 128, by have : (y 1).val < 256 := (y 1).isLt; omega⟩)

/-- Two stores side by side, of the left and of the right half of the lanes. -/
theorem read_halves {α : EltTy → Type} {sig' : RefSig} {κ : Kind} {sp : Space} {e : EltTy} {n : ℕ} (v : View sig' κ sp ⟨2, ![n, 256]⟩ e) (f : v.ty.Contents α)
    (inb : ∀ a, (![0, 0] : Fin 2 → ℕ) a + (![n, 128] : Fin 2 → ℕ) a ≤ (⟨2, ![n, 256]⟩ : Shape).size a)
    (inb' : ∀ a, (![0, 128] : Fin 2 → ℕ) a + (![n, 128] : Fin 2 → ℕ) a ≤ (⟨2, ![n, 256]⟩ : Shape).size a)
    (a b : (⟨2, ![n, 128]⟩ : Shape).Idx → α e) :
    v.read α (v.writes α f [⟨Rect.unit (s := ⟨2, ![n, 256]⟩) ![0, 128] ![n, 128] inb', b⟩, ⟨Rect.unit (s := ⟨2, ![n, 256]⟩) ![0, 0] ![n, 128] inb, a⟩])
      = fun y => if h : (y 1).val < 128 then a (ix2 (y 0) ⟨(y 1).val, h⟩)
          else b (ix2 (y 0) ⟨(y 1).val - 128, by have : (y 1).val < 256 := (y 1).isLt; omega⟩) := by
  rw [View.read_writes_cons_put v f inb' b _ rfl, View.read_writes_cons_put v f inb a _ rfl]
  funext y
  have h0 : (y 0).val < n := (y 0).isLt
  have h1 : (y 1).val < 256 := (y 1).isLt
  unfold VecWindow.put
  by_cases h : (y 1).val < 128
  · rw [dif_neg (fun hh => by have h2 : 128 ≤ (y 1).val := (hh 1).1; omega), dif_pos (fun a => by
      match a with
      | ⟨0, _⟩ => exact ⟨Nat.zero_le _, by show (y 0).val < 0 + n; omega⟩
      | ⟨1, _⟩ => exact ⟨Nat.zero_le _, by show (y 1).val < 0 + 128; omega⟩), dif_pos h]
    refine congrArg a (funext fun k => Fin.ext ?_)
    match k with
    | ⟨0, _⟩ => rfl
    | ⟨1, _⟩ => rfl
  · rw [dif_pos (fun a => by
      match a with
      | ⟨0, _⟩ => exact ⟨Nat.zero_le _, by show (y 0).val < 0 + n; omega⟩
      | ⟨1, _⟩ => exact ⟨by show 128 ≤ (y 1).val; omega, by show (y 1).val < 128 + 128; omega⟩), dif_neg h]
    refine congrArg b (funext fun k => Fin.ext ?_)
    match k with
    | ⟨0, _⟩ => rfl
    | ⟨1, _⟩ => rfl

/-- The zero offsets. -/
theorem hz : (![0, 0] : Fin 2 → ℕ) = fun _ => 0 := by decide

set_option maxHeartbeats 4000000 in
/-- The first part of the body, at a head's first key block: the blocks it loads, and the weights of the diagonal block; the scratch is cleared. -/
theorem part3_first (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .bf16) (harg13 : arg13.IsWhole) (arg14 : Memref sig .tc .vmem S4096x256 .f32) (harg14 : arg14.IsWhole)
    (hc0 : firstKey i) (x0 : Vec F S4096x256 .bf16) (x1 : Vec F S512x256 .bf16) (x2 : Vec F S512x128 .bf16) (x3 : Vec F S4096x128 .bf16) (x4 : Vec F S4096x128 .f32) (x5 : Vec F S4096x128 .bf16) (E : Set ℕ) (K : _ → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg14 fullShare (k0_pay17 (F := F))) -∗ K ⟨BitVec.ofNat 32 (i 1).val, keyOf x1 x2, valOf x1, k0_pay20 (F := F), k0_pay21 (F := F), Scalar.muli (BitVec.ofNat 32 (i 1).val) 512#32, k0_pay22 (View.ld x0 (diagQ i)), k0_pay23 (View.ld x5 (diagV i)), k0_pay24 (View.ld x5 (diagV i)) (View.ld x3 (diagV i)), (k0_pay25 (View.ld x1 (Rect.unit (s := S512x256) ![0, 0] S512x128.size inb_S512x256_S512x128_0_0)) x2 (View.ld x0 (diagQ i)) (View.ld x4 (diagL i))), iota .tc S512x512 32 [0] iota_S512x512_d0_w32, 0#32⟩))
          ⊢ wp frame (wpE (defs₀ (F := F)) Variants.none c none) E (k0_part3 (F := F) i arg2 harg2 arg3 harg3 arg4 harg4 arg5 harg5 arg6 harg6 arg7 harg7 arg8 harg8 arg9 harg9 arg10 harg10 arg11 harg11 arg12 harg12 arg13 harg13 arg14 harg14) K := by
    simp only [k0_part3_eq_skeleton]
    unfold k0_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := sl_exact hc0)
    sl_step
    unfold part3_first.sl.v12 part3_first.sl.v37
    simp only [View.readAt_eq_ld, harg2.read_unread, harg3.read_unread, harg4.read_unread, harg5.read_unread, harg6.read_unread, harg7.read_unread, harg8.read_unread, harg9.read_unread, harg10.read_unread, View.ld_unit_zero (S := S512x128) hz]
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; isplitr; swap; · iexact H14
    ipureintro
    exact View.read_writes_full _ _ _ _ _

set_option maxHeartbeats 4000000 in
/-- The first part of the body, past a head's first key block: the blocks it loads, and the weights of the diagonal block. -/
theorem part3_later (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .bf16) (harg13 : arg13.IsWhole) (arg14 : Memref sig .tc .vmem S4096x256 .f32) (harg14 : arg14.IsWhole)
    (hc0 : ¬ firstKey i) (x0 : Vec F S4096x256 .bf16) (x1 : Vec F S512x256 .bf16) (x2 : Vec F S512x128 .bf16) (x3 : Vec F S4096x128 .bf16) (x4 : Vec F S4096x128 .f32) (x5 : Vec F S4096x128 .bf16) (E : Set ℕ) (K : _ → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5) -∗ K ⟨BitVec.ofNat 32 (i 1).val, keyOf x1 x2, valOf x1, k0_pay20 (F := F), k0_pay21 (F := F), Scalar.muli (BitVec.ofNat 32 (i 1).val) 512#32, k0_pay22 (View.ld x0 (diagQ i)), k0_pay23 (View.ld x5 (diagV i)), k0_pay24 (View.ld x5 (diagV i)) (View.ld x3 (diagV i)), (k0_pay25 (View.ld x1 (Rect.unit (s := S512x256) ![0, 0] S512x128.size inb_S512x256_S512x128_0_0)) x2 (View.ld x0 (diagQ i)) (View.ld x4 (diagL i))), iota .tc S512x512 32 [0] iota_S512x512_d0_w32, 0#32⟩))
          ⊢ wp frame (wpE (defs₀ (F := F)) Variants.none c none) E (k0_part3 (F := F) i arg2 harg2 arg3 harg3 arg4 harg4 arg5 harg5 arg6 harg6 arg7 harg7 arg8 harg8 arg9 harg9 arg10 harg10 arg11 harg11 arg12 harg12 arg13 harg13 arg14 harg14) K := by
    simp only [k0_part3_eq_skeleton]
    unfold k0_part3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := sl_exact hc0)
    sl_step
    unfold part3_later.sl.v12 part3_later.sl.v37
    simp only [View.readAt_eq_ld, harg2.read_unread, harg3.read_unread, harg4.read_unread, harg5.read_unread, harg6.read_unread, harg7.read_unread, harg8.read_unread, harg9.read_unread, harg10.read_unread, View.ld_unit_zero (S := S512x128) hz]
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7

set_option maxHeartbeats 4000000 in
/-- The second part of the body: the diagonal block's share, the loop over the query blocks below it, and the key and value gradients stored. -/
theorem part4_run (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .bf16) (harg13 : arg13.IsWhole) (arg14 : Memref sig .tc .vmem S4096x256 .f32) (harg14 : arg14.IsWhole) (arg1 : BitVec 32) (v7 : FVec F S512x256 .bf16) (v9 : FVec F S512x128 .bf16) (v10 : FVec F S512x256 .f32) (v11 : FVec F S512x128 .f32) (v13 : BitVec 32) (v16 : FVec F S512x256 .bf16) (v19 : FVec F S512x128 .bf16) (v27 : FVec F S512x1 .f32) (v36 : FVec F S512x512 .f32) (v37 : IVec S512x512 32) (c0_i32_13 : BitVec 32)
    (x0 : Vec F S4096x256 .bf16) (x3 : Vec F S4096x128 .bf16) (x4 : Vec F S4096x128 .f32) (x5 : Vec F S4096x128 .bf16) (s : Vec F S4096x256 .f32) (E : Set ℕ) (K : _ → sProp 𝕄) :
        iprop(owns (c : Thread nD τ) arg2 fullShare x0 ∗ owns (c : Thread nD τ) arg5 fullShare x3 ∗ owns (c : Thread nD τ) arg6 fullShare x4 ∗ owns (c : Thread nD τ) arg7 fullShare x5 ∗ (∃ d, owns (c : Thread nD τ) arg11 fullShare d) ∗ owns (c : Thread nD τ) arg14 fullShare s
            ∗ (iprop(owns (c : Thread nD τ) arg2 fullShare x0 ∗ owns (c : Thread nD τ) arg5 fullShare x3 ∗ owns (c : Thread nD τ) arg6 fullShare x4 ∗ owns (c : Thread nD τ) arg7 fullShare x5 ∗ owns (c : Thread nD τ) arg11 fullShare (outKV (carried i v7 v9 x0 x3 x4 x5 (VecWindow.put s (k0_off1 i) S512x256.size (k0_pay30 v7 v9 v19 v27 v36 v37 c0_i32_13 (View.ld s (diagQ i)))) (k0_pay29 v9 v10 v16 v19 v27 v36 v37 c0_i32_13, k0_pay27 v11 v19 v36 v37 c0_i32_13) (k0_t1_loop i).trips).1) ∗ owns (c : Thread nD τ) arg14 fullShare (carried i v7 v9 x0 x3 x4 x5 (VecWindow.put s (k0_off1 i) S512x256.size (k0_pay30 v7 v9 v19 v27 v36 v37 c0_i32_13 (View.ld s (diagQ i)))) (k0_pay29 v9 v10 v16 v19 v27 v36 v37 c0_i32_13, k0_pay27 v11 v19 v36 v37 c0_i32_13) (k0_t1_loop i).trips).2) -∗ K (k0_pay35 (carried i v7 v9 x0 x3 x4 x5 (VecWindow.put s (k0_off1 i) S512x256.size (k0_pay30 v7 v9 v19 v27 v36 v37 c0_i32_13 (View.ld s (diagQ i)))) (k0_pay29 v9 v10 v16 v19 v27 v36 v37 c0_i32_13, k0_pay27 v11 v19 v36 v37 c0_i32_13) (k0_t1_loop i).trips).1.1)))
          ⊢ wp frame (wpE (defs₀ (F := F)) Variants.none c none) E (k0_part4 (F := F) i arg2 harg2 arg3 harg3 arg4 harg4 arg5 harg5 arg6 harg6 arg7 harg7 arg8 harg8 arg9 harg9 arg10 harg10 arg11 harg11 arg12 harg12 arg13 harg13 arg14 harg14 arg1 v7 v9 v10 v11 v13 v16 v19 v27 v36 v37 c0_i32_13) K := by
    have htr := noTrips i
    simp only [k0_part4_eq_skeleton]
    unfold k0_part4_skel
    unfold owns
    iintro ⟨⟨%f2, %hf2, H2⟩, ⟨%f5, %hf5, H5⟩, ⟨%f6, %hf6, H6⟩, ⟨%f7, %hf7, H7⟩, ⟨%d11, %f11, -, H11⟩, ⟨%f14, %hf14, H14⟩, Hk⟩
    obtain rfl := harg2.eq_unread hf2; obtain rfl := harg5.eq_unread hf5; obtain rfl := harg6.eq_unread hf6; obtain rfl := harg7.eq_unread hf7
    have hs : arg14.view.read (Elt F) (arg14.view.writes (Elt F) f14 [⟨diagQ i, k0_pay30 v7 v9 v19 v27 v36 v37 c0_i32_13 (arg14.view.readAt (Elt F) (diagQ i).toLoadRect f14)⟩])
        = (carried i v7 v9 x0 x3 x4 x5 (VecWindow.put s (k0_off1 i) S512x256.size (k0_pay30 v7 v9 v19 v27 v36 v37 c0_i32_13 (View.ld s (diagQ i)))) (k0_pay29 v9 v10 v16 v19 v27 v36 v37 c0_i32_13, k0_pay27 v11 v19 v36 v37 c0_i32_13) 0).2 := by
      show _ = VecWindow.put s _ _ _
      rw [View.read_writes_cons_put _ _ _ _ _ rfl, View.writes_nil, View.readAt_eq_ld, hf14]
    let L := t1Inv (F := F) c E i arg2 harg2 arg3 harg3 arg4 harg4 arg5 harg5 arg6 harg6 arg7 harg7 arg8 harg8 arg9 harg9 arg10 harg10 arg11 harg11 arg12 harg12 arg13 harg13 arg14 harg14 arg1 v7 v9 v10 v11 v13 v16 v19 v27 v36 v37 c0_i32_13 (Scalar.addi arg1 1#32) (k0_pay29 v9 v10 v16 v19 v27 v36 v37 c0_i32_13, k0_pay27 v11 v19 v36 v37 c0_i32_13) x0 x3 x4 x5
      (VecWindow.put s (k0_off1 i) S512x256.size (k0_pay30 v7 v9 v19 v27 v36 v37 c0_i32_13 (View.ld s (diagQ i))))
    sl_exec
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H11]
    · iexists _; isplitr; swap; · iexact H11
      ipureintro
      exact read_halves arg11.view f11 inb_S512x256_S512x128_0_0 inb_S512x256_S512x128_0_128 _ _
    iexists _; isplitr; swap; · iexact H14
    ipureintro
    assumption

set_option maxHeartbeats 4000000 in
/-- The body at the first key block of a head: the scratch is cleared first. -/
theorem run_first (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .bf16) (harg13 : arg13.IsWhole) (arg14 : Memref sig .tc .vmem S4096x256 .f32) (harg14 : arg14.IsWhole)
    (hc0 : firstKey i) (hc1 : ¬ lastKey i)
    (x0 : Vec F S4096x256 .bf16) (x1 : Vec F S512x256 .bf16) (x2 : Vec F S512x128 .bf16) (x3 : Vec F S4096x128 .bf16) (x4 : Vec F S4096x128 .f32) (x5 : Vec F S4096x128 .bf16) (x6 x7 x8 : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outKV (finish i x0 x1 x2 x3 x4 x5 (k0_pay17 (F := F))).1) ∗ owns (c : Thread nD τ) arg12 fullShare (k0_pay35 (finish i x0 x1 x2 x3 x4 x5 (k0_pay17 (F := F))).1.1) ∗ owns (c : Thread nD τ) arg14 fullShare (finish i x0 x1 x2 x3 x4 x5 (k0_pay17 (F := F))).2) -∗ K ⟨⟩))
          ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11 arg12 harg12 arg13 harg13 arg14 harg14) K := by
    intro E K
    simp only [cc0_mla_attn_bwd_eq_skeleton]; unfold cc0_mla_attn_bwd_skel
    iintro ⟨H2, H3, H4, H5, H6, H7, H8, H9, H10, H11, H12, H14, Hk⟩
    rw [Idealize.SL.Sem.wp_bind]
    iapply (part3_first c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 E _)
    isplitl [H2]; · iexact H2
    isplitl [H3]; · iexact H3
    isplitl [H4]; · iexact H4
    isplitl [H5]; · iexact H5
    isplitl [H6]; · iexact H6
    isplitl [H7]; · iexact H7
    isplitl [H14]; · iexact H14
    iintro ⟨H2, H3, H4, H5, H6, H7, H14⟩
    dsimp only
    rw [Idealize.SL.Sem.wp_bind]
    iapply (part4_run c i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ x0 x3 x4 x5 (k0_pay17 (F := F)) E _)
    isplitl [H2]; · iexact H2
    isplitl [H5]; · iexact H5
    isplitl [H6]; · iexact H6
    isplitl [H7]; · iexact H7
    isplitl [H11]; · iexact H11
    isplitl [H14]; · iexact H14
    iintro ⟨H2, H5, H6, H7, H11, H14⟩
    unfold owns
    icases H12 with ⟨%d12, %f12, -, H12⟩
    sl_exec (disch := sl_exact hc1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro
      exact View.read_writes_full _ _ _ _ _
    iexact H14

set_option maxHeartbeats 4000000 in
/-- The body at a key block in the middle of a head. -/
theorem run_mid (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .bf16) (harg13 : arg13.IsWhole) (arg14 : Memref sig .tc .vmem S4096x256 .f32) (harg14 : arg14.IsWhole)
    (hc0 : ¬ firstKey i) (hc1 : ¬ lastKey i)
    (x0 : Vec F S4096x256 .bf16) (x1 : Vec F S512x256 .bf16) (x2 : Vec F S512x128 .bf16) (x3 : Vec F S4096x128 .bf16) (x4 : Vec F S4096x128 .f32) (x5 : Vec F S4096x128 .bf16) (x6 x7 x8 : Vec F S4096x128 .f32) (s : Vec F S4096x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg14 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outKV (finish i x0 x1 x2 x3 x4 x5 s).1) ∗ owns (c : Thread nD τ) arg12 fullShare (k0_pay35 (finish i x0 x1 x2 x3 x4 x5 s).1.1) ∗ owns (c : Thread nD τ) arg14 fullShare (finish i x0 x1 x2 x3 x4 x5 s).2) -∗ K ⟨⟩))
          ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11 arg12 harg12 arg13 harg13 arg14 harg14) K := by
    intro E K
    simp only [cc0_mla_attn_bwd_eq_skeleton]; unfold cc0_mla_attn_bwd_skel
    iintro ⟨H2, H3, H4, H5, H6, H7, H8, H9, H10, H11, H12, H14, Hk⟩
    rw [Idealize.SL.Sem.wp_bind]
    iapply (part3_later c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 E _)
    isplitl [H2]; · iexact H2
    isplitl [H3]; · iexact H3
    isplitl [H4]; · iexact H4
    isplitl [H5]; · iexact H5
    isplitl [H6]; · iexact H6
    isplitl [H7]; · iexact H7
    iintro ⟨H2, H3, H4, H5, H6, H7⟩
    dsimp only
    rw [Idealize.SL.Sem.wp_bind]
    iapply (part4_run c i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ x0 x3 x4 x5 s E _)
    isplitl [H2]; · iexact H2
    isplitl [H5]; · iexact H5
    isplitl [H6]; · iexact H6
    isplitl [H7]; · iexact H7
    isplitl [H11]; · iexact H11
    isplitl [H14]; · iexact H14
    iintro ⟨H2, H5, H6, H7, H11, H14⟩
    unfold owns
    icases H12 with ⟨%d12, %f12, -, H12⟩
    sl_exec (disch := sl_exact hc1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro
      exact View.read_writes_full _ _ _ _ _
    iexact H14

set_option maxHeartbeats 4000000 in
/-- The body at the last key block of a head: the query gradient is written out as well. -/
theorem run_last (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .bf16) (harg13 : arg13.IsWhole) (arg14 : Memref sig .tc .vmem S4096x256 .f32) (harg14 : arg14.IsWhole)
    (hc0 : ¬ firstKey i) (hc1 : lastKey i)
    (x0 : Vec F S4096x256 .bf16) (x1 : Vec F S512x256 .bf16) (x2 : Vec F S512x128 .bf16) (x3 : Vec F S4096x128 .bf16) (x4 : Vec F S4096x128 .f32) (x5 : Vec F S4096x128 .bf16) (x6 x7 x8 : Vec F S4096x128 .f32) (s : Vec F S4096x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outKV (finish i x0 x1 x2 x3 x4 x5 s).1) ∗ owns (c : Thread nD τ) arg12 fullShare (k0_pay35 (finish i x0 x1 x2 x3 x4 x5 s).1.1) ∗ owns (c : Thread nD τ) arg13 fullShare (outQ (finish i x0 x1 x2 x3 x4 x5 s).2 x6 x7 x8) ∗ owns (c : Thread nD τ) arg14 fullShare (finish i x0 x1 x2 x3 x4 x5 s).2) -∗ K ⟨⟩))
          ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11 arg12 harg12 arg13 harg13 arg14 harg14) K := by
    intro E K
    simp only [cc0_mla_attn_bwd_eq_skeleton]; unfold cc0_mla_attn_bwd_skel
    iintro ⟨H2, H3, H4, H5, H6, H7, H8, H9, H10, H11, H12, H13, H14, Hk⟩
    rw [Idealize.SL.Sem.wp_bind]
    iapply (part3_later c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 E _)
    isplitl [H2]; · iexact H2
    isplitl [H3]; · iexact H3
    isplitl [H4]; · iexact H4
    isplitl [H5]; · iexact H5
    isplitl [H6]; · iexact H6
    isplitl [H7]; · iexact H7
    iintro ⟨H2, H3, H4, H5, H6, H7⟩
    dsimp only
    rw [Idealize.SL.Sem.wp_bind]
    iapply (part4_run c i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ x0 x3 x4 x5 s E _)
    isplitl [H2]; · iexact H2
    isplitl [H5]; · iexact H5
    isplitl [H6]; · iexact H6
    isplitl [H7]; · iexact H7
    isplitl [H11]; · iexact H11
    isplitl [H14]; · iexact H14
    iintro ⟨H2, H5, H6, H7, H11, H14⟩
    unfold owns
    icases H12 with ⟨%d12, %f12, -, H12⟩
    icases H8 with ⟨%f8, %hf8, H8⟩
    icases H9 with ⟨%f9, %hf9, H9⟩
    icases H10 with ⟨%f10, %hf10, H10⟩
    icases H13 with ⟨%d13, %f13, -, H13⟩
    icases H14 with ⟨%f14, %hf14, H14⟩
    sl_exec (disch := sl_exact hc1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]; · iexact H11
    isplitl [H12]
    · iexists _; isplitr; swap; · iexact H12
      ipureintro
      exact View.read_writes_full _ _ _ _ _
    isplitl [H13]
    · iexists _; isplitr; swap; · iexact H13
      ipureintro
      refine (read_halves arg13.view f13 inb_S4096x256_S4096x128_0_0 inb_S4096x256_S4096x128_0_128 _ _).trans ?_
      unfold outQ finish
      simp only [View.readAt_eq_ld, hf8, hf9, hf10, hf14, View.ld_unit_zero (S := S4096x128) hz]
    iexists f14; isplitr; · ipureintro; exact hf14
    iexact H14

end Cert.Attn

end
-- ==== Proof.AttnDat.lean ====
/-
  What each staging buffer and the carried query gradient hold after each of the 16 heads by 8 key blocks.
-/
module

public import proofs.«01_k».proof.Proof.AttnBody
public import proofs.«01_k».proof.Proof.Gen.Kernel2Ideal.Points
public import Idealize.ShloMosaic.Lib.Claim
public import proofs.«01_k».proof.Proof.Gen.Kernel2Ideal.Frame

@[expose] public section

set_option maxRecDepth 16384

noncomputable section

namespace Cert.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The key blocks of a head, in closed form over the points -/

/-- The first block of keys comes at every eighth point. -/
theorem firstKey_iff : ∀ t : Fin cfg0.N, firstKey (grid0.coords t) ↔ t.val % 8 = 0 :=
  (by decide +kernel : ∀ t : Fin grid0.N, firstKey (grid0.coords t) ↔ t.val % 8 = 0)

/-- And the last one just before the next. -/
theorem lastKey_iff : ∀ t : Fin cfg0.N, lastKey (grid0.coords t) ↔ t.val % 8 = 7 :=
  (by decide +kernel : ∀ t : Fin grid0.N, lastKey (grid0.coords t) ↔ t.val % 8 = 7)

/-- The window of the queries is in use at every point. -/
theorem live0 (t : Fin cfg0.N) : cfg0.idle 0 (grid0.coords t) = false := rfl
/-- The window of the keys and values is in use at every point. -/
theorem live1 (t : Fin cfg0.N) : cfg0.idle 1 (grid0.coords t) = false := rfl
/-- The window of the rotated keys is in use at every point. -/
theorem live2 (t : Fin cfg0.N) : cfg0.idle 2 (grid0.coords t) = false := rfl
/-- The window of the output is in use at every point. -/
theorem live3 (t : Fin cfg0.N) : cfg0.idle 3 (grid0.coords t) = false := rfl
/-- The window of the row constants is in use at every point. -/
theorem live4 (t : Fin cfg0.N) : cfg0.idle 4 (grid0.coords t) = false := rfl
/-- The window of the output gradient is in use at every point. -/
theorem live5 (t : Fin cfg0.N) : cfg0.idle 5 (grid0.coords t) = false := rfl
/-- The window of the cosines is in use at every point. -/
theorem live6 (t : Fin cfg0.N) : cfg0.idle 6 (grid0.coords t) = false := rfl
/-- The window of the first sines is in use at every point. -/
theorem live7 (t : Fin cfg0.N) : cfg0.idle 7 (grid0.coords t) = false := rfl
/-- The window of the second sines is in use at every point. -/
theorem live8 (t : Fin cfg0.N) : cfg0.idle 8 (grid0.coords t) = false := rfl
/-- The window of the key and value gradient is in use at every point. -/
theorem live9 (t : Fin cfg0.N) : cfg0.idle 9 (grid0.coords t) = false := rfl
/-- The window of the rotated key gradient is in use at every point. -/
theorem live10 (t : Fin cfg0.N) : cfg0.idle 10 (grid0.coords t) = false := rfl

/-- The query gradient's window is written at a head's last key block only. -/
theorem live11 (t : Fin cfg0.N) (h : t.val % 8 = 7) : cfg0.idle 11 (grid0.coords t) = false := by
  show (!(k0_cond2 (grid0.coords t) == 1#1)) = false
  rw [show k0_cond2 (grid0.coords t) = 1#1 from (lastKey_iff t).mpr h]; rfl

/-- The query gradient's window is idle until the head's last block of keys. -/
theorem idle11 (t : Fin cfg0.N) (h : t.val % 8 ≠ 7) : cfg0.idle 11 (grid0.coords t) = true := by
  show (!(k0_cond2 (grid0.coords t) == 1#1)) = true
  have : ¬ k0_cond2 (grid0.coords t) = 1#1 := fun e => h ((lastKey_iff t).mp e)
  simpa using this

/-! ## The proof data -/

/-- What a point leaves of the key and value gradients and of the scratch, from the scratch it finds. -/
abbrev finFrom (c : Dev nD) (t : Fin cfg0.N) (s : Vec F S4096x256 .f32) : (FVec F S512x256 .f32 × FVec F S512x128 .f32) × Vec F S4096x256 .f32 :=
  finish (grid0.coords t) (iblk m c 0 t) (iblk m c 1 t) (iblk m c 2 t) (iblk m c 3 t) (iblk m c 4 t) (iblk m c 5 t) s

/-- The scratch before point `n`; at a head's first key block the body clears it, so that nothing depends on it. -/
def scrAt (c : Dev nD) : ℕ → Vec F S4096x256 .f32
  | 0 => k0_pay17 (F := F)
  | n + 1 => if h : n < cfg0.N then (finFrom m c ⟨n, h⟩ (if n % 8 = 0 then k0_pay17 (F := F) else scrAt c n)).2 else k0_pay17 (F := F)

/-- What point `t` leaves. -/
def finAt (c : Dev nD) (t : Fin cfg0.N) : (FVec F S512x256 .f32 × FVec F S512x128 .f32) × Vec F S4096x256 .f32 :=
  finFrom m c t (if t.val % 8 = 0 then k0_pay17 (F := F) else scrAt m c t.val)

/-- What the scratch holds after a point. -/
theorem scrAt_succ (c : Dev nD) (t : Fin cfg0.N) : scrAt m c (t.val + 1) = (finAt m c t).2 := by
  show (if h : t.val < cfg0.N then _ else _) = _
  rw [dif_pos t.isLt]; rfl

/-- The scratch buffer between two points: inside a head it holds the query gradient so far. -/
def carry (c : Dev nD) (n : ℕ) : sProp 𝕄 :=
  iprop((∃ d : Vec F S4096x256 .f32, ⌜n % 8 ≠ 0 → d = scrAt m c n⌝ ∗ owns (c : Thread nD τ) (Memref.whole cc0_scratch0) fullShare d) ∗ ∃ r, prngReg c r)

/-- What each window's buffer holds after each point, from the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outKV (finAt m c t).1
    | ⟨10, _⟩ => k0_pay35 (finAt m c t).1.1
    | ⟨11, _⟩ => outQ (finAt m c t).2 (iblk m c 6 t) (iblk m c 7 t) (iblk m c 8 t)
  Φ t := carry m c t.val
  q _ := fullShare
  owed _ := 0

/-- A window starts from what the launch finds in its array. -/
theorem A_eq (c : Dev nD) (w : Fin cfg0.W) : (dats m 0 c).A w = V m c (Pipeline.arrRef spec0 w) := by
  dsimp only [dats]

/-- What the window of the queries holds after a point. -/
theorem after0 (c : Dev nD) (t : Fin cfg0.N) : (dats m 0 c).after 0 t = iblk m c 0 t := by dsimp only [dats]
/-- What the window of the keys and values holds after a point. -/
theorem after1 (c : Dev nD) (t : Fin cfg0.N) : (dats m 0 c).after 1 t = iblk m c 1 t := by dsimp only [dats]
/-- What the window of the rotated keys holds after a point. -/
theorem after2 (c : Dev nD) (t : Fin cfg0.N) : (dats m 0 c).after 2 t = iblk m c 2 t := by dsimp only [dats]
/-- What the window of the output holds after a point. -/
theorem after3 (c : Dev nD) (t : Fin cfg0.N) : (dats m 0 c).after 3 t = iblk m c 3 t := by dsimp only [dats]
/-- What the window of the row constants holds after a point. -/
theorem after4 (c : Dev nD) (t : Fin cfg0.N) : (dats m 0 c).after 4 t = iblk m c 4 t := by dsimp only [dats]
/-- What the window of the output gradient holds after a point. -/
theorem after5 (c : Dev nD) (t : Fin cfg0.N) : (dats m 0 c).after 5 t = iblk m c 5 t := by dsimp only [dats]
/-- What the window of the cosines holds after a point. -/
theorem after6 (c : Dev nD) (t : Fin cfg0.N) : (dats m 0 c).after 6 t = iblk m c 6 t := by dsimp only [dats]
/-- What the window of the first sines holds after a point. -/
theorem after7 (c : Dev nD) (t : Fin cfg0.N) : (dats m 0 c).after 7 t = iblk m c 7 t := by dsimp only [dats]
/-- What the window of the second sines holds after a point. -/
theorem after8 (c : Dev nD) (t : Fin cfg0.N) : (dats m 0 c).after 8 t = iblk m c 8 t := by dsimp only [dats]
/-- What the window of the key and value gradient holds after a point. -/
theorem after9 (c : Dev nD) (t : Fin cfg0.N) : (dats m 0 c).after 9 t = outKV (finAt m c t).1 := by dsimp only [dats]
/-- What the window of the rotated key gradient holds after a point. -/
theorem after10 (c : Dev nD) (t : Fin cfg0.N) : (dats m 0 c).after 10 t = k0_pay35 (finAt m c t).1.1 := by dsimp only [dats]
/-- What the window of the query gradient holds after a point. -/
theorem after11 (c : Dev nD) (t : Fin cfg0.N) : (dats m 0 c).after 11 t = outQ (finAt m c t).2 (iblk m c 6 t) (iblk m c 7 t) (iblk m c 8 t) := by dsimp only [dats]

/-- What the window of the queries holds before a point. -/
theorem before0 (c : Dev nD) (t : Fin cfg0.N) (d) : (dats m 0 c).before 0 t d = iblk m c 0 t :=
  before0_0_of m (dats m 0 c) (A_eq m c 0) (after0 m c) t d
/-- What the window of the keys and values holds before a point. -/
theorem before1 (c : Dev nD) (t : Fin cfg0.N) (d) : (dats m 0 c).before 1 t d = iblk m c 1 t :=
  before0_1_of m (dats m 0 c) (A_eq m c 1) (after1 m c) t d
/-- What the window of the rotated keys holds before a point. -/
theorem before2 (c : Dev nD) (t : Fin cfg0.N) (d) : (dats m 0 c).before 2 t d = iblk m c 2 t :=
  before0_2_of m (dats m 0 c) (A_eq m c 2) (after2 m c) t d
/-- What the window of the output holds before a point. -/
theorem before3 (c : Dev nD) (t : Fin cfg0.N) (d) : (dats m 0 c).before 3 t d = iblk m c 3 t :=
  before0_3_of m (dats m 0 c) (A_eq m c 3) (after3 m c) t d
/-- What the window of the row constants holds before a point. -/
theorem before4 (c : Dev nD) (t : Fin cfg0.N) (d) : (dats m 0 c).before 4 t d = iblk m c 4 t :=
  before0_4_of m (dats m 0 c) (A_eq m c 4) (after4 m c) t d
/-- What the window of the output gradient holds before a point. -/
theorem before5 (c : Dev nD) (t : Fin cfg0.N) (d) : (dats m 0 c).before 5 t d = iblk m c 5 t :=
  before0_5_of m (dats m 0 c) (A_eq m c 5) (after5 m c) t d
/-- What the window of the cosines holds before a point. -/
theorem before6 (c : Dev nD) (t : Fin cfg0.N) (d) : (dats m 0 c).before 6 t d = iblk m c 6 t :=
  before0_6_of m (dats m 0 c) (A_eq m c 6) (after6 m c) t d
/-- What the window of the first sines holds before a point. -/
theorem before7 (c : Dev nD) (t : Fin cfg0.N) (d) : (dats m 0 c).before 7 t d = iblk m c 7 t :=
  before0_7_of m (dats m 0 c) (A_eq m c 7) (after7 m c) t d
/-- What the window of the second sines holds before a point. -/
theorem before8 (c : Dev nD) (t : Fin cfg0.N) (d) : (dats m 0 c).before 8 t d = iblk m c 8 t :=
  before0_8_of m (dats m 0 c) (A_eq m c 8) (after8 m c) t d

end Cert.Attn

end
-- ==== Proof.AttnSound.lean ====
/-
  The gradient of the attention at a generic point of its grid.
-/
module

public import proofs.«01_k».proof.Proof.AttnDat
public import proofs.«01_k».proof.Proof.Gen.Kernel2Ideal.Points
public import Idealize.ShloMosaic.Lib.Claim
public import proofs.«01_k».proof.Proof.Gen.Kernel2Ideal.Frame

@[expose] public section

set_option maxRecDepth 16384

noncomputable section

namespace Cert.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = carry m c (t.val + 1) from rfl, show (dats m 0 c).Φ t.castSucc = carry m c t.val from rfl,
    show (dats m 0 c).owesAt () t.succ = (dats m 0 c).owesAt () t.castSucc from rfl]
  unfold carry
  have hN : t.val < 128 := lt_of_lt_of_eq t.isLt (show cfg0.N = 128 from N_0)
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  rw [show (dats m 0 c).leavesExact 5 t = owns (c : Thread nD τ) (st0_5 t) fullShare ((dats m 0 c).after 5 t) from by
    unfold Dat.leavesExact; rw [live5 t], after5]
  rw [show (dats m 0 c).leavesExact 6 t = owns (c : Thread nD τ) (st0_6 t) fullShare ((dats m 0 c).after 6 t) from by
    unfold Dat.leavesExact; rw [live6 t], after6]
  rw [show (dats m 0 c).leavesExact 7 t = owns (c : Thread nD τ) (st0_7 t) fullShare ((dats m 0 c).after 7 t) from by
    unfold Dat.leavesExact; rw [live7 t], after7]
  rw [show (dats m 0 c).leavesExact 8 t = owns (c : Thread nD τ) (st0_8 t) fullShare ((dats m 0 c).after 8 t) from by
    unfold Dat.leavesExact; rw [live8 t], after8]
  rw [show (dats m 0 c).leavesExact 9 t = owns (c : Thread nD τ) (st0_9 t) fullShare ((dats m 0 c).after 9 t) from by
    unfold Dat.leavesExact; rw [live9 t], after9]
  rw [show (dats m 0 c).leavesExact 10 t = owns (c : Thread nD τ) (st0_10 t) fullShare ((dats m 0 c).after 10 t) from by
    unfold Dat.leavesExact; rw [live10 t], after10]
  by_cases h0 : t.val % 8 = 0
  · have h7 : t.val % 8 ≠ 7 := by omega
    rw [(dats m 0 c).leavesExact_idle 11 t (idle11 t h7) (by have := mt (flush0_11 t).mp h7; simpa using this)]
    have hf : finAt m c t = finFrom m c t (k0_pay17 (F := F)) := by unfold finAt; rw [if_pos h0]
    have hnext : (finFrom m c t (k0_pay17 (F := F))).2 = scrAt m c (t.val + 1) := by rw [scrAt_succ, hf]
    rw [hf]
    iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
    iapply ((run_first c (grid0.coords t) _ _ _ _ _ _ _ _ _ _ _ _ _ _ _ _ _ _ _ _ _ _ _ (hstage0_11 ((cfg0.slots t 11).cast nbuf0_11)) _ (Memref.isWhole_whole _) ((firstKey_iff t).mpr h0) (fun h => h7 ((lastKey_iff t).mp h)) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [Hs]; · iexists _; iexact Hs
    iintro ⟨H0, H1, H2, H3, H4, H5, H6, H7, H8, H9, H10, Hs⟩
    isplitl [Hs Hr]
    · isplitl [Hs]
      · iexists _
        isplitr [Hs]
        · ipureintro; exact fun _ => hnext
        · iexact Hs
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hf : finAt m c t = finFrom m c t (scrAt m c t.val) := by unfold finAt; rw [if_neg h0]
    have hnext : (finFrom m c t (scrAt m c t.val)).2 = scrAt m c (t.val + 1) := by rw [scrAt_succ, hf]
    rw [hf]
    by_cases h7 : t.val % 8 = 7
    · rw [show (dats m 0 c).leavesExact 11 t = owns (c : Thread nD τ) (st0_11 t) fullShare ((dats m 0 c).after 11 t) from by
          unfold Dat.leavesExact; rw [live11 t h7], after11, hf]
      iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      obtain rfl := hs h0
      iapply ((run_last c (grid0.coords t) _ _ _ _ _ _ _ _ _ _ _ _ _ _ _ _ _ _ _ _ _ _ _ _ _ (Memref.isWhole_whole _) (fun h => h0 ((firstKey_iff t).mp h)) ((lastKey_iff t).mpr h7) (iblk m c 0 t) (iblk m c 1 t) (iblk m c 2 t) (iblk m c 3 t) (iblk m c 4 t) (iblk m c 5 t) (iblk m c 6 t) (iblk m c 7 t) (iblk m c 8 t) (scrAt m c t.val)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [Hs]; · iexact Hs
      iintro ⟨H0, H1, H2, H3, H4, H5, H6, H7, H8, H9, H10, H11, Hs⟩
      isplitl [Hs Hr]
      · isplitl [Hs]
        · iexists _
          isplitr [Hs]
          · ipureintro; exact fun _ => hnext
          · iexact Hs
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [(dats m 0 c).leavesExact_idle 11 t (idle11 t h7) (by have := mt (flush0_11 t).mp h7; simpa using this)]
      iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
      obtain rfl := hs h0
      iapply ((run_mid c (grid0.coords t) _ _ _ _ _ _ _ _ _ _ _ _ _ _ _ _ _ _ _ _ _ _ _ (hstage0_11 ((cfg0.slots t 11).cast nbuf0_11)) _ (Memref.isWhole_whole _) (fun h => h0 ((firstKey_iff t).mp h)) (fun h => h7 ((lastKey_iff t).mp h)) (iblk m c 0 t) (iblk m c 1 t) (iblk m c 2 t) (iblk m c 3 t) (iblk m c 4 t) (iblk m c 5 t) (iblk m c 6 t) (iblk m c 7 t) (iblk m c 8 t) (scrAt m c t.val)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [Hs]; · iexact Hs
      iintro ⟨H0, H1, H2, H3, H4, H5, H6, H7, H8, H9, H10, Hs⟩
      isplitl [Hs Hr]
      · isplitl [Hs]
        · iexists _
          isplitr [Hs]
          · ipureintro; exact fun _ => hnext
          · iexact Hs
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The row of the body table at point `t` is the body. -/
theorem defs₀_row (t : Fin cfg0.N) :
    defs₀ (F := F) .tc cfg0.body (cfg0.bodyArgs t (cfg0.slots t)) = bodyAt0 t := by
  unfold defs₀; rw [Defs.onTc_tc]

/-- The body does at every point what the run asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Attn

end
-- ==== Proof.AttnRun.lean ====
/-
  The run of the gradient of the attention over its grid, and the frame with every counter at zero.
-/
module

public import proofs.«01_k».proof.Proof.AttnSound
public import proofs.«01_k».proof.Proof.Gen.Kernel2Ideal.Points
public import Idealize.ShloMosaic.Lib.Claim
public import proofs.«01_k».proof.Proof.Gen.Kernel2Ideal.Frame

@[expose] public section

set_option maxRecDepth 16384

noncomputable section

namespace Cert.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch enters the first point. -/
theorem carry_in (c : Dev nD) : (Pipeline.ΦA spec0 c : sProp 𝕄) ⊢ (dats m 0 c).Φ 0 := by
  rw [show (dats m 0 c).Φ 0 = carry m c 0 from rfl]
  unfold carry Pipeline.ΦA
  rw [scopedRest0_eq]
  simp only [owns_whole]
  iintro ⟨⟨%f, Hf⟩, Hr⟩
  isplitl [Hf]
  · iexists f
    isplitr [Hf]
    · ipureintro; exact fun h => absurd rfl h
    · iexact Hf
  · iexact Hr

/-- The scratch leaves the last point. -/
theorem carry_out (c : Dev nD) : (dats m 0 c).Φ (Fin.last cfg0.N) ⊢ (Pipeline.ΦA spec0 c : sProp 𝕄) := by
  rw [show (dats m 0 c).Φ (Fin.last cfg0.N) = carry m c cfg0.N from rfl]
  unfold carry Pipeline.ΦA
  rw [scopedRest0_eq]
  simp only [owns_whole]
  iintro ⟨⟨%f, %hf, Hf⟩, Hr⟩
  isplitl [Hf]
  · iexists f
    iexact Hf
  · iexact Hr

set_option backward.isDefEq.respectTransparency.types false in
/-- Every fair run ends with the windowed arrays as the grid leaves them and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hin := carry_in m) (hout := carry_out m)

/-- The kernel runs, and its windows end with what the points leave. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame, with every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Attn

end
-- ==== Proof.AttnFrames.lean ====
/-
  The attention call's frames: the compiled kernel's from the run generic over the floats, a named constant being read
  as the word that it is, the idealized kernel's from the same run, and what the idealization renamed.
-/
module

public import proofs.«01_k».proof.Defs
public import proofs.«01_k».proof.Proof.Gen.Kernel2
public import proofs.«01_k».proof.Proof.AttnRun

@[expose] public section

set_option maxHeartbeats 10000000
set_option maxRecDepth 100000

noncomputable section

namespace Cert.Attn

open Idealize.ShloMosaic Idealize.SL.Sem

/-- A named constant as the compiled kernel has it: its word. -/
abbrev wordOfName : Named Bits := { named := fun _ _ _ b => FloatOps.ofBits _ b }

/-- The compiled kernel's body is the idealized one's at that reading: the same text, label by label. -/
theorem body_table2 : Cert.Kernel2.defs₀ (F := Bits) = (letI := wordOfName; Cert.Kernel2Ideal.defs₀ (F := Bits)) := by
  unfold Cert.Kernel2.defs₀ Cert.Kernel2Ideal.defs₀
  refine congrArg Defs.onTc ?_
  funext b x
  match b, x with
  | 0, ⟨t, s⟩ => rfl

/-- So their tables of procedures agree. -/
theorem table2 : Cert.Kernel2.defs (F := Bits) = (letI := wordOfName; Cert.Kernel2Ideal.defs (F := Bits)) := by
  unfold Cert.Kernel2.defs Cert.Kernel2Ideal.defs
  exact congrArg (Pipeline.defs _) body_table2

/-- The kernel as compiled. -/
theorem frame_kernel2 : Cert.quiescent_Kernel2 := fun m ρ _ => by
  rw [table2]
  letI := wordOfName
  exact frame_all (F := Bits) m ρ

/-- The idealized kernel: the same run over the extended reals. -/
theorem frame_ideal2 : Cert.quiescent_Kernel2Ideal := fun m ρ _ => frame_all (F := Ideal) m ρ

/-- The two scales are the reals that the table names, and their words those reals' constants. -/
theorem preserves2 : Cert.preserves_Kernel2_Kernel2Ideal :=
  ⟨IdealRules.named_const.statement Cert.Kernel2Ideal.κ "scale2" .f32 0x3DD53B95#32 (((Real.sqrt 192)⁻¹ * (Real.log 2)⁻¹ : ℝ) : EReal) rfl,
    IdealRules.named_const.statement Cert.Kernel2Ideal.κ "scale" .f32 0x3D93CD3A#32 (((Real.sqrt 192)⁻¹ : ℝ) : EReal) rfl⟩

end Cert.Attn

end
-- ==== Proof.AttnHost.lean ====
/-
  The host lines before the attention call: the rotated queries, the masked scores, the saved output and row
  statistics, and the arrays handed to the call, an element at a time.
-/
module

public import proofs.«01_k».proof.Proof.AttnDat
public import Idealize.ShloMosaic.Lib.Pointwise

@[expose] public section

set_option maxRecDepth 16384

noncomputable section

namespace Cert.Attn

open Cert.Kernel2Ideal Cert.Kernel2Ideal.Gen
open Idealize.ShloMosaic Idealize.ShloMosaic.TcCoe

/-! ## The saved values -/

/-- The queries' rotated lanes. -/
def hRot (q : FVec Ideal S4096x16x192 .f32) (co si : FVec Ideal S4096x32 .f32) : FVec Ideal S4096x16x64 .f32 :=
  concatenate S4096x16x64 2 [⟨S4096x16x32, subf
     (mulf (extractStridedSlice S4096x16x32 ![0, 0, 0] (extractStridedSlice S4096x16x64 ![0, 0, 128] q slices_S4096x16x192_S4096x16x64_0_0_128) slices_S4096x16x64_S4096x16x32_0_0_0) (broadcastInDim S4096x16x32 ![0, 1, 2] bcast_S4096x1x32_S4096x16x32_0_1_2 (broadcastInDim S4096x1x32 ![0, 2] bcast_S4096x32_S4096x1x32_0_2 co)))
     (mulf (extractStridedSlice S4096x16x32 ![0, 0, 32] (extractStridedSlice S4096x16x64 ![0, 0, 128] q slices_S4096x16x192_S4096x16x64_0_0_128) slices_S4096x16x64_S4096x16x32_0_0_32) (broadcastInDim S4096x16x32 ![0, 1, 2] bcast_S4096x1x32_S4096x16x32_0_1_2 (broadcastInDim S4096x1x32 ![0, 2] bcast_S4096x32_S4096x1x32_0_2 si)))⟩,
   ⟨S4096x16x32, addf
     (mulf (extractStridedSlice S4096x16x32 ![0, 0, 32] (extractStridedSlice S4096x16x64 ![0, 0, 128] q slices_S4096x16x192_S4096x16x64_0_0_128) slices_S4096x16x64_S4096x16x32_0_0_32) (broadcastInDim S4096x16x32 ![0, 1, 2] bcast_S4096x1x32_S4096x16x32_0_1_2 (broadcastInDim S4096x1x32 ![0, 2] bcast_S4096x32_S4096x1x32_0_2 co)))
     (mulf (extractStridedSlice S4096x16x32 ![0, 0, 0] (extractStridedSlice S4096x16x64 ![0, 0, 128] q slices_S4096x16x192_S4096x16x64_0_0_128) slices_S4096x16x64_S4096x16x32_0_0_0) (broadcastInDim S4096x16x32 ![0, 1, 2] bcast_S4096x1x32_S4096x16x32_0_1_2 (broadcastInDim S4096x1x32 ![0, 2] bcast_S4096x32_S4096x1x32_0_2 si)))⟩] concatenates_S4096x16x32_S4096x16x32_S4096x16x64_d2

/-- The scores. -/
def hScore (q : FVec Ideal S4096x16x192 .f32) (kv : FVec Ideal S4096x16x256 .f32) (kr : FVec Ideal S4096x64 .f32) (co si : FVec Ideal S4096x32 .f32) : FVec Ideal S16x4096x4096 .f32 :=
  Host.divf (addf (Host.dotGeneral dot_S4096x16x128_S4096x16x128_S16x4096x4096_2_2_0_0_1_1 none (extractStridedSlice S4096x16x128 ![0, 0, 0] q slices_S4096x16x192_S4096x16x128_0_0_0) (extractStridedSlice S4096x16x128 ![0, 0, 0] kv slices_S4096x16x256_S4096x16x128_0_0_0))
     (Host.dotGeneral dot_S4096x16x64_S4096x16x64_S16x4096x4096_2_2_0_0_1_1 none (hRot q co si) (broadcastInDim S4096x16x64 ![0, 1, 2] bcast_S4096x1x64_S4096x16x64_0_1_2 (broadcastInDim S4096x1x64 ![0, 2] bcast_S4096x64_S4096x1x64_0_2 kr))))
    (broadcastInDim S16x4096x4096 ![] bcast_S_S16x4096x4096 (Host.sqrt (constant S_ .f32 0x43400000#32)))

/-- The scores with the later keys masked. -/
def hMask (s : FVec Ideal S16x4096x4096 .f32) : FVec Ideal S16x4096x4096 .f32 :=
  select (broadcastInDim S16x4096x4096 ![1, 2] bcast_S4096x4096_S16x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) s (broadcastInDim S16x4096x4096 ![] bcast_S_S16x4096x4096 (constant S_ .f32 0xFF800000#32))

/-- Each row's greatest score. -/
def hMax (s : FVec Ideal S16x4096x4096 .f32) : FVec Ideal S16x4096x1 .f32 :=
  broadcastInDim S16x4096x1 ![0, 1] bcast_S16x4096_S16x4096x1_0_1 (Host.reduce FloatOps.maximumf s (constant S_ .f32 0xFF800000#32) reducesTo_S16x4096x4096_S16x4096_d2 h_S_)

/-- The exponentials. -/
def hExp (s : FVec Ideal S16x4096x4096 .f32) : FVec Ideal S16x4096x4096 .f32 := Host.exp (subf s (broadcastInDim S16x4096x4096 ![0, 1, 2] bcast_S16x4096x1_S16x4096x4096_0_1_2 (hMax s)))

/-- Each row's sum of exponentials. -/
def hSum (s : FVec Ideal S16x4096x4096 .f32) : FVec Ideal S16x4096x1 .f32 := broadcastInDim S16x4096x1 ![0, 1] bcast_S16x4096_S16x4096x1_0_1 (Host.reduceAdd (hExp s) (constant S_ .f32 0x00000000#32) reducesTo_S16x4096x4096_S16x4096_d2 h_S_)

/-- Each row's log-sum-exp in base two. -/
def hLog (s : FVec Ideal S16x4096x4096 .f32) : FVec Ideal S16x4096x1 .f32 :=
  Host.divf (addf (hMax s) (Host.log (hSum s))) (broadcastInDim S16x4096x1 ![] bcast_S_S16x4096x1 (Host.log (constant S_ .f32 0x40000000#32)))

/-- The same, as the call reads it: a head's 128 lanes all alike. -/
def hLse (s : FVec Ideal S16x4096x4096 .f32) : FVec Ideal S4096x2048 .f32 :=
  shapeCast S4096x2048 (broadcastInDim S4096x16x128 ![0, 1, 2] bcast_S4096x16x1_S4096x16x128_0_1_2 (transpose S4096x16x1 [1, 0, 2] (hLog s) transposes_S16x4096x1_S4096x16x1_1_0_2)) shapeCasts_S4096x16x128_S4096x2048

/-- The attention's output. -/
def hO (kv : FVec Ideal S4096x16x256 .f32) (s : FVec Ideal S16x4096x4096 .f32) : FVec Ideal S4096x2048 .bf16 :=
  truncf .bf16 (shapeCast S4096x2048 (transpose S4096x16x128 [2, 0, 1] (Host.dotGeneral dot_S4096x16x128_S16x4096x4096_S16x128x4096_0_2_2_1_1_0 none (extractStridedSlice S4096x16x128 ![0, 0, 128] kv slices_S4096x16x256_S4096x16x128_0_0_128) (Host.divf (hExp s) (broadcastInDim S16x4096x4096 ![0, 1, 2] bcast_S16x4096x1_S16x4096x4096_0_1_2 (hSum s)))) transposes_S16x128x4096_S4096x16x128_2_0_1) shapeCasts_S4096x16x128_S4096x2048) bitsLt_bf16_f32

/-- The queries as the call reads them. -/
def hQ (q : FVec Ideal S4096x16x192 .f32) (co si : FVec Ideal S4096x32 .f32) : FVec Ideal S4096x4096 .bf16 :=
  truncf .bf16 (shapeCast S4096x4096 (concatenate S4096x16x256 2 [⟨S4096x16x128, extractStridedSlice S4096x16x128 ![0, 0, 0] q slices_S4096x16x192_S4096x16x128_0_0_0⟩, ⟨S4096x16x64, hRot q co si⟩, ⟨S4096x16x64, broadcastInDim S4096x16x64 ![] bcast_S_S4096x16x64 (constant S_ .f32 0x00000000#32)⟩] concatenates_S4096x16x128_S4096x16x64_S4096x16x64_S4096x16x256_d2) shapeCasts_S4096x16x256_S4096x4096) bitsLt_bf16_f32

/-- Keys and values as the call reads them. -/
def hKV (kv : FVec Ideal S4096x16x256 .f32) : FVec Ideal S4096x4096 .bf16 := truncf .bf16 (shapeCast S4096x4096 kv shapeCasts_S4096x16x256_S4096x4096) bitsLt_bf16_f32

/-- The keys' rotated lanes as the call reads them. -/
def hKR (kr : FVec Ideal S4096x64 .f32) : FVec Ideal S4096x128 .bf16 :=
  truncf .bf16 (concatenate S4096x128 1 [⟨S4096x64, kr⟩, ⟨S4096x64, broadcastInDim S4096x64 ![] bcast_S_S4096x64 (constant S_ .f32 0x00000000#32)⟩] concatenates_S4096x64_S4096x64_S4096x128_d1) bitsLt_bf16_f32

/-- The output's gradient as the call reads it. -/
def hD (d : FVec Ideal S4096x16x128 .f32) : FVec Ideal S4096x2048 .bf16 := truncf .bf16 (shapeCast S4096x2048 d shapeCasts_S4096x16x128_S4096x2048) bitsLt_bf16_f32

/-- The rotation's tables as the call reads them. -/
def hC (co : FVec Ideal S4096x32 .f32) : FVec Ideal S4096x128 .f32 :=
  concatenate S4096x128 1 [⟨S4096x32, co⟩, ⟨S4096x32, co⟩, ⟨S4096x64, broadcastInDim S4096x64 ![] bcast_S_S4096x64 (constant S_ .f32 0x00000000#32)⟩] concatenates_S4096x32_S4096x32_S4096x64_S4096x128_d1
/-- The first sine table. -/
def hA (si : FVec Ideal S4096x32 .f32) : FVec Ideal S4096x128 .f32 :=
  Host.negf (concatenate S4096x128 1 [⟨S4096x32, Host.negf si⟩, ⟨S4096x32, broadcastInDim S4096x32 ![] bcast_S_S4096x32 (constant S_ .f32 0x00000000#32)⟩, ⟨S4096x64, broadcastInDim S4096x64 ![] bcast_S_S4096x64 (constant S_ .f32 0x00000000#32)⟩] concatenates_S4096x32_S4096x32_S4096x64_S4096x128_d1)
/-- The second sine table. -/
def hB (si : FVec Ideal S4096x32 .f32) : FVec Ideal S4096x128 .f32 :=
  Host.negf (concatenate S4096x128 1 [⟨S4096x32, broadcastInDim S4096x32 ![] bcast_S_S4096x32 (constant S_ .f32 0x00000000#32)⟩, ⟨S4096x32, si⟩, ⟨S4096x64, broadcastInDim S4096x64 ![] bcast_S_S4096x64 (constant S_ .f32 0x00000000#32)⟩] concatenates_S4096x32_S4096x32_S4096x64_S4096x128_d1)

/-! ## An element at a time -/

/-- An element of the rotated query lanes. -/
theorem hRot_apply (q : FVec Ideal S4096x16x192 .f32) (co si : FVec Ideal S4096x32 .f32) (r : Fin 4096) (h : Fin 16) (l : Fin 64) :
    hRot q co si (ix3 r h l) = if hl : l.val < 32 then
        q (ix3 r h ⟨128 + l.val, by omega⟩) * co (ix2 r ⟨l.val, hl⟩) - q (ix3 r h ⟨128 + (32 + l.val), by omega⟩) * si (ix2 r ⟨l.val, hl⟩)
      else q (ix3 r h ⟨128 + (32 + (l.val - 32)), by omega⟩) * co (ix2 r ⟨l.val - 32, by omega⟩) + q (ix3 r h ⟨128 + (l.val - 32), by omega⟩) * si (ix2 r ⟨l.val - 32, by omega⟩) := by
  pointwise [hRot]

/-- An element of the scores. -/
theorem hScore_apply (q : FVec Ideal S4096x16x192 .f32) (kv : FVec Ideal S4096x16x256 .f32) (kr : FVec Ideal S4096x64 .f32) (co si : FVec Ideal S4096x32 .f32) (h : Fin 16) (i j : Fin 4096) :
    hScore q kv kr co si (ix3 h i j) = Ideal.div ((∑ x : Fin 128, q (ix3 i h ⟨x.val, by omega⟩) * kv (ix3 j h ⟨x.val, by omega⟩)) + ∑ x : Fin 64, hRot q co si (ix3 i h x) * kr (ix2 j x)) (Ideal.sqrt (Ideal.ofBits .f32 1128267776#32)) := by
  pointwise [hScore]

/-- An element of the masked scores. -/
theorem hMask_apply (s : FVec Ideal S16x4096x4096 .f32) (h : Fin 16) (i j : Fin 4096) :
    hMask s (ix3 h i j) = Scalar.select (IntOp.cmpi .sle (BitVec.ofNat 32 j.val) (BitVec.ofNat 32 i.val)) (s (ix3 h i j)) (Ideal.ofBits .f32 4286578688#32) := by
  pointwise [hMask]

/-- An element of the row maximum. -/
theorem hMax_apply (s : FVec Ideal S16x4096x4096 .f32) (h : Fin 16) (i : Fin 4096) :
    hMax s (ix3 h i 0) = Finset.fold max (Ideal.ofBits .f32 4286578688#32) (fun x => s (ix3 h i x)) Finset.univ := by
  pointwise [hMax]

/-- An element of the exponentials. -/
theorem hExp_apply (s : FVec Ideal S16x4096x4096 .f32) (h : Fin 16) (i j : Fin 4096) :
    hExp s (ix3 h i j) = Ideal.exp (s (ix3 h i j) - hMax s (ix3 h i 0)) := by
  pointwise [hExp]

/-- An element of the row sum. -/
theorem hSum_apply (s : FVec Ideal S16x4096x4096 .f32) (h : Fin 16) (i : Fin 4096) :
    hSum s (ix3 h i 0) = ∑ x, hExp s (ix3 h i x) := by
  pointwise [hSum]

/-- The same with the row's greatest score and sum put in. -/
theorem hLog_of (x y : FVec Ideal S16x4096x1 .f32) (h : Fin 16) (i : Fin 4096) :
    Host.divf (addf x (Host.log y)) (broadcastInDim S16x4096x1 ![] bcast_S_S16x4096x1 (Host.log (constant S_ .f32 0x40000000#32))) (ix3 h i 0)
      = Ideal.div (x (ix3 h i 0) + Ideal.log (y (ix3 h i 0))) (Ideal.log (Ideal.ofBits .f32 1073741824#32)) := by
  pointwise []

/-- An element of the row's log-sum. -/
theorem hLog_apply (s : FVec Ideal S16x4096x4096 .f32) (h : Fin 16) (i : Fin 4096) :
    hLog s (ix3 h i 0) = Ideal.div (hMax s (ix3 h i 0) + Ideal.log (hSum s (ix3 h i 0))) (Ideal.log (Ideal.ofBits .f32 1073741824#32)) :=
  hLog_of (hMax s) (hSum s) h i

/-- An element of the row constants as the call takes them. -/
theorem hLse_apply (s : FVec Ideal S16x4096x4096 .f32) (i : Fin 4096) (q : Fin 2048) :
    hLse s (ix2 i q) = hLog s (ix3 ⟨q.val / 128, by omega⟩ i 0) := by
  pointwise [hLse]

/-- An element of the output as the call takes it. -/
theorem hO_apply (kv : FVec Ideal S4096x16x256 .f32) (s : FVec Ideal S16x4096x4096 .f32) (i : Fin 4096) (q : Fin 2048) :
    hO kv s (ix2 i q) = ∑ x, kv (ix3 x ⟨q.val / 128, by omega⟩ ⟨128 + q.val % 128, by omega⟩) * Ideal.div (hExp s (ix3 ⟨q.val / 128, by omega⟩ i x)) (hSum s (ix3 ⟨q.val / 128, by omega⟩ i 0)) := by
  pointwise [hO]

/-- An element of the queries as the call takes them. -/
theorem hQ_apply (q : FVec Ideal S4096x16x192 .f32) (co si : FVec Ideal S4096x32 .f32) (i : Fin 4096) (p : Fin 4096) :
    hQ q co si (ix2 i p) = if h1 : p.val % 256 < 128 then q (ix3 i ⟨p.val / 256, by omega⟩ ⟨p.val % 256, by omega⟩)
      else if h2 : p.val % 256 - 128 < 64 then hRot q co si (ix3 i ⟨p.val / 256, by omega⟩ ⟨p.val % 256 - 128, h2⟩) else 0 := by
  pointwise [hQ]

/-- An element of the keys and values as the call takes them. -/
theorem hKV_apply (kv : FVec Ideal S4096x16x256 .f32) (i : Fin 4096) (p : Fin 4096) :
    hKV kv (ix2 i p) = kv (ix3 i ⟨p.val / 256, by omega⟩ ⟨p.val % 256, by omega⟩) := by
  pointwise [hKV]

/-- An element of the rotated keys as the call takes them. -/
theorem hKR_apply (kr : FVec Ideal S4096x64 .f32) (i : Fin 4096) (l : Fin 128) :
    hKR kr (ix2 i l) = if h : l.val < 64 then kr (ix2 i ⟨l.val, h⟩) else 0 := by
  pointwise [hKR]

/-- An element of the output gradient as the call takes it. -/
theorem hD_apply (d : FVec Ideal S4096x16x128 .f32) (i : Fin 4096) (p : Fin 2048) :
    hD d (ix2 i p) = d (ix3 i ⟨p.val / 128, by omega⟩ ⟨p.val % 128, by omega⟩) := by
  pointwise [hD]

/-- An element of the cosine table. -/
theorem hC_apply (co : FVec Ideal S4096x32 .f32) (i : Fin 4096) (l : Fin 128) :
    hC co (ix2 i l) = if h : l.val < 32 then co (ix2 i ⟨l.val, h⟩) else if h2 : l.val - 32 < 32 then co (ix2 i ⟨l.val - 32, h2⟩) else 0 := by
  pointwise [hC]

/-- An element of the first sine table. -/
theorem hA_apply (si : FVec Ideal S4096x32 .f32) (i : Fin 4096) (l : Fin 128) :
    hA si (ix2 i l) = - (if h : l.val < 32 then - si (ix2 i ⟨l.val, h⟩) else if h2 : l.val - 32 < 32 then 0 else 0) := by
  pointwise [hA]

/-- An element of the second sine table. -/
theorem hB_apply (si : FVec Ideal S4096x32 .f32) (i : Fin 4096) (l : Fin 128) :
    hB si (ix2 i l) = - (if h : l.val < 32 then 0 else if h2 : l.val - 32 < 32 then si (ix2 i ⟨l.val - 32, h2⟩) else 0) := by
  pointwise [hB]

end Cert.Attn

end
-- ==== Proof.AttnArrays.lean ====
/-
  The arrays handed to the attention call are what the host lines before it leave there.
-/
module

public import proofs.«01_k».proof.Proof.AttnHost
public import Idealize.ShloMosaic.Lib.Pipeline.Value

@[expose] public section

set_option maxRecDepth 100000
set_option maxHeartbeats 4000000

noncomputable section

namespace Cert.Attn

open Cert.Kernel2Ideal Cert.Kernel2Ideal.Gen
open Idealize.ShloMosaic Idealize.ShloMosaic.TcCoe Idealize.SL.Sem
open Idealize.ShloMosaic.Pipeline (Dat Window)

variable (m : (ℓ : Loc nD τ sig) → Buf (Elt Ideal) ℓ)

/-! ## The arguments, as arrays -/

/-- The kernel's argument 0: the queries. -/
abbrev A0 (c : Dev nD) : FVec Ideal S4096x16x192 .f32 := m ((c.tc : Thread nD τ).loc main_arg0)
/-- The kernel's argument 1: the keys and values. -/
abbrev A1 (c : Dev nD) : FVec Ideal S4096x16x256 .f32 := m ((c.tc : Thread nD τ).loc main_arg1)
/-- The kernel's argument 2: the shared rotated keys. -/
abbrev A2 (c : Dev nD) : FVec Ideal S4096x64 .f32 := m ((c.tc : Thread nD τ).loc main_arg2)
/-- The kernel's argument 3: the output gradient. -/
abbrev A3 (c : Dev nD) : FVec Ideal S4096x16x128 .f32 := m ((c.tc : Thread nD τ).loc main_arg3)
/-- The kernel's argument 4: the cosines. -/
abbrev A4 (c : Dev nD) : FVec Ideal S4096x32 .f32 := m ((c.tc : Thread nD τ).loc main_arg4)
/-- The kernel's argument 5: the sines. -/
abbrev A5 (c : Dev nD) : FVec Ideal S4096x32 .f32 := m ((c.tc : Thread nD τ).loc main_arg5)

/-- The masked scores. -/
abbrev scores (c : Dev nD) : FVec Ideal S16x4096x4096 .f32 := hMask (hScore (A0 m c) (A1 m c) (A2 m c) (A4 m c) (A5 m c))

/-- The query array. -/
theorem V_v60 (c : Dev nD) : (V m c main_v60 : S4096x4096.Idx → EReal) = hQ (A0 m c) (A4 m c) (A5 m c) := by
  unfold V
  simp only [hostOps0, hostOps0_1, hostOps0_2, List.flatten_cons, List.flatten_nil, List.append_nil, List.cons_append, List.nil_append]
  after_results
  rfl

/-- The key and value array. -/
theorem V_v62 (c : Dev nD) : (V m c main_v62 : S4096x4096.Idx → EReal) = hKV (A1 m c) := by
  unfold V
  simp only [hostOps0, hostOps0_1, hostOps0_2, List.flatten_cons, List.flatten_nil, List.append_nil, List.cons_append, List.nil_append]
  after_results
  rfl

/-- The rotated key array. -/
theorem V_v64 (c : Dev nD) : (V m c main_v64 : S4096x128.Idx → EReal) = hKR (A2 m c) := by
  unfold V
  simp only [hostOps0, hostOps0_1, hostOps0_2, List.flatten_cons, List.flatten_nil, List.append_nil, List.cons_append, List.nil_append]
  after_results
  rfl

/-- The output array. -/
theorem V_v66 (c : Dev nD) : (V m c main_v66 : S4096x2048.Idx → EReal) = hO (A1 m c) (scores m c) := by
  unfold V
  simp only [hostOps0, hostOps0_1, hostOps0_2, List.flatten_cons, List.flatten_nil, List.append_nil, List.cons_append, List.nil_append]
  after_results
  rfl

/-- The row statistics array. -/
theorem V_v68 (c : Dev nD) : (V m c main_v68 : S4096x2048.Idx → EReal) = hLse (scores m c) := by
  unfold V
  simp only [hostOps0, hostOps0_1, hostOps0_2, List.flatten_cons, List.flatten_nil, List.append_nil, List.cons_append, List.nil_append]
  after_results
  rfl

/-- The output gradient array. -/
theorem V_v70 (c : Dev nD) : (V m c main_v70 : S4096x2048.Idx → EReal) = hD (A3 m c) := by
  unfold V
  simp only [hostOps0, hostOps0_1, hostOps0_2, List.flatten_cons, List.flatten_nil, List.append_nil, List.cons_append, List.nil_append]
  after_results
  rfl

/-- The first table array. -/
theorem V_v53 (c : Dev nD) : (V m c main_v53 : S4096x128.Idx → EReal) = hC (A4 m c) := by
  unfold V
  simp only [hostOps0, hostOps0_1, hostOps0_2, List.flatten_cons, List.flatten_nil, List.append_nil, List.cons_append, List.nil_append]
  after_results
  rfl

/-- The second table array. -/
theorem V_v71 (c : Dev nD) : (V m c main_v71 : S4096x128.Idx → EReal) = hA (A5 m c) := by
  unfold V
  simp only [hostOps0, hostOps0_1, hostOps0_2, List.flatten_cons, List.flatten_nil, List.append_nil, List.cons_append, List.nil_append]
  after_results
  rfl

/-- The third table array. -/
theorem V_v72 (c : Dev nD) : (V m c main_v72 : S4096x128.Idx → EReal) = hB (A5 m c) := by
  unfold V
  simp only [hostOps0, hostOps0_1, hostOps0_2, List.flatten_cons, List.flatten_nil, List.append_nil, List.cons_append, List.nil_append]
  after_results
  rfl

end Cert.Attn

end
-- ==== Proof.AttnHead.lean ====
/-
  One head of the attention's backward pass over the real numbers: the probabilities from the saved row statistics,
  the scores' gradient, and sums over rows taken a block of 512 at a time.
-/
module

public import Idealize.ShloMosaic.Lib.Pointwise

@[expose] public section

noncomputable section

namespace Cert.Attn

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What one head's backward pass reads: queries and keys with their rotated parts, values, the output and its
gradient, and each row's log-sum-exp in base two. -/
structure Head where
  Q : Fin 4096 → Fin 256 → ℝ
  K : Fin 4096 → Fin 256 → ℝ
  V : Fin 4096 → Fin 128 → ℝ
  D : Fin 4096 → Fin 128 → ℝ
  O : Fin 4096 → Fin 128 → ℝ
  S : Fin 4096 → ℝ

namespace Head

/-- The probability before masking. -/
def pr (H : Head) (i j : Fin 4096) : ℝ := Real.rpow 2 ((∑ x, H.Q i x * H.K j x) * ((Real.sqrt 192)⁻¹ * (Real.log 2)⁻¹) - H.S i)
/-- The probability: no key after the query. -/
def pm (H : Head) (i j : Fin 4096) : ℝ := if j ≤ i then H.pr i j else 0
/-- The scores' gradient. -/
def gm (H : Head) (i j : Fin 4096) : ℝ := H.pm i j * ((∑ x, H.D i x * H.V j x) - ∑ x, H.D i x * H.O i x) * (Real.sqrt 192)⁻¹

/-- A weight at or below the diagonal is kept. -/
theorem pm_of_le (H : Head) {i j : Fin 4096} (h : j ≤ i) : H.pm i j = H.pr i j := if_pos h
/-- A weight above the diagonal is zero. -/
theorem pm_of_lt (H : Head) {i j : Fin 4096} (h : i < j) : H.pm i j = 0 := if_neg (not_le.mpr h)
/-- So is its score gradient. -/
theorem gm_of_lt (H : Head) {i j : Fin 4096} (h : i < j) : H.gm i j = 0 := by rw [gm, pm_of_lt H h, zero_mul, zero_mul]

end Head

/-- Row `r` of block `b`. -/
def row (b : ℕ) (r : Fin 512) : Fin 4096 := ⟨(512 * b + r.val) % 4096, Nat.mod_lt _ (by norm_num)⟩

/-- The number of a row of a block. -/
theorem row_val {b : ℕ} (hb : b < 8) (r : Fin 512) : (row b r).val = 512 * b + r.val := by
  show (512 * b + r.val) % 4096 = _
  have := r.isLt
  omega

/-- A sum over all rows, a block at a time. -/
theorem sum_blocks (f : Fin 4096 → ℝ) : ∑ i, f i = ∑ n ∈ Finset.range 8, ∑ r, f (row n r) := by
  rw [Finset.sum_range (n := 8) (f := fun n => ∑ r, f (row n r)), ← Finset.sum_product' (s := Finset.univ) (t := Finset.univ) (f := fun (a : Fin 8) (r : Fin 512) => f (row a r)), Finset.univ_product_univ]
  refine (Fintype.sum_equiv (finProdFinEquiv (m := 8) (n := 512)) (fun x => f (row x.1 x.2)) (fun i => f i) fun x => ?_).symm
  refine congrArg f (Fin.ext ?_)
  rw [row_val x.1.isLt]
  show _ = x.2.val + 512 * x.1.val
  omega

/-- A sum of which the first blocks contribute nothing. -/
theorem sum_blocks_from (f : Fin 4096 → ℝ) (b : ℕ) (hb : b ≤ 8) (h0 : ∀ i : Fin 4096, i.val < 512 * b → f i = 0) :
    ∑ n ∈ Finset.range (8 - b), ∑ r, f (row (b + n) r) = ∑ i, f i := by
  rw [sum_blocks f]
  obtain ⟨k, hk⟩ : ∃ k, 8 = b + k := ⟨8 - b, by omega⟩
  rw [show 8 - b = k by omega, hk, Finset.sum_range_add]
  rw [Finset.sum_eq_zero (s := Finset.range b), zero_add]
  intro n hn
  have hn' := Finset.mem_range.mp hn
  refine Finset.sum_eq_zero fun r _ => h0 _ ?_
  rw [row_val (by omega)]
  have := r.isLt
  omega

end Cert.Attn

end
-- ==== Proof.AttnArgs.lean ====
/-
  Causal attention over the reals: the scores, the softmax with its saved row statistics, and the gradients, the
  probabilities and the scores' gradient being those that one head's backward pass recomputes.
-/
module

public import proofs.«01_k».proof.Proof.AttnHead

@[expose] public section

noncomputable section

namespace Cert.Attn

/-- What the step reads, over the reals: queries, keys with values, the keys' rotated lanes, the output's gradient,
and the rotation's cosines and sines. -/
structure Args where
  q : Fin 4096 → Fin 16 → Fin 192 → ℝ
  kv : Fin 4096 → Fin 16 → Fin 256 → ℝ
  kr : Fin 4096 → Fin 64 → ℝ
  d : Fin 4096 → Fin 16 → Fin 128 → ℝ
  co : Fin 4096 → Fin 32 → ℝ
  si : Fin 4096 → Fin 32 → ℝ

/-- The masked scores of one row have a greatest one, and it is real. -/
theorem fold_max_real (f : Fin 4096 → EReal) (h : ∀ j, f j ≠ ⊤) (i : Fin 4096) (hi : f i ≠ ⊥) :
    Finset.fold max ⊥ f Finset.univ = ((Finset.fold max ⊥ f Finset.univ).toReal : EReal) := by
  refine (EReal.coe_toReal (ne_of_lt ?_) (ne_of_gt ?_)).symm
  · rw [Finset.fold_max_lt]
    exact ⟨bot_lt_top, fun x _ => lt_top_iff_ne_top.mpr (h x)⟩
  · rw [Finset.lt_fold_max]
    exact Or.inr ⟨i, Finset.mem_univ _, bot_lt_iff_ne_bot.mpr hi⟩

namespace Args

variable (X : Args)

/-- The queries' rotated lanes. -/
def rot (i : Fin 4096) (h : Fin 16) (l : Fin 64) : ℝ :=
  if hl : l.val < 32 then X.q i h ⟨128 + l.val, by omega⟩ * X.co i ⟨l.val, hl⟩ - X.q i h ⟨128 + (32 + l.val), by omega⟩ * X.si i ⟨l.val, hl⟩
  else X.q i h ⟨128 + (32 + (l.val - 32)), by omega⟩ * X.co i ⟨l.val - 32, by omega⟩ + X.q i h ⟨128 + (l.val - 32), by omega⟩ * X.si i ⟨l.val - 32, by omega⟩

/-- The product of a query and a key. -/
def dot (h : Fin 16) (i j : Fin 4096) : ℝ := (∑ x : Fin 128, X.q i h ⟨x.val, by omega⟩ * X.kv j h ⟨x.val, by omega⟩) + ∑ x : Fin 64, X.rot i h x * X.kr j x
/-- The scaled score. -/
def score (h : Fin 16) (i j : Fin 4096) : ℝ := X.dot h i j * (1 / Real.sqrt 192)
/-- The masked score. -/
def masked (h : Fin 16) (i j : Fin 4096) : EReal := if j ≤ i then (X.score h i j : EReal) else ⊥
/-- A row's greatest score. -/
def mx (h : Fin 16) (i : Fin 4096) : ℝ := (Finset.fold max ⊥ (X.masked h i) Finset.univ).toReal
/-- The exponentials. -/
def ex (h : Fin 16) (i j : Fin 4096) : ℝ := if j ≤ i then Real.exp (X.score h i j - X.mx h i) else 0
/-- A row's sum of exponentials. -/
def L (h : Fin 16) (i : Fin 4096) : ℝ := ∑ j, X.ex h i j
/-- The probabilities. -/
def P (h : Fin 16) (i j : Fin 4096) : ℝ := X.ex h i j * (1 / X.L h i)
/-- The output. -/
def O (h : Fin 16) (i : Fin 4096) (v : Fin 128) : ℝ := ∑ j, X.kv j h ⟨128 + v.val, by omega⟩ * X.P h i j
/-- A row's log-sum-exp in base two. -/
def S (h : Fin 16) (i : Fin 4096) : ℝ := (X.mx h i + Real.log (X.L h i)) * (1 / Real.log 2)
/-- The probabilities' gradient. -/
def dP (h : Fin 16) (i j : Fin 4096) : ℝ := ∑ v : Fin 128, X.d i h v * X.kv j h ⟨128 + v.val, by omega⟩
/-- The scores' gradient, through the softmax, the mask and the scale. -/
def dS (h : Fin 16) (i j : Fin 4096) : ℝ :=
  (if j ≤ i then (X.dP h i j * (1 / X.L h i) + -(∑ k, X.dP h i k * (1 * (1 / (X.L h i * X.L h i))) * X.ex h i k)) * X.ex h i j else 0) * (1 / Real.sqrt 192)

/-- What one head's backward pass reads. -/
def head (h : Fin 16) : Head where
  Q i l := if h1 : l.val < 128 then X.q i h ⟨l.val, by omega⟩ else if h2 : l.val - 128 < 64 then X.rot i h ⟨l.val - 128, h2⟩ else 0
  K j l := if h1 : l.val < 128 then X.kv j h ⟨l.val, by omega⟩ else if h2 : l.val - 128 < 64 then X.kr j ⟨l.val - 128, h2⟩ else 0
  V j v := X.kv j h ⟨128 + v.val, by omega⟩
  D i v := X.d i h v
  O i v := X.O h i v
  S i := X.S h i

/-- No masked score is +∞. -/
theorem masked_ne_top (h : Fin 16) (i j : Fin 4096) : X.masked h i j ≠ ⊤ := by
  unfold masked; split
  · exact EReal.coe_ne_top _
  · exact bot_ne_top

/-- A query's own key is never masked out. -/
theorem masked_self (h : Fin 16) (i : Fin 4096) : X.masked h i i ≠ ⊥ := by
  unfold masked; rw [if_pos le_rfl]; exact EReal.coe_ne_bot _

/-- The greatest masked score of a row is the real `mx`. -/
theorem fold_masked (h : Fin 16) (i : Fin 4096) : Finset.fold max ⊥ (X.masked h i) Finset.univ = (X.mx h i : EReal) :=
  fold_max_real _ (X.masked_ne_top h i) i (X.masked_self h i)

/-- An exponential is not negative. -/
theorem ex_nonneg (h : Fin 16) (i j : Fin 4096) : 0 ≤ X.ex h i j := by
  unfold ex; split
  · exact (Real.exp_pos _).le
  · exact le_rfl

/-- A row's sum of exponentials is positive. -/
theorem L_pos (h : Fin 16) (i : Fin 4096) : 0 < X.L h i := by
  refine Finset.sum_pos' (fun j _ => X.ex_nonneg h i j) ⟨i, Finset.mem_univ _, ?_⟩
  unfold ex; rw [if_pos le_rfl]; exact Real.exp_pos _

/-- The product over the head's 256 lanes is the product over the plain and the rotated ones. -/
theorem head_dot (h : Fin 16) (i j : Fin 4096) : ∑ x, (X.head h).Q i x * (X.head h).K j x = X.dot h i j := by
  have e (f : Fin 256 → ℝ) : ∑ x, f x = (∑ x : Fin 128, f ⟨x.val, by omega⟩) + ((∑ x : Fin 64, f ⟨128 + x.val, by omega⟩) + ∑ x : Fin 64, f ⟨192 + x.val, by omega⟩) := by
    rw [show (∑ x, f x) = ∑ x : Fin (128 + (64 + 64)), f x from rfl, Fin.sum_univ_add, Fin.sum_univ_add]
    refine congrArg₂ _ (Finset.sum_congr rfl fun x _ => rfl) (congrArg₂ _ (Finset.sum_congr rfl fun x _ => rfl) (Finset.sum_congr rfl fun x _ => congrArg f (Fin.ext ?_)))
    show 128 + (64 + x.val) = 192 + x.val
    omega
  rw [e, dot]
  refine congrArg₂ _ (Finset.sum_congr rfl fun x _ => ?_) ?_
  · simp only [head, x.isLt, dif_pos]
  · rw [show (∑ x : Fin 64, (X.head h).Q i ⟨192 + x.val, by omega⟩ * (X.head h).K j ⟨192 + x.val, by omega⟩) = 0 from Finset.sum_eq_zero fun x _ => ?_, add_zero]
    · refine Finset.sum_congr rfl fun x _ => ?_
      have h1 : ¬ (128 + x.val < 128) := by omega
      have h2 : 128 + x.val - 128 < 64 := by omega
      have h3 : (⟨128 + x.val - 128, h2⟩ : Fin 64) = x := Fin.ext (by show 128 + x.val - 128 = x.val; omega)
      simp only [head, dif_neg h1, dif_pos h2, h3]
    · have h1 : ¬ (192 + x.val < 128) := by omega
      have h2 : ¬ (192 + x.val - 128 < 64) := by omega
      simp only [head, dif_neg h1, dif_neg h2, mul_zero]

/-- The recomputed probabilities are the softmax's. -/
theorem head_pm (h : Fin 16) (i j : Fin 4096) : (X.head h).pm i j = X.P h i j := by
  have hL := X.L_pos h i
  have h2 : Real.log 2 ≠ 0 := (Real.log_pos (by norm_num)).ne'
  by_cases hij : j ≤ i
  · rw [Head.pm_of_le _ hij, Head.pr, X.head_dot, P, ex, if_pos hij]
    show Real.rpow 2 _ = _
    rw [show Real.rpow 2 (X.dot h i j * ((Real.sqrt 192)⁻¹ * (Real.log 2)⁻¹) - (X.head h).S i) = Real.exp (Real.log 2 * (X.dot h i j * ((Real.sqrt 192)⁻¹ * (Real.log 2)⁻¹) - (X.head h).S i)) from Real.rpow_def_of_pos (by norm_num) _]
    have e : Real.log 2 * (X.dot h i j * ((Real.sqrt 192)⁻¹ * (Real.log 2)⁻¹) - (X.head h).S i) = (X.score h i j - X.mx h i) - Real.log (X.L h i) := by
      show Real.log 2 * (X.dot h i j * ((Real.sqrt 192)⁻¹ * (Real.log 2)⁻¹) - (X.mx h i + Real.log (X.L h i)) * (1 / Real.log 2)) = _
      rw [score]
      field_simp
      ring
    rw [e, Real.exp_sub, Real.exp_log hL]
    ring
  · rw [Head.pm_of_lt _ (not_le.mp hij), P, ex, if_neg hij, zero_mul]

/-- The output's gradient against the output is the probabilities' gradient against the probabilities. -/
theorem sum_out (h : Fin 16) (i : Fin 4096) : ∑ v, X.d i h v * X.O h i v = ∑ j, X.dP h i j * X.P h i j := by
  simp only [O, dP, Finset.mul_sum, Finset.sum_mul]
  rw [Finset.sum_comm]
  exact Finset.sum_congr rfl fun j _ => Finset.sum_congr rfl fun v _ => by ring

/-- The recomputed scores' gradient is the softmax's. -/
theorem head_gm (h : Fin 16) (i j : Fin 4096) : (X.head h).gm i j = X.dS h i j := by
  have hL := (X.L_pos h i).ne'
  rw [Head.gm, X.head_pm, dS]
  show X.P h i j * (X.dP h i j - ∑ v, X.d i h v * X.O h i v) * _ = _
  rw [X.sum_out, one_div (Real.sqrt 192)]
  refine congrArg (· * (Real.sqrt 192)⁻¹) ?_
  by_cases hij : j ≤ i
  · rw [if_pos hij]
    have e : ∑ k, X.dP h i k * (1 * (1 / (X.L h i * X.L h i))) * X.ex h i k = (∑ k, X.dP h i k * X.P h i k) * (1 / X.L h i) := by
      rw [Finset.sum_mul]
      refine Finset.sum_congr rfl fun k _ => ?_
      rw [P]; field_simp
    rw [e, P]
    ring
  · rw [if_neg hij, P, ex, if_neg hij, zero_mul, zero_mul]

/-! ## The results -/

/-- The gradient of keys and values. -/
def dKV (j : Fin 4096) (h : Fin 16) (l : Fin 256) : ℝ :=
  if hl : l.val < 128 then ∑ i, X.dS h i j * X.q i h ⟨l.val, by omega⟩ else ∑ i, X.P h i j * X.d i h ⟨l.val - 128, by omega⟩
/-- The gradient of the keys' rotated lanes, head by head. -/
def dKR (j : Fin 4096) (h : Fin 16) (l : Fin 128) : ℝ :=
  if hl : l.val < 64 then ∑ i, X.dS h i j * X.rot i h ⟨l.val, hl⟩ else 0
/-- The gradient of the rotated lanes of the queries. -/
def dR (i : Fin 4096) (h : Fin 16) (l : Fin 64) : ℝ := ∑ j, X.dS h i j * X.kr j l
/-- The gradient of the queries. -/
def dQ (i : Fin 4096) (h : Fin 16) (l : Fin 256) : ℝ :=
  if h1 : l.val < 128 then ∑ j, X.dS h i j * X.kv j h ⟨l.val, by omega⟩
  else if h2 : l.val - 128 < 32 then X.dR i h ⟨l.val - 128, by omega⟩ * X.co i ⟨l.val - 128, h2⟩ + X.dR i h ⟨l.val - 128 + 32, by omega⟩ * X.si i ⟨l.val - 128, h2⟩
  else if h3 : l.val - 128 < 64 then X.dR i h ⟨l.val - 128, h3⟩ * X.co i ⟨l.val - 128 - 32, by omega⟩ - X.dR i h ⟨l.val - 128 - 32, by omega⟩ * X.si i ⟨l.val - 128 - 32, by omega⟩
  else 0

end Args

end Cert.Attn

end
-- ==== Proof.AttnSaved.lean ====
/-
  The saved values and the arrays handed to the attention call, when every argument is real: each is the real
  number that causal attention gives.
-/
module

public import proofs.«01_k».proof.Proof.AttnArgs
public import proofs.«01_k».proof.Proof.AttnHost

@[expose] public section

set_option maxRecDepth 16384

noncomputable section

namespace Cert.Attn

open Cert.Kernel2Ideal Cert.Kernel2Ideal.Gen
open Idealize.ShloMosaic Idealize.ShloMosaic.TcCoe

/-- The six arguments hold the reals `X`. -/
structure Given (q : FVec Ideal S4096x16x192 .f32) (kv : FVec Ideal S4096x16x256 .f32) (kr : FVec Ideal S4096x64 .f32)
    (d : FVec Ideal S4096x16x128 .f32) (co si : FVec Ideal S4096x32 .f32) (X : Args) : Prop where
  q : ∀ i h l, q (ix3 i h l) = (X.q i h l : EReal)
  kv : ∀ i h l, kv (ix3 i h l) = (X.kv i h l : EReal)
  kr : ∀ i l, kr (ix2 i l) = (X.kr i l : EReal)
  d : ∀ i h l, d (ix3 i h l) = (X.d i h l : EReal)
  co : ∀ i l, co (ix2 i l) = (X.co i l : EReal)
  si : ∀ i l, si (ix2 i l) = (X.si i l : EReal)

/-- The root of the word of 192. -/
theorem c192 : Ideal.sqrt (Ideal.ofBits .f32 1128267776#32) = ((Real.sqrt 192 : ℝ) : EReal) := by
  have e : Ideal.ofBits .f32 1128267776#32 = ((192 : ℝ) : EReal) := by
    simp [Ideal.ofBits, Ideal.ieee, -EReal.coe_mul]; norm_num
  rw [e, Ideal.sqrt_coe, if_neg (by norm_num)]

/-- The logarithm of the word of two. -/
theorem c2 : Ideal.log (Ideal.ofBits .f32 1073741824#32) = ((Real.log 2 : ℝ) : EReal) := by
  have e : Ideal.ofBits .f32 1073741824#32 = ((2 : ℝ) : EReal) := by
    simp [Ideal.ofBits, Ideal.ieee, -EReal.coe_mul]; norm_num
  rw [e, Ideal.log_coe, if_neg (by norm_num)]

/-- The word that stands for −∞. -/
theorem cbot : Ideal.ofBits .f32 4286578688#32 = (⊥ : EReal) := by
  simp [Ideal.ofBits, Ideal.ieee, -EReal.coe_mul]

/-- The root of 192 is not zero. -/
theorem sqrt192_ne : Real.sqrt 192 ≠ 0 := (Real.sqrt_pos.mpr (by norm_num)).ne'
/-- The logarithm of two is not zero. -/
theorem log2_ne : Real.log 2 ≠ 0 := (Real.log_pos (by norm_num)).ne'

/-- The mask lets a key through when it is no later than the query. -/
theorem mask_le (i j : Fin 4096) (a b : EReal) :
    Scalar.select (IntOp.cmpi .sle (BitVec.ofNat 32 j.val) (BitVec.ofNat 32 i.val)) a b = if j ≤ i then a else b := by
  have hi := i.isLt
  have hj := j.isLt
  have e1 : (BitVec.ofNat 32 j.val).toInt = (j.val : ℤ) := by
    rw [BitVec.toInt_eq_toNat_cond, BitVec.toNat_ofNat, Nat.mod_eq_of_lt (by omega)]
    rw [if_pos (by omega)]
  have e2 : (BitVec.ofNat 32 i.val).toInt = (i.val : ℤ) := by
    rw [BitVec.toInt_eq_toNat_cond, BitVec.toNat_ofNat, Nat.mod_eq_of_lt (by omega)]
    rw [if_pos (by omega)]
  simp only [IntOp.cmpi, BitVec.sle, e1, e2, Nat.cast_le]
  by_cases h : j.val ≤ i.val
  · have h' : j ≤ i := h
    simp [h, h', Scalar.select]
  · have h' : ¬ j ≤ i := h
    simp [h, h', Scalar.select]

/-- Over the extended reals the exponential of a masked score less a real is the exponential, or zero. -/
theorem exp_masked (p : Prop) [Decidable p] (s M : ℝ) : Ideal.exp ((if p then (s : EReal) else ⊥) - (M : EReal)) = ((if p then Real.exp (s - M) else 0 : ℝ) : EReal) := by
  split
  · rw [← EReal.coe_sub, Ideal.exp_coe]
  · rw [EReal.bot_sub]; rfl

section
variable {q : FVec Ideal S4096x16x192 .f32} {kv : FVec Ideal S4096x16x256 .f32} {kr : FVec Ideal S4096x64 .f32}
  {d : FVec Ideal S4096x16x128 .f32} {co si : FVec Ideal S4096x32 .f32} {X : Args}

/-- The rotated query lanes over the real numbers. -/
theorem hRot_real (G : Given q kv kr d co si X) (i : Fin 4096) (h : Fin 16) (l : Fin 64) : hRot q co si (ix3 i h l) = (X.rot i h l : EReal) := by
  rw [hRot_apply, Args.rot]
  split
  · simp only [G.q, G.co, G.si, ← EReal.coe_mul, ← EReal.coe_sub]
  · simp only [G.q, G.co, G.si, ← EReal.coe_mul, ← EReal.coe_add]

/-- The masked scores over the real numbers. -/
theorem hMask_real (G : Given q kv kr d co si X) (h : Fin 16) (i j : Fin 4096) : hMask (hScore q kv kr co si) (ix3 h i j) = X.masked h i j := by
  rw [hMask_apply, mask_le, cbot, hScore_apply, c192, Ideal.div_coe sqrt192_ne]
  simp only [G.q, G.kv, G.kr, hRot_real G, ← EReal.coe_mul, ← coe_sum, ← EReal.coe_add]
  rfl

/-- The row maximum over the real numbers. -/
theorem hMax_real (G : Given q kv kr d co si X) (h : Fin 16) (i : Fin 4096) : hMax (hMask (hScore q kv kr co si)) (ix3 h i 0) = (X.mx h i : EReal) := by
  rw [hMax_apply, cbot]
  simp only [hMask_real G]
  exact X.fold_masked h i

/-- The exponentials over the real numbers. -/
theorem hExp_real (G : Given q kv kr d co si X) (h : Fin 16) (i j : Fin 4096) : hExp (hMask (hScore q kv kr co si)) (ix3 h i j) = (X.ex h i j : EReal) := by
  rw [hExp_apply, hMask_real G, hMax_real G]
  exact exp_masked _ _ _

/-- The row sum over the real numbers. -/
theorem hSum_real (G : Given q kv kr d co si X) (h : Fin 16) (i : Fin 4096) : hSum (hMask (hScore q kv kr co si)) (ix3 h i 0) = (X.L h i : EReal) := by
  rw [hSum_apply]
  simp only [hExp_real G, ← coe_sum]
  rfl

/-- The row constants as the call takes them over the real numbers. -/
theorem hLse_real (G : Given q kv kr d co si X) (i : Fin 4096) (h : Fin 16) (p : Fin 2048) (hp : p.val / 128 = h.val) :
    hLse (hMask (hScore q kv kr co si)) (ix2 i p) = (X.S h i : EReal) := by
  have e : (⟨p.val / 128, by omega⟩ : Fin 16) = h := Fin.ext hp
  rw [hLse_apply, e, hLog_apply, hMax_real G, hSum_real G, Ideal.log_coe, if_neg (not_le.mpr (X.L_pos h i)), c2, Ideal.div_coe log2_ne, ← EReal.coe_add, ← EReal.coe_mul]
  rfl

/-- The output as the call takes it over the real numbers. -/
theorem hO_real (G : Given q kv kr d co si X) (i : Fin 4096) (h : Fin 16) (v : Fin 128) (p : Fin 2048) (hp : p.val = 128 * h.val + v.val) :
    hO kv (hMask (hScore q kv kr co si)) (ix2 i p) = (X.O h i v : EReal) := by
  have e : (⟨p.val / 128, by omega⟩ : Fin 16) = h := Fin.ext (by show p.val / 128 = h.val; omega)
  have e2 : (⟨128 + p.val % 128, by omega⟩ : Fin 256) = ⟨128 + v.val, by omega⟩ := Fin.ext (by show 128 + p.val % 128 = 128 + v.val; omega)
  rw [hO_apply, e, e2, hSum_real G]
  simp only [Ideal.div_coe (X.L_pos h i).ne', hExp_real G, G.kv, ← EReal.coe_mul, ← coe_sum]
  rfl

/-- The queries as the call takes them over the real numbers. -/
theorem hQ_real (G : Given q kv kr d co si X) (i : Fin 4096) (h : Fin 16) (l : Fin 256) (p : Fin 4096) (hp : p.val = 256 * h.val + l.val) :
    hQ q co si (ix2 i p) = ((X.head h).Q i l : EReal) := by
  have e : p.val / 256 = h.val := by omega
  have e2 : p.val % 256 = l.val := by omega
  rw [hQ_apply]
  simp only [e, e2, Fin.eta, Args.head]
  split
  · rw [G.q]
  · split
    · rw [hRot_real G]
    · exact EReal.coe_zero.symm

/-- The keys and values as the call takes them over the real numbers. -/
theorem hKV_real (G : Given q kv kr d co si X) (i : Fin 4096) (h : Fin 16) (l : Fin 256) (p : Fin 4096) (hp : p.val = 256 * h.val + l.val) :
    hKV kv (ix2 i p) = (X.kv i h l : EReal) := by
  have e : (⟨p.val / 256, by omega⟩ : Fin 16) = h := Fin.ext (by show p.val / 256 = h.val; omega)
  have e2 : (⟨p.val % 256, by omega⟩ : Fin 256) = l := Fin.ext (by show p.val % 256 = l.val; omega)
  rw [hKV_apply, e, e2, G.kv]

/-- The rotated keys as the call takes them over the real numbers. -/
theorem hKR_real (G : Given q kv kr d co si X) (i : Fin 4096) (l : Fin 128) :
    hKR kr (ix2 i l) = ((if hl : l.val < 64 then X.kr i ⟨l.val, hl⟩ else 0 : ℝ) : EReal) := by
  rw [hKR_apply]
  split
  · rw [G.kr]
  · exact EReal.coe_zero.symm

/-- The output gradient as the call takes it over the real numbers. -/
theorem hD_real (G : Given q kv kr d co si X) (i : Fin 4096) (h : Fin 16) (l : Fin 128) (p : Fin 2048) (hp : p.val = 128 * h.val + l.val) :
    hD d (ix2 i p) = (X.d i h l : EReal) := by
  have e : (⟨p.val / 128, by omega⟩ : Fin 16) = h := Fin.ext (by show p.val / 128 = h.val; omega)
  have e2 : (⟨p.val % 128, by omega⟩ : Fin 128) = l := Fin.ext (by show p.val % 128 = l.val; omega)
  rw [hD_apply, e, e2, G.d]

/-- The three tables: the cosines over the two halves, the sines on the first, the sines' opposites on the second. -/
theorem hC_real (G : Given q kv kr d co si X) (i : Fin 4096) (l : Fin 128) :
    hC co (ix2 i l) = ((if h : l.val < 32 then X.co i ⟨l.val, h⟩ else if h2 : l.val - 32 < 32 then X.co i ⟨l.val - 32, h2⟩ else 0 : ℝ) : EReal) := by
  rw [hC_apply]
  split
  · rw [G.co]
  · split
    · rw [G.co]
    · exact EReal.coe_zero.symm

/-- The first sine table over the real numbers. -/
theorem hA_real (G : Given q kv kr d co si X) (i : Fin 4096) (l : Fin 128) :
    hA si (ix2 i l) = ((if h : l.val < 32 then X.si i ⟨l.val, h⟩ else 0 : ℝ) : EReal) := by
  rw [hA_apply]
  split
  · rw [G.si, neg_neg]
  · split <;> rw [neg_zero, EReal.coe_zero]

/-- The second sine table over the real numbers. -/
theorem hB_real (G : Given q kv kr d co si X) (i : Fin 4096) (l : Fin 128) :
    hB si (ix2 i l) = ((if h : l.val < 32 then 0 else if h2 : l.val - 32 < 32 then - X.si i ⟨l.val - 32, h2⟩ else 0 : ℝ) : EReal) := by
  rw [hB_apply]
  split
  · rw [neg_zero, EReal.coe_zero]
  · split
    · rw [G.si, EReal.coe_neg]
    · rw [neg_zero, EReal.coe_zero]

end

end Cert.Attn

end
-- ==== Proof.AttnFinite.lean ====
/-
  The precondition makes every entry of the attention backward's arguments a real number.
-/
module

public import proofs.«01_k».proof.Defs
public import proofs.«01_k».proof.Proof.Gen.Pre_finite
public import proofs.«01_k».proof.Proof.AttnArrays
public import proofs.«01_k».proof.Proof.AttnSaved
public import Idealize.ShloMosaic.Lib.Pointwise

@[expose] public section

set_option maxRecDepth 16384

noncomputable section

namespace Cert.Attn

open Idealize.ShloMosaic Idealize.ShloMosaic.TcCoe
open Cert.Pre_finite Cert.Pre_finite.Facts

/-- The bound the arguments are compared with is infinity. -/
theorem ctop : Ideal.ofBits .f32 2139095040#32 = (⊤ : EReal) := by
  simp [Ideal.ofBits, Ideal.ieee, -EReal.coe_mul]

/-- A value whose magnitude compares below infinity is a real number. -/
theorem real_of_lt (x : EReal)
    (h : BitVec.ofBool (decide ((FloatOps.absf (F := Ideal) (φ := .f32) x : EReal) < Ideal.ofBits .f32 2139095040#32)) = 1#1) :
    x = ((x.toReal : ℝ) : EReal) := by
  rw [ctop] at h
  have h1 : max x (-x) < (⊤ : EReal) := by
    by_contra hn
    have e : decide ((FloatOps.absf (F := Ideal) (φ := .f32) x : EReal) < ⊤) = false := decide_eq_false hn
    rw [e] at h
    exact absurd h (by decide)
  have h2 := max_lt_iff.mp h1
  refine (EReal.coe_toReal h2.1.ne ?_).symm
  rintro rfl
  exact absurd h2.2 (by simp)

/-- The real numbers six arrays hold. -/
def realsOf (q : FVec Ideal S4096x16x192 .f32) (kv : FVec Ideal S4096x16x256 .f32) (kr : FVec Ideal S4096x64 .f32)
    (d : FVec Ideal S4096x16x128 .f32) (co si : FVec Ideal S4096x32 .f32) : Args where
  q i h l := EReal.toReal (q (ix3 i h l))
  kv i h l := EReal.toReal (kv (ix3 i h l))
  kr i l := EReal.toReal (kr (ix2 i l))
  d i h l := EReal.toReal (d (ix3 i h l))
  co i l := EReal.toReal (co (ix2 i l))
  si i l := EReal.toReal (si (ix2 i l))

/-- When the precondition's six arrays are all ones, the arguments hold real numbers. -/
theorem given_of (q : FVec Ideal S4096x16x192 .f32) (kv : FVec Ideal S4096x16x256 .f32) (kr : FVec Ideal S4096x64 .f32)
    (d : FVec Ideal S4096x16x128 .f32) (co si : FVec Ideal S4096x32 .f32)
    (h0 : (Cert.Pre_finite.fn (F := Ideal) q kv kr d co si).1 = fun _ => 1#1)
    (h1 : (Cert.Pre_finite.fn (F := Ideal) q kv kr d co si).2.1 = fun _ => 1#1)
    (h2 : (Cert.Pre_finite.fn (F := Ideal) q kv kr d co si).2.2.1 = fun _ => 1#1)
    (h3 : (Cert.Pre_finite.fn (F := Ideal) q kv kr d co si).2.2.2.1 = fun _ => 1#1)
    (h4 : (Cert.Pre_finite.fn (F := Ideal) q kv kr d co si).2.2.2.2.1 = fun _ => 1#1)
    (h5 : (Cert.Pre_finite.fn (F := Ideal) q kv kr d co si).2.2.2.2.2 = fun _ => 1#1) :
    Given q kv kr d co si (realsOf q kv kr d co si) := by
  simp only [Cert.Pre_finite.fn] at h0 h1 h2 h3 h4 h5
  refine ⟨fun i h l => ?_, fun i h l => ?_, fun i l => ?_, fun i h l => ?_, fun i l => ?_, fun i l => ?_⟩
  · have e := congrFun h0 (ix3 i h l)
    pointwise [] at e
    exact real_of_lt _ e
  · have e := congrFun h1 (ix3 i h l)
    pointwise [] at e
    exact real_of_lt _ e
  · have e := congrFun h2 (ix2 i l)
    pointwise [] at e
    exact real_of_lt _ e
  · have e := congrFun h3 (ix3 i h l)
    pointwise [] at e
    exact real_of_lt _ e
  · have e := congrFun h4 (ix2 i l)
    pointwise [] at e
    exact real_of_lt _ e
  · have e := congrFun h5 (ix2 i l)
    pointwise [] at e
    exact real_of_lt _ e

end Cert.Attn

end
-- ==== Proof.AttnRef.lean ====
/-
  The reference gradient of causal attention, an element at a time, and its reals when every argument is real.
-/
module

public import proofs.«01_k».proof.Proof.AttnSaved
public import proofs.«01_k».proof.Proof.Gen.Reference2Ideal.Run
public import Idealize.ShloMosaic.Lib.Pointwise

@[expose] public section

set_option maxRecDepth 100000

noncomputable section

namespace Cert.Attn

open Cert.Reference2Ideal Cert.Reference2Ideal.Gen Cert.Reference2Ideal.Value
open Idealize.ShloMosaic Idealize.ShloMosaic.TcCoe Idealize.SL.Sem Idealize.ShloMosaic.StableHlo

/-! ## The reference's lines -/

/-- Each row's greatest score. -/
def rMax (s : FVec Ideal S16x4096x4096 .f32) : FVec Ideal S16x4096x1 .f32 :=
  broadcastInDim S16x4096x1 ![0, 1] bcast_S16x4096_S16x4096x1_0_1 (maximumf (broadcastInDim S16x4096 ![] bcast_S_S16x4096 (constant S_ .f32 0xFF800000#32)) (Host.reduce FloatOps.maximumf s (constant S_ .f32 0xFF800000#32) reducesTo_S16x4096x4096_S16x4096_d2 h_S_))

/-- The exponentials. -/
def rExp (s : FVec Ideal S16x4096x4096 .f32) : FVec Ideal S16x4096x4096 .f32 :=
  Host.exp (subf s (broadcastInDim S16x4096x4096 ![0, 1, 2] bcast_S16x4096x1_S16x4096x4096_0_1_2 (rMax s)))

/-- Each row's sum of exponentials. -/
def rSum (s : FVec Ideal S16x4096x4096 .f32) : FVec Ideal S16x4096x1 .f32 :=
  broadcastInDim S16x4096x1 ![0, 1] bcast_S16x4096_S16x4096x1_0_1 (Host.reduceAdd (rExp s) (constant S_ .f32 0x00000000#32) reducesTo_S16x4096x4096_S16x4096_d2 h_S_)

/-- The probabilities. -/
def rP (s : FVec Ideal S16x4096x4096 .f32) : FVec Ideal S16x4096x4096 .f32 :=
  Host.divf (rExp s) (broadcastInDim S16x4096x4096 ![0, 1, 2] bcast_S16x4096x1_S16x4096x4096_0_1_2 (rSum s))

/-- The output's gradient, head by head. -/
def rD (d : FVec Ideal S4096x16x128 .f32) : FVec Ideal S16x128x4096 .f32 :=
  transpose S16x128x4096 [1, 2, 0] d transposes_S4096x16x128_S16x128x4096_1_2_0

/-- The probabilities' gradient. -/
def rDP (kv : FVec Ideal S4096x16x256 .f32) (d : FVec Ideal S4096x16x128 .f32) : FVec Ideal S16x4096x4096 .f32 :=
  Host.dotGeneral dot_S16x128x4096_S4096x16x128_S16x4096x4096_1_2_2_0_0_1 none (rD d) (extractStridedSlice S4096x16x128 ![0, 0, 128] kv slices_S4096x16x256_S4096x16x128_0_0_128)

/-- One over the square of each row's sum. -/
def rSq (s : FVec Ideal S16x4096x4096 .f32) : FVec Ideal S16x4096x1 .f32 :=
  Host.divf (broadcastInDim S16x4096x1 ![] bcast_S_S16x4096x1 (constant S_ .f32 0x3F800000#32)) (mulf (rSum s) (rSum s))

/-- The gradient of each row's sum. -/
def rT (kv : FVec Ideal S4096x16x256 .f32) (d : FVec Ideal S4096x16x128 .f32) (s : FVec Ideal S16x4096x4096 .f32) : FVec Ideal S16x4096 .f32 :=
  Host.reduceAdd (Host.negf (shapeCast S16x4096x1 (Host.reduceAdd (mulf (mulf (rDP kv d) (broadcastInDim S16x4096x4096 ![0, 1, 2] bcast_S16x4096x1_S16x4096x4096_0_1_2 (rSq s))) (rExp s)) (constant S_ .f32 0x00000000#32) reducesTo_S16x4096x4096_S16x4096_d2 h_S_) shapeCasts_S16x4096_S16x4096x1)) (constant S_ .f32 0x00000000#32) reducesTo_S16x4096x1_S16x4096_d2 h_S_

/-- The masked scores' gradient. -/
def rG (kv : FVec Ideal S4096x16x256 .f32) (d : FVec Ideal S4096x16x128 .f32) (s : FVec Ideal S16x4096x4096 .f32) : FVec Ideal S16x4096x4096 .f32 :=
  mulf (addf (Host.divf (rDP kv d) (broadcastInDim S16x4096x4096 ![0, 1, 2] bcast_S16x4096x1_S16x4096x4096_0_1_2 (rSum s))) (broadcastInDim S16x4096x4096 ![0, 1] bcast_S16x4096_S16x4096x4096_0_1 (rT kv d s))) (rExp s)

/-- The products' gradient. -/
def rDS (kv : FVec Ideal S4096x16x256 .f32) (d : FVec Ideal S4096x16x128 .f32) (s : FVec Ideal S16x4096x4096 .f32) : FVec Ideal S16x4096x4096 .f32 :=
  Host.divf (select (broadcastInDim S16x4096x4096 ![1, 2] bcast_S4096x4096_S16x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (rG kv d s) (broadcastInDim S16x4096x4096 ![] bcast_S_S16x4096x4096 (constant S_ .f32 0x00000000#32))) (broadcastInDim S16x4096x4096 ![] bcast_S_S16x4096x4096 (Host.sqrt (constant S_ .f32 0x43400000#32)))

/-- The gradient of the queries' rotated lanes. -/
def rR (kr : FVec Ideal S4096x64 .f32) (ds : FVec Ideal S16x4096x4096 .f32) : FVec Ideal S4096x16x64 .f32 :=
  transpose S4096x16x64 [1, 0, 2] (Host.dotGeneral dot_S16x4096x4096_S4096x16x64_S16x4096x64_2_0_1_2_0_1 none ds (broadcastInDim S4096x16x64 ![0, 1, 2] bcast_S4096x1x64_S4096x16x64_0_1_2 (broadcastInDim S4096x1x64 ![0, 2] bcast_S4096x64_S4096x1x64_0_2 kr))) transposes_S16x4096x64_S4096x16x64_1_0_2

/-- The same, rotated back. -/
def rB (co si : FVec Ideal S4096x32 .f32) (x : FVec Ideal S4096x16x64 .f32) : FVec Ideal S4096x16x64 .f32 :=
  addf (pad S4096x16x64 ![0, 0, 32] ![0, 0, 0] ![0, 0, 0] (addf (mulf (extractStridedSlice S4096x16x32 ![0, 0, 32] x slices_S4096x16x64_S4096x16x32_0_0_32) (broadcastInDim S4096x16x32 ![0, 1, 2] bcast_S4096x1x32_S4096x16x32_0_1_2 (broadcastInDim S4096x1x32 ![0, 2] bcast_S4096x32_S4096x1x32_0_2 co))) (mulf (Host.negf (extractStridedSlice S4096x16x32 ![0, 0, 0] x slices_S4096x16x64_S4096x16x32_0_0_0)) (broadcastInDim S4096x16x32 ![0, 1, 2] bcast_S4096x1x32_S4096x16x32_0_1_2 (broadcastInDim S4096x1x32 ![0, 2] bcast_S4096x32_S4096x1x32_0_2 si)))) (constant S_ .f32 0x00000000#32) pads_S4096x16x32_S4096x16x64_000_000_3200 h_S_)
    (pad S4096x16x64 ![0, 0, 0] ![0, 0, 32] ![0, 0, 0] (addf (mulf (extractStridedSlice S4096x16x32 ![0, 0, 32] x slices_S4096x16x64_S4096x16x32_0_0_32) (broadcastInDim S4096x16x32 ![0, 1, 2] bcast_S4096x1x32_S4096x16x32_0_1_2 (broadcastInDim S4096x1x32 ![0, 2] bcast_S4096x32_S4096x1x32_0_2 si))) (mulf (extractStridedSlice S4096x16x32 ![0, 0, 0] x slices_S4096x16x64_S4096x16x32_0_0_0) (broadcastInDim S4096x16x32 ![0, 1, 2] bcast_S4096x1x32_S4096x16x32_0_1_2 (broadcastInDim S4096x1x32 ![0, 2] bcast_S4096x32_S4096x1x32_0_2 co)))) (constant S_ .f32 0x00000000#32) pads_S4096x16x32_S4096x16x64_000_000_0320 h_S_)

/-- The gradient of keys and values. -/
def rKV (q : FVec Ideal S4096x16x192 .f32) (d : FVec Ideal S4096x16x128 .f32) (p ds : FVec Ideal S16x4096x4096 .f32) : FVec Ideal S4096x4096 .bf16 :=
  truncf .bf16 (shapeCast S4096x4096 (addf (pad S4096x16x256 ![0, 0, 128] ![0, 0, 0] ![0, 0, 0] (transpose S4096x16x128 [2, 0, 1] (Host.dotGeneral dot_S16x128x4096_S16x4096x4096_S16x128x4096_2_1_1_2_0_0 none (rD d) p) transposes_S16x128x4096_S4096x16x128_2_0_1) (constant S_ .f32 0x00000000#32) pads_S4096x16x128_S4096x16x256_000_000_12800 h_S_) (pad S4096x16x256 ![0, 0, 0] ![0, 0, 128] ![0, 0, 0] (transpose S4096x16x128 [1, 0, 2] (Host.dotGeneral dot_S16x4096x4096_S4096x16x128_S16x4096x128_1_0_2_2_0_1 none ds (extractStridedSlice S4096x16x128 ![0, 0, 0] q slices_S4096x16x192_S4096x16x128_0_0_0)) transposes_S16x4096x128_S4096x16x128_1_0_2) (constant S_ .f32 0x00000000#32) pads_S4096x16x128_S4096x16x256_000_000_01280 h_S_)) shapeCasts_S4096x16x256_S4096x4096) bitsLt_bf16_f32

/-- The gradient of the keys' rotated lanes, head by head. -/
def rKR (q : FVec Ideal S4096x16x192 .f32) (co si : FVec Ideal S4096x32 .f32) (ds : FVec Ideal S16x4096x4096 .f32) : FVec Ideal S4096x2048 .f32 :=
  shapeCast S4096x2048 (concatenate S4096x16x128 2 [⟨S4096x16x64, (transpose S4096x16x64 [1, 0, 2] (Host.dotGeneral dot_S16x4096x4096_S4096x16x64_S16x4096x64_1_0_2_2_0_1 none ds (hRot q co si)) transposes_S16x4096x64_S4096x16x64_1_0_2)⟩, ⟨S4096x16x64, (broadcastInDim S4096x16x64 ![] bcast_S_S4096x16x64 (constant S_ .f32 0x00000000#32))⟩] concatenates_S4096x16x64_S4096x16x64_S4096x16x128_d2) shapeCasts_S4096x16x128_S4096x2048

/-- The gradient of the queries. -/
def rQ (kv : FVec Ideal S4096x16x256 .f32) (kr : FVec Ideal S4096x64 .f32) (co si : FVec Ideal S4096x32 .f32) (ds : FVec Ideal S16x4096x4096 .f32) : FVec Ideal S4096x4096 .bf16 :=
  truncf .bf16 (shapeCast S4096x4096 (concatenate S4096x16x256 2 [⟨S4096x16x192, (addf (pad S4096x16x192 ![0, 0, 0] ![0, 0, 64] ![0, 0, 0] (transpose S4096x16x128 [1, 0, 2] (Host.dotGeneral dot_S16x4096x4096_S4096x16x128_S16x4096x128_2_0_1_2_0_1 none ds (extractStridedSlice S4096x16x128 ![0, 0, 0] kv slices_S4096x16x256_S4096x16x128_0_0_0)) transposes_S16x4096x128_S4096x16x128_1_0_2) (constant S_ .f32 0x00000000#32) pads_S4096x16x128_S4096x16x192_000_000_0640 h_S_) (pad S4096x16x192 ![0, 0, 128] ![0, 0, 0] ![0, 0, 0] (rB co si (rR kr ds)) (constant S_ .f32 0x00000000#32) pads_S4096x16x64_S4096x16x192_000_000_12800 h_S_))⟩, ⟨S4096x16x64, (broadcastInDim S4096x16x64 ![] bcast_S_S4096x16x64 (constant S_ .f32 0x00000000#32))⟩] concatenates_S4096x16x192_S4096x16x64_S4096x16x256_d2) shapeCasts_S4096x16x256_S4096x4096) bitsLt_bf16_f32

/-! ## An element at a time -/

/-- The row maximum, of any row maxima against the least value. -/
theorem rMax_of (x : FVec Ideal S16x4096 .f32) (h : Fin 16) (i : Fin 4096) :
    broadcastInDim S16x4096x1 ![0, 1] bcast_S16x4096_S16x4096x1_0_1 (maximumf (broadcastInDim S16x4096 ![] bcast_S_S16x4096 (constant S_ .f32 0xFF800000#32)) x) (ix3 h i 0)
      = max (Ideal.ofBits .f32 4286578688#32) (x (ix2 h i)) := by
  pointwise []

/-- The greatest entry of a row. -/
theorem rTop_of (s : FVec Ideal S16x4096x4096 .f32) (h : Fin 16) (i : Fin 4096) :
    Host.reduce FloatOps.maximumf s (constant S_ .f32 0xFF800000#32) reducesTo_S16x4096x4096_S16x4096_d2 h_S_ (ix2 h i)
      = Finset.fold max (Ideal.ofBits .f32 4286578688#32) (fun x => s (ix3 h i x)) Finset.univ := by
  pointwise []

/-- An element of the reference's row maximum. -/
theorem rMax_apply (s : FVec Ideal S16x4096x4096 .f32) (h : Fin 16) (i : Fin 4096) :
    rMax s (ix3 h i 0) = max (Ideal.ofBits .f32 4286578688#32) (Finset.fold max (Ideal.ofBits .f32 4286578688#32) (fun x => s (ix3 h i x)) Finset.univ) := by
  rw [← rTop_of]
  exact rMax_of _ h i

/-- An element of the reference's exponentials. -/
theorem rExp_apply (s : FVec Ideal S16x4096x4096 .f32) (h : Fin 16) (i j : Fin 4096) :
    rExp s (ix3 h i j) = Ideal.exp (s (ix3 h i j) - rMax s (ix3 h i 0)) := by
  pointwise [rExp]

/-- An element of the reference's row sum. -/
theorem rSum_apply (s : FVec Ideal S16x4096x4096 .f32) (h : Fin 16) (i : Fin 4096) :
    rSum s (ix3 h i 0) = ∑ x, rExp s (ix3 h i x) := by
  pointwise [rSum]

/-- An element of the reference's weights. -/
theorem rP_apply (s : FVec Ideal S16x4096x4096 .f32) (h : Fin 16) (i j : Fin 4096) :
    rP s (ix3 h i j) = Ideal.div (rExp s (ix3 h i j)) (rSum s (ix3 h i 0)) := by
  pointwise [rP]

/-- An element of the reference's output gradient by heads. -/
theorem rD_apply (d : FVec Ideal S4096x16x128 .f32) (h : Fin 16) (v : Fin 128) (i : Fin 4096) :
    rD d (ix3 h v i) = d (ix3 i h v) := by
  pointwise [rD]

/-- An element of the reference's weights' gradient. -/
theorem rDP_apply (kv : FVec Ideal S4096x16x256 .f32) (d : FVec Ideal S4096x16x128 .f32) (h : Fin 16) (i j : Fin 4096) :
    rDP kv d (ix3 h i j) = ∑ v : Fin 128, rD d (ix3 h v i) * kv (ix3 j h ⟨128 + v.val, by omega⟩) := by
  pointwise [rDP]

/-- An element of the reference's reciprocal of the row sum's square. -/
theorem rSq_apply (s : FVec Ideal S16x4096x4096 .f32) (h : Fin 16) (i : Fin 4096) :
    rSq s (ix3 h i 0) = Ideal.div (Ideal.ofBits .f32 1065353216#32) (rSum s (ix3 h i 0) * rSum s (ix3 h i 0)) := by
  pointwise [rSq]

/-- An element of the reference's row term of the softmax gradient. -/
theorem rT_apply (kv : FVec Ideal S4096x16x256 .f32) (d : FVec Ideal S4096x16x128 .f32) (s : FVec Ideal S16x4096x4096 .f32) (h : Fin 16) (i : Fin 4096) :
    rT kv d s (ix2 h i) = - ∑ x, rDP kv d (ix3 h i x) * rSq s (ix3 h i 0) * rExp s (ix3 h i x) := by
  pointwise [rT]
  exact Fin.sum_univ_one _

/-- An element of the reference's gradient through the softmax. -/
theorem rG_apply (kv : FVec Ideal S4096x16x256 .f32) (d : FVec Ideal S4096x16x128 .f32) (s : FVec Ideal S16x4096x4096 .f32) (h : Fin 16) (i j : Fin 4096) :
    rG kv d s (ix3 h i j) = (Ideal.div (rDP kv d (ix3 h i j)) (rSum s (ix3 h i 0)) + rT kv d s (ix2 h i)) * rExp s (ix3 h i j) := by
  pointwise [rG]

/-- An element of the reference's scores' gradient. -/
theorem rDS_apply (kv : FVec Ideal S4096x16x256 .f32) (d : FVec Ideal S4096x16x128 .f32) (s : FVec Ideal S16x4096x4096 .f32) (h : Fin 16) (i j : Fin 4096) :
    rDS kv d s (ix3 h i j) = Ideal.div (Scalar.select (IntOp.cmpi .sle (BitVec.ofNat 32 j.val) (BitVec.ofNat 32 i.val)) (rG kv d s (ix3 h i j)) 0) (Ideal.sqrt (Ideal.ofBits .f32 1128267776#32)) := by
  pointwise [rDS]

/-- An element of the reference's gradient of the queries' rotated lanes. -/
theorem rR_apply (kr : FVec Ideal S4096x64 .f32) (ds : FVec Ideal S16x4096x4096 .f32) (i : Fin 4096) (h : Fin 16) (l : Fin 64) :
    rR kr ds (ix3 i h l) = ∑ j, ds (ix3 h i j) * kr (ix2 j l) := by
  pointwise [rR]

/-- An element of the reference's gradient before the rotation. -/
theorem rB_apply (co si : FVec Ideal S4096x32 .f32) (x : FVec Ideal S4096x16x64 .f32) (i : Fin 4096) (h : Fin 16) (l : Fin 64) :
    rB co si x (ix3 i h l) = (if hl : 32 ≤ l.val ∧ l.val - 32 < 32 then
        x (ix3 i h ⟨32 + (l.val - 32), by omega⟩) * co (ix2 i ⟨l.val - 32, by omega⟩) + -x (ix3 i h ⟨l.val - 32, by omega⟩) * si (ix2 i ⟨l.val - 32, by omega⟩)
      else 0) + (if hl : l.val < 32 then x (ix3 i h ⟨32 + l.val, by omega⟩) * si (ix2 i ⟨l.val, hl⟩) + x (ix3 i h l) * co (ix2 i ⟨l.val, hl⟩) else 0) := by
  pointwise [rB]

/-- An element of the reference's key and value gradient. -/
theorem rKV_apply (q : FVec Ideal S4096x16x192 .f32) (d : FVec Ideal S4096x16x128 .f32) (p ds : FVec Ideal S16x4096x4096 .f32) (j : Fin 4096) (y : Fin 4096) :
    rKV q d p ds (ix2 j y) = (if hy : y.val / 256 < 16 ∧ 128 ≤ y.val % 256 ∧ y.val % 256 - 128 < 128 then
        ∑ x, rD d (ix3 ⟨y.val / 256, hy.1⟩ ⟨y.val % 256 - 128, hy.2.2⟩ x) * p (ix3 ⟨y.val / 256, hy.1⟩ x j)
      else 0) + (if hy : y.val / 256 < 16 ∧ y.val % 256 < 128 then ∑ x, ds (ix3 ⟨y.val / 256, hy.1⟩ x j) * q (ix3 x ⟨y.val / 256, hy.1⟩ ⟨y.val % 256, by omega⟩)
      else 0) := by
  pointwise [rKV]

/-- An element of the reference's rotated keys' gradient. -/
theorem rKR_apply (q : FVec Ideal S4096x16x192 .f32) (co si : FVec Ideal S4096x32 .f32) (ds : FVec Ideal S16x4096x4096 .f32) (j : Fin 4096) (y : Fin 2048) :
    rKR q co si ds (ix2 j y) = if hy : y.val % 128 < 64 then ∑ x, ds (ix3 ⟨y.val / 128, by omega⟩ x j) * hRot q co si (ix3 x ⟨y.val / 128, by omega⟩ ⟨y.val % 128, hy⟩) else 0 := by
  pointwise [rKR]

/-- An element of the reference's query gradient. -/
theorem rQ_apply (kv : FVec Ideal S4096x16x256 .f32) (kr : FVec Ideal S4096x64 .f32) (co si : FVec Ideal S4096x32 .f32) (ds : FVec Ideal S16x4096x4096 .f32) (i : Fin 4096) (y : Fin 4096) :
    rQ kv kr co si ds (ix2 i y) = if hy : y.val % 256 < 192 then
      (if hz : y.val / 256 < 16 ∧ y.val % 256 < 128 then ∑ x, ds (ix3 ⟨y.val / 256, hz.1⟩ i x) * kv (ix3 x ⟨y.val / 256, hz.1⟩ ⟨y.val % 256, by omega⟩) else 0)
        + (if hz : y.val / 256 < 16 ∧ 128 ≤ y.val % 256 ∧ y.val % 256 - 128 < 64 then rB co si (rR kr ds) (ix3 i ⟨y.val / 256, hz.1⟩ ⟨y.val % 256 - 128, hz.2.2⟩) else 0)
    else 0 := by
  pointwise [rQ]

/-! ## With real arguments -/

/-- The word of one. -/
theorem c1 : Ideal.ofBits .f32 1065353216#32 = ((1 : ℝ) : EReal) := by
  simp [Ideal.ofBits, Ideal.ieee, -EReal.coe_mul]; norm_num

section
variable {q : FVec Ideal S4096x16x192 .f32} {kv : FVec Ideal S4096x16x256 .f32} {kr : FVec Ideal S4096x64 .f32}
  {d : FVec Ideal S4096x16x128 .f32} {co si : FVec Ideal S4096x32 .f32} {X : Args} (G : Given q kv kr d co si X)
include G

/-- The reference's row maximum over the real numbers. -/
theorem rMax_real (h : Fin 16) (i : Fin 4096) : rMax (hMask (hScore q kv kr co si)) (ix3 h i 0) = (X.mx h i : EReal) := by
  rw [rMax_apply, cbot]
  simp only [hMask_real G]
  rw [max_eq_right bot_le]
  exact X.fold_masked h i

/-- The reference's exponentials over the real numbers. -/
theorem rExp_real (h : Fin 16) (i j : Fin 4096) : rExp (hMask (hScore q kv kr co si)) (ix3 h i j) = (X.ex h i j : EReal) := by
  rw [rExp_apply, hMask_real G, rMax_real G]
  exact exp_masked _ _ _

/-- The reference's row sum over the real numbers. -/
theorem rSum_real (h : Fin 16) (i : Fin 4096) : rSum (hMask (hScore q kv kr co si)) (ix3 h i 0) = (X.L h i : EReal) := by
  rw [rSum_apply]
  simp only [rExp_real G, ← coe_sum]
  rfl

/-- The reference's weights over the real numbers. -/
theorem rP_real (h : Fin 16) (i j : Fin 4096) : rP (hMask (hScore q kv kr co si)) (ix3 h i j) = (X.P h i j : EReal) := by
  rw [rP_apply, rExp_real G, rSum_real G, Ideal.div_coe (X.L_pos h i).ne', ← EReal.coe_mul]
  rfl

/-- The reference's weights' gradient over the real numbers. -/
theorem rDP_real (h : Fin 16) (i j : Fin 4096) : rDP kv d (ix3 h i j) = (X.dP h i j : EReal) := by
  rw [rDP_apply]
  simp only [rD_apply, G.d, G.kv, ← EReal.coe_mul, ← coe_sum]
  rfl

/-- The reference's reciprocal of the row sum's square over the real numbers. -/
theorem rSq_real (h : Fin 16) (i : Fin 4096) : rSq (hMask (hScore q kv kr co si)) (ix3 h i 0) = ((1 * (1 / (X.L h i * X.L h i)) : ℝ) : EReal) := by
  rw [rSq_apply, rSum_real G, c1, ← EReal.coe_mul, Ideal.div_coe (mul_ne_zero (X.L_pos h i).ne' (X.L_pos h i).ne'), ← EReal.coe_mul]

/-- The reference's scores' gradient over the real numbers. -/
theorem rDS_real (h : Fin 16) (i j : Fin 4096) : rDS kv d (hMask (hScore q kv kr co si)) (ix3 h i j) = (X.dS h i j : EReal) := by
  rw [rDS_apply, c192, Ideal.div_coe sqrt192_ne, mask_le, rG_apply, rT_apply, rSum_real G, Ideal.div_coe (X.L_pos h i).ne', rSq_real G]
  simp only [rDP_real G, rExp_real G, ← EReal.coe_mul, ← coe_sum, ← EReal.coe_neg, ← EReal.coe_add]
  unfold Args.dS
  by_cases hij : j ≤ i
  · rw [if_pos hij, if_pos hij, ← EReal.coe_mul]
  · rw [if_neg hij, if_neg hij, zero_mul, zero_mul, EReal.coe_zero]

/-- The reference's gradient of the queries' rotated lanes over the real numbers. -/
theorem rR_real (i : Fin 4096) (h : Fin 16) (l : Fin 64) : rR kr (rDS kv d (hMask (hScore q kv kr co si))) (ix3 i h l) = (X.dR i h l : EReal) := by
  rw [rR_apply]
  simp only [rDS_real G, G.kr, ← EReal.coe_mul, ← coe_sum]
  rfl

/-- The reference's key and value gradient over the real numbers. -/
theorem rKV_real (j : Fin 4096) (y : Fin 4096) :
    rKV q d (rP (hMask (hScore q kv kr co si))) (rDS kv d (hMask (hScore q kv kr co si))) (ix2 j y) = (X.dKV j ⟨y.val / 256, by omega⟩ ⟨y.val % 256, by omega⟩ : EReal) := by
  have hy : y.val / 256 < 16 := by omega
  rw [rKV_apply]
  simp only [rD_apply, G.d, G.q, rP_real G, rDS_real G, ← EReal.coe_mul, ← coe_sum]
  unfold Args.dKV
  by_cases h : y.val % 256 < 128
  · rw [dif_neg (by omega), dif_pos ⟨hy, h⟩, dif_pos h, zero_add]
  · rw [dif_pos ⟨hy, by omega, by omega⟩, dif_neg (by omega), dif_neg h, add_zero]
    exact congrArg _ (Finset.sum_congr rfl fun x _ => mul_comm _ _)

/-- The reference's rotated keys' gradient over the real numbers. -/
theorem rKR_real (j : Fin 4096) (y : Fin 2048) :
    rKR q co si (rDS kv d (hMask (hScore q kv kr co si))) (ix2 j y) = (X.dKR j ⟨y.val / 128, by omega⟩ ⟨y.val % 128, by omega⟩ : EReal) := by
  rw [rKR_apply]
  simp only [hRot_real G, rDS_real G, ← EReal.coe_mul, ← coe_sum]
  unfold Args.dKR
  by_cases h : y.val % 128 < 64
  · rw [dif_pos h, dif_pos h]
  · rw [dif_neg h, dif_neg h, EReal.coe_zero]

/-- The reference's gradient before the rotation over the real numbers. -/
theorem rB_real (i : Fin 4096) (h : Fin 16) (l : Fin 64) : rB co si (rR kr (rDS kv d (hMask (hScore q kv kr co si)))) (ix3 i h l)
    = ((if h2 : l.val < 32 then X.dR i h l * X.co i ⟨l.val, h2⟩ + X.dR i h ⟨l.val + 32, by omega⟩ * X.si i ⟨l.val, h2⟩
      else X.dR i h l * X.co i ⟨l.val - 32, by omega⟩ - X.dR i h ⟨l.val - 32, by omega⟩ * X.si i ⟨l.val - 32, by omega⟩ : ℝ) : EReal) := by
  rw [rB_apply]
  simp only [rR_real G, G.co, G.si, ← EReal.coe_neg, ← EReal.coe_mul, ← EReal.coe_add]
  by_cases h2 : l.val < 32
  · rw [dif_neg (by omega), dif_pos h2, dif_pos h2, zero_add]
    refine congrArg (fun x : ℝ => (x : EReal)) ?_
    have e : 32 + l.val = l.val + 32 := by omega
    simp only [e]
    ring
  · rw [dif_pos ⟨by omega, by omega⟩, dif_neg h2, dif_neg h2, add_zero]
    refine congrArg (fun x : ℝ => (x : EReal)) ?_
    have e : 32 + (l.val - 32) = l.val := by omega
    simp only [e, Fin.eta]
    ring

/-- The reference's query gradient over the real numbers. -/
theorem rQ_real (i : Fin 4096) (y : Fin 4096) :
    rQ kv kr co si (rDS kv d (hMask (hScore q kv kr co si))) (ix2 i y) = (X.dQ i ⟨y.val / 256, by omega⟩ ⟨y.val % 256, by omega⟩ : EReal) := by
  have hy : y.val / 256 < 16 := by omega
  rw [rQ_apply]
  simp only [rB_real G, rDS_real G, G.kv, ← EReal.coe_mul, ← coe_sum]
  unfold Args.dQ
  by_cases h : y.val % 256 < 192
  · rw [dif_pos h]
    by_cases h1 : y.val % 256 < 128
    · rw [dif_pos ⟨hy, h1⟩, dif_neg (by omega), dif_pos h1, add_zero]
    · rw [dif_neg (by omega), dif_pos ⟨hy, by omega, by omega⟩, dif_neg h1, zero_add]
      by_cases h2 : y.val % 256 - 128 < 32
      · rw [dif_pos h2, dif_pos h2]
      · have h3 : y.val % 256 - 128 < 64 := by omega
        rw [dif_neg h2, dif_neg h2, dif_pos h3]
  · have h1 : ¬ y.val % 256 < 128 := by omega
    have h2 : ¬ y.val % 256 - 128 < 32 := by omega
    have h3 : ¬ y.val % 256 - 128 < 64 := by omega
    rw [dif_neg h, dif_neg h1, dif_neg h2, dif_neg h3, EReal.coe_zero]

end

end Cert.Attn

end
-- ==== Proof.AttnRefRun.lean ====
/-
  The attention backward's reference, run: its three results are the gradient's lines, and when every argument is
  real they are the gradient's reals.
-/
module

public import proofs.«01_k».proof.Defs
public import proofs.«01_k».proof.Proof.AttnRef
public import Idealize.ShloMosaic.Lib.Quiescent

@[expose] public section

set_option maxRecDepth 100000
set_option maxHeartbeats 4000000

noncomputable section

namespace Cert.Attn

open Cert.Reference2Ideal Cert.Reference2Ideal.Gen Cert.Reference2Ideal.Value
open Idealize.ShloMosaic Idealize.ShloMosaic.TcCoe Idealize.SL.Sem Idealize.ShloMosaic.StableHlo

variable (m : (ℓ : Loc nD τ sig) → Buf (Elt Ideal) ℓ)

/-- The reference's argument 0: the queries. -/
abbrev B0 (c : Dev nD) : FVec Ideal S4096x16x192 .f32 := m ((c.tc : Thread nD τ).loc main_arg0)
/-- The reference's argument 1: the keys and values. -/
abbrev B1 (c : Dev nD) : FVec Ideal S4096x16x256 .f32 := m ((c.tc : Thread nD τ).loc main_arg1)
/-- The reference's argument 2: the shared rotated keys. -/
abbrev B2 (c : Dev nD) : FVec Ideal S4096x64 .f32 := m ((c.tc : Thread nD τ).loc main_arg2)
/-- The reference's argument 3: the output gradient. -/
abbrev B3 (c : Dev nD) : FVec Ideal S4096x16x128 .f32 := m ((c.tc : Thread nD τ).loc main_arg3)
/-- The reference's argument 4: the cosines. -/
abbrev B4 (c : Dev nD) : FVec Ideal S4096x32 .f32 := m ((c.tc : Thread nD τ).loc main_arg4)
/-- The reference's argument 5: the sines. -/
abbrev B5 (c : Dev nD) : FVec Ideal S4096x32 .f32 := m ((c.tc : Thread nD τ).loc main_arg5)

/-- The reference's masked scores. -/
abbrev refScores (c : Dev nD) : FVec Ideal S16x4096x4096 .f32 := hMask (hScore (B0 m c) (B1 m c) (B2 m c) (B4 m c) (B5 m c))

/-- The reference ends with the gradient's lines in its results and its arguments unchanged. -/
theorem ref_lines (ρ : Dev nD → PrngReg) :
    θ_run defs (onTc (τ := τ) (main (F := Ideal))) ⟨m, fun _ => 0, ρ⟩ fun r => ∀ c : Dev nD,
      r.2.mem ((c.tc : Thread nD τ).loc main_v118) = rKV (B0 m c) (B3 m c) (rP (refScores m c)) (rDS (B1 m c) (B3 m c) (refScores m c))
      ∧ r.2.mem ((c.tc : Thread nD τ).loc main_v119) = rKR (B0 m c) (B4 m c) (B5 m c) (rDS (B1 m c) (B3 m c) (refScores m c))
      ∧ r.2.mem ((c.tc : Thread nD τ).loc main_v121) = rQ (B1 m c) (B2 m c) (B4 m c) (B5 m c) (rDS (B1 m c) (B3 m c) (refScores m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2.1.trans rfl, (h c).2.2.2⟩)
    (Cert.Reference2Ideal.Value.run m ρ)

/-- The reference runs, its arguments end unchanged and its counters at zero. -/
theorem frame_reference2 : Cert.quiescent_Reference2Ideal := fun m ρ _ =>
  (θ_run defs _ _).mono (fun r h => ⟨fun c => (h c).2.2.2, sem_eq_zero_of_no_sems (by decide) r.2⟩) (ref_lines m ρ)

end Cert.Attn

end
-- ==== Proof.AttnPay.lean ====
/-
  The backward pass's arithmetic on one block of queries and one block of keys, over the real numbers.
-/
module

public import proofs.«01_k».proof.Proof.AttnHead
public import proofs.«01_k».proof.Proof.Gen.Kernel2Ideal.Skeleton
public import Idealize.ShloMosaic.Lib.Pointwise

@[expose] public section

set_option maxRecDepth 16384

noncomputable section

namespace Cert.Attn

open Cert.Kernel2Ideal Cert.Kernel2Ideal.Gen
open Idealize.ShloMosaic Idealize.ShloMosaic.TcCoe

/-- The two named scales over the extended reals. -/
theorem scale2_eq : Named.named (F := Ideal) κ "scale2" (φ := .f32) 0x3DD53B95#32 = (((Real.sqrt 192)⁻¹ * (Real.log 2)⁻¹ : ℝ) : EReal) :=
  IdealRules.named_const.ideal_named_scalar _ _ _ _ rfl

/-- The named scale over the extended reals. -/
theorem scale_eq : Named.named (F := Ideal) κ "scale" (φ := .f32) 0x3D93CD3A#32 = (((Real.sqrt 192)⁻¹ : ℝ) : EReal) :=
  IdealRules.named_const.ideal_named_scalar _ _ _ _ rfl

/-- An element of the trip's queries. -/
theorem pay3_apply (x : Vec Ideal S512x256 .bf16) (r : Fin 512) (l : Fin 256) : k0_pay3 (F := Ideal) x (ix2 r l) = x (ix2 r l) := by
  pointwise [k0_pay3]

/-- An element of the trip's output gradient. -/
theorem pay4_apply (x : Vec Ideal S512x128 .bf16) (r : Fin 512) (l : Fin 128) : k0_pay4 (F := Ideal) x (ix2 r l) = x (ix2 r l) := by
  pointwise [k0_pay4]

/-- An element of the diagonal block's queries. -/
theorem pay22_apply (x : Vec Ideal S512x256 .bf16) (r : Fin 512) (l : Fin 256) : k0_pay22 (F := Ideal) x (ix2 r l) = x (ix2 r l) := by
  pointwise [k0_pay22]

/-- An element of the diagonal block's output gradient. -/
theorem pay23_apply (x : Vec Ideal S512x128 .bf16) (r : Fin 512) (l : Fin 128) : k0_pay23 (F := Ideal) x (ix2 r l) = x (ix2 r l) := by
  pointwise [k0_pay23]

/-- An element of the values. -/
theorem pay19_apply (x : Vec Ideal S512x128 .bf16) (r : Fin 512) (l : Fin 128) : k0_pay19 (F := Ideal) x (ix2 r l) = x (ix2 r l) := by
  pointwise [k0_pay19]

/-- An element of the query gradient as it is written back. -/
theorem pay31_apply (x : FVec Ideal S512x256 .f32) (r : Fin 512) (l : Fin 256) : k0_pay31 (F := Ideal) x (ix2 r l) = x (ix2 r l) := by
  pointwise [k0_pay31]

/-- An element of the value gradient as it is written. -/
theorem pay34_apply (x : FVec Ideal S512x128 .f32) (r : Fin 512) (l : Fin 128) : k0_pay34 (F := Ideal) x (ix2 r l) = x (ix2 r l) := by
  pointwise [k0_pay34]

/-- An element of the key gradient's unrotated lanes. -/
theorem pay33_apply (x : FVec Ideal S512x256 .f32) (r : Fin 512) (l : Fin 128) : k0_pay33 (F := Ideal) x (ix2 r l) = x (ix2 r ⟨l.val, by omega⟩) := by
  pointwise [k0_pay33]

/-- An element of the key gradient's rotated lanes. -/
theorem pay35_apply (x : FVec Ideal S512x256 .f32) (r : Fin 512) (l : Fin 128) : k0_pay35 (F := Ideal) x (ix2 r l) = x (ix2 r ⟨128 + l.val, by omega⟩) := by
  pointwise [k0_pay35]

/-- An element of the cleared scratch. -/
theorem pay17_apply (r : Fin 4096) (l : Fin 256) : k0_pay17 (F := Ideal) (ix2 r l) = 0 := by
  pointwise [k0_pay17]

/-- An element of the cleared key gradient. -/
theorem pay20_apply (r : Fin 512) (l : Fin 256) : k0_pay20 (F := Ideal) (ix2 r l) = 0 := by
  pointwise [k0_pay20]

/-- An element of the cleared value gradient. -/
theorem pay21_apply (r : Fin 512) (l : Fin 128) : k0_pay21 (F := Ideal) (ix2 r l) = 0 := by
  pointwise [k0_pay21]

/-- An element of the query gradient's unrotated lanes. -/
theorem pay1_apply (x : Vec Ideal S4096x128 .f32) (r : Fin 4096) (l : Fin 128) : k0_pay1 (F := Ideal) x (ix2 r l) = x (ix2 r l) := by
  pointwise [k0_pay1]

/-- An element of the query gradient's rotated lanes, turned back. -/
theorem pay2_apply (x a b c : Vec Ideal S4096x128 .f32) (r : Fin 4096) (l : Fin 128) : k0_pay2 (F := Ideal) x a b c (ix2 r l)
    = x (ix2 r l) * a (ix2 r l) + x (ix2 r ⟨(l.val + 128 - 96) % 128, Nat.mod_lt _ (by norm_num)⟩) * b (ix2 r l)
      + x (ix2 r ⟨(l.val + 128 - 32) % 128, Nat.mod_lt _ (by norm_num)⟩) * c (ix2 r l) := by
  pointwise [k0_pay2]

/-- An element of the keys with their rotated lanes. -/
theorem pay18_apply (x a : Vec Ideal S512x128 .bf16) (r : Fin 512) (l : Fin 256) : k0_pay18 (F := Ideal) x a (ix2 r l)
    = if h : l.val < 128 then x (ix2 r ⟨l.val, h⟩) else a (ix2 r ⟨l.val - 128, by omega⟩) := by
  pointwise [k0_pay18]

/-- An element of the trip's weights. -/
theorem pay5_raw (k : FVec Ideal S512x256 .bf16) (q : Vec Ideal S512x256 .bf16) (s : Vec Ideal S512x1 .f32) (r c : Fin 512) :
    k0_pay5 (F := Ideal) k q s (ix2 r c) = Ideal.exp2 ((∑ x, q (ix2 r x) * k (ix2 c x)) * Named.named (F := Ideal) κ "scale2" (φ := .f32) 0x3DD53B95#32 - s (ix2 r 0)) := by
  pointwise [k0_pay5, pay3_apply]
  rfl

/-- An element of the trip's score gradient. -/
theorem pay7_raw (k : FVec Ideal S512x256 .bf16) (v : FVec Ideal S512x128 .bf16) (q : Vec Ideal S512x256 .bf16) (d o : Vec Ideal S512x128 .bf16) (s : Vec Ideal S512x1 .f32) (r c : Fin 512) :
    k0_pay7 (F := Ideal) k v q d o s (ix2 r c) = k0_pay5 (F := Ideal) k q s (ix2 r c) * (∑ x, d (ix2 r x) * v (ix2 c x) - ∑ x, d (ix2 r x) * o (ix2 r x)) * Named.named (F := Ideal) κ "scale" (φ := .f32) 0x3D93CD3A#32 := by
  pointwise [k0_pay7, k0_pay4]

/-- An element of the trip's key gradient. -/
theorem pay8_raw (k : FVec Ideal S512x256 .bf16) (v : FVec Ideal S512x128 .bf16) (a : FVec Ideal S512x256 .f32) (q : Vec Ideal S512x256 .bf16) (d o : Vec Ideal S512x128 .bf16) (s : Vec Ideal S512x1 .f32) (r : Fin 512) (l : Fin 256) :
    k0_pay8 (F := Ideal) k v a q d o s (ix2 r l) = a (ix2 r l) + ∑ x, k0_pay7 (F := Ideal) k v q d o s (ix2 x r) * q (ix2 x l) := by
  pointwise [k0_pay8, pay3_apply]

/-- An element of the trip's value gradient. -/
theorem pay6_raw (k : FVec Ideal S512x256 .bf16) (a : FVec Ideal S512x128 .f32) (q : Vec Ideal S512x256 .bf16) (d : Vec Ideal S512x128 .bf16) (s : Vec Ideal S512x1 .f32) (r : Fin 512) (l : Fin 128) :
    k0_pay6 (F := Ideal) k a q d s (ix2 r l) = a (ix2 r l) + ∑ x, k0_pay5 (F := Ideal) k q s (ix2 x r) * d (ix2 x l) := by
  pointwise [k0_pay6, pay4_apply]

/-- An element of the trip's query gradient. -/
theorem pay9_raw (k : FVec Ideal S512x256 .bf16) (v : FVec Ideal S512x128 .bf16) (q : Vec Ideal S512x256 .bf16) (d o : Vec Ideal S512x128 .bf16) (s : Vec Ideal S512x1 .f32) (w : Vec Ideal S512x256 .f32) (r : Fin 512) (l : Fin 256) :
    k0_pay9 (F := Ideal) k v q d o s w (ix2 r l) = w (ix2 r l) + ∑ x, k0_pay7 (F := Ideal) k v q d o s (ix2 r x) * k (ix2 x l) := by
  pointwise [k0_pay9]

/-- An element of the diagonal block's row term. -/
theorem pay24_raw (d o : Vec Ideal S512x128 .bf16) (r : Fin 512) :
    k0_pay24 (F := Ideal) d o (ix2 r 0) = ∑ x, d (ix2 r x) * o (ix2 r x) := by
  pointwise [k0_pay24, pay23_apply]

/-- An element of the diagonal block's weights before the mask. -/
theorem pay25_raw (x a : Vec Ideal S512x128 .bf16) (q : Vec Ideal S512x256 .bf16) (s : Vec Ideal S512x1 .f32) (r c : Fin 512) :
    k0_pay25 (F := Ideal) x a q s (ix2 r c) = Ideal.exp2 ((∑ y, q (ix2 r y) * k0_pay18 (F := Ideal) x a (ix2 c y)) * Named.named (F := Ideal) κ "scale2" (φ := .f32) 0x3DD53B95#32 - s (ix2 r 0)) := by
  pointwise [k0_pay25, pay22_apply]
  rfl

/-- An element of the diagonal block's masked weights. -/
theorem pay26_raw (p : FVec Ideal S512x512 .f32) (r c : Fin 512) : k0_pay26 (F := Ideal) p (iota .tc S512x512 32 [0] iota_S512x512_d0_w32) 0#32 (ix2 r c)
    = Scalar.select (IntOp.cmpi .sle (BitVec.ofNat 32 c.val) (IntOp.addi (BitVec.ofNat 32 r.val) 0#32)) (p (ix2 r c)) 0 := by
  pointwise [k0_pay26]

/-- An element of the diagonal block's score gradient. -/
theorem pay28_raw (v d : FVec Ideal S512x128 .bf16) (e : FVec Ideal S512x1 .f32) (p : FVec Ideal S512x512 .f32) (t : IVec S512x512 32) (z : BitVec 32) (r c : Fin 512) :
    k0_pay28 (F := Ideal) v d e p t z (ix2 r c) = k0_pay26 (F := Ideal) p t z (ix2 r c) * (∑ x, d (ix2 r x) * v (ix2 c x) - e (ix2 r 0)) * Named.named (F := Ideal) κ "scale" (φ := .f32) 0x3D93CD3A#32 := by
  pointwise [k0_pay28]

/-- An element of the diagonal block's value gradient. -/
theorem pay27_raw (a : FVec Ideal S512x128 .f32) (d : FVec Ideal S512x128 .bf16) (p : FVec Ideal S512x512 .f32) (t : IVec S512x512 32) (z : BitVec 32) (r : Fin 512) (l : Fin 128) :
    k0_pay27 (F := Ideal) a d p t z (ix2 r l) = a (ix2 r l) + ∑ x, k0_pay26 (F := Ideal) p t z (ix2 x r) * d (ix2 x l) := by
  pointwise [k0_pay27]

/-- An element of the diagonal block's key gradient. -/
theorem pay29_raw (v : FVec Ideal S512x128 .bf16) (a : FVec Ideal S512x256 .f32) (q : FVec Ideal S512x256 .bf16) (d : FVec Ideal S512x128 .bf16) (e : FVec Ideal S512x1 .f32) (p : FVec Ideal S512x512 .f32) (t : IVec S512x512 32) (z : BitVec 32) (r : Fin 512) (l : Fin 256) :
    k0_pay29 (F := Ideal) v a q d e p t z (ix2 r l) = a (ix2 r l) + ∑ x, k0_pay28 (F := Ideal) v d e p t z (ix2 x r) * q (ix2 x l) := by
  pointwise [k0_pay29]

/-- An element of the diagonal block's query gradient. -/
theorem pay30_raw (k : FVec Ideal S512x256 .bf16) (v d : FVec Ideal S512x128 .bf16) (e : FVec Ideal S512x1 .f32) (p : FVec Ideal S512x512 .f32) (t : IVec S512x512 32) (z : BitVec 32) (w : Vec Ideal S512x256 .f32) (r : Fin 512) (l : Fin 256) :
    k0_pay30 (F := Ideal) k v d e p t z w (ix2 r l) = w (ix2 r l) + ∑ x, k0_pay28 (F := Ideal) v d e p t z (ix2 r x) * k (ix2 x l) := by
  pointwise [k0_pay30]

end Cert.Attn

end
-- ==== Proof.AttnBlock.lean ====
/-
  One block of queries against one block of keys: what the backward pass adds to the gradients, when the blocks hold
  one head's reals.
-/
module

public import proofs.«01_k».proof.Proof.AttnPay

@[expose] public section

set_option maxRecDepth 16384

noncomputable section

namespace Cert.Attn

open Cert.Kernel2Ideal Cert.Kernel2Ideal.Gen
open Idealize.ShloMosaic Idealize.ShloMosaic.TcCoe

/-- A block of 512 rows holds rows of a real matrix, from block `b` on. -/
def Holds {n : ℕ} (x : (⟨2, ![512, n]⟩ : Shape).Idx → EReal) (X : Fin 4096 → Fin n → ℝ) (b : ℕ) : Prop :=
  ∀ r l, x (ix2 r l) = (X (row b r) l : EReal)
/-- A column of 512 rows holds entries of a real vector, from block `b` on. -/
def HoldsCol (x : (⟨2, ![512, 1]⟩ : Shape).Idx → EReal) (X : Fin 4096 → ℝ) (b : ℕ) : Prop :=
  ∀ r, x (ix2 r 0) = (X (row b r) : EReal)

/-- The power of two of a real number. -/
theorem exp2_real (x : ℝ) : Ideal.exp2 (x : EReal) = (Real.rpow 2 x : EReal) := Ideal.exp2_coe x

variable (H : Head) {qb kb : ℕ}

/-- The trip's weights over the real numbers. -/
theorem pay5_real {k : FVec Ideal S512x256 .bf16} {q : Vec Ideal S512x256 .bf16} {s : Vec Ideal S512x1 .f32}
    (hk : Holds k H.K kb) (hq : Holds q H.Q qb) (hs : HoldsCol s H.S qb) (r c : Fin 512) :
    k0_pay5 (F := Ideal) k q s (ix2 r c) = (H.pr (row qb r) (row kb c) : EReal) := by
  rw [pay5_raw, scale2_eq, hs r]
  simp only [hk _ _, hq _ _, ← EReal.coe_mul, ← coe_sum, ← EReal.coe_sub, exp2_real]
  rfl

/-- The diagonal block's weights before the mask over the real numbers. -/
theorem pay25_real {x a : Vec Ideal S512x128 .bf16} {q : Vec Ideal S512x256 .bf16} {s : Vec Ideal S512x1 .f32}
    (hk : Holds (k0_pay18 (F := Ideal) x a) H.K kb) (hq : Holds q H.Q qb) (hs : HoldsCol s H.S qb) (r c : Fin 512) :
    k0_pay25 (F := Ideal) x a q s (ix2 r c) = (H.pr (row qb r) (row kb c) : EReal) := by
  rw [pay25_raw, scale2_eq, hs r]
  simp only [hk _ _, hq _ _, ← EReal.coe_mul, ← coe_sum, ← EReal.coe_sub, exp2_real]
  rfl

/-- The trip's score gradient over the real numbers. -/
theorem pay7_real {k : FVec Ideal S512x256 .bf16} {v : FVec Ideal S512x128 .bf16} {q : Vec Ideal S512x256 .bf16} {d o : Vec Ideal S512x128 .bf16} {s : Vec Ideal S512x1 .f32}
    (hk : Holds k H.K kb) (hv : Holds v H.V kb) (hq : Holds q H.Q qb) (hd : Holds d H.D qb) (ho : Holds o H.O qb) (hs : HoldsCol s H.S qb)
    (r c : Fin 512) (h : row kb c ≤ row qb r) :
    k0_pay7 (F := Ideal) k v q d o s (ix2 r c) = (H.gm (row qb r) (row kb c) : EReal) := by
  rw [pay7_raw, scale_eq, pay5_real H hk hq hs]
  simp only [hv _ _, hd _ _, ho _ _, ← EReal.coe_mul, ← coe_sum, ← EReal.coe_sub]
  rw [Head.gm, Head.pm_of_le H h]

/-- The trip's value gradient over the real numbers. -/
theorem pay6_real {k : FVec Ideal S512x256 .bf16} {a : FVec Ideal S512x128 .f32} {q : Vec Ideal S512x256 .bf16} {d : Vec Ideal S512x128 .bf16} {s : Vec Ideal S512x1 .f32}
    (hk : Holds k H.K kb) (hq : Holds q H.Q qb) (hd : Holds d H.D qb) (hs : HoldsCol s H.S qb) (h : ∀ r c, row kb c ≤ row qb r)
    (c : Fin 512) (l : Fin 128) (A : ℝ) (ha : a (ix2 c l) = (A : EReal)) :
    k0_pay6 (F := Ideal) k a q d s (ix2 c l) = ((A + ∑ r, H.pm (row qb r) (row kb c) * H.D (row qb r) l : ℝ) : EReal) := by
  rw [pay6_raw, ha]
  simp only [pay5_real H hk hq hs, hd _ _, ← EReal.coe_mul, ← coe_sum, ← EReal.coe_add]
  simp only [Head.pm_of_le H (h _ _)]

/-- The trip's key gradient over the real numbers. -/
theorem pay8_real {k : FVec Ideal S512x256 .bf16} {v : FVec Ideal S512x128 .bf16} {a : FVec Ideal S512x256 .f32} {q : Vec Ideal S512x256 .bf16} {d o : Vec Ideal S512x128 .bf16} {s : Vec Ideal S512x1 .f32}
    (hk : Holds k H.K kb) (hv : Holds v H.V kb) (hq : Holds q H.Q qb) (hd : Holds d H.D qb) (ho : Holds o H.O qb) (hs : HoldsCol s H.S qb) (h : ∀ r c, row kb c ≤ row qb r)
    (c : Fin 512) (l : Fin 256) (A : ℝ) (ha : a (ix2 c l) = (A : EReal)) :
    k0_pay8 (F := Ideal) k v a q d o s (ix2 c l) = ((A + ∑ r, H.gm (row qb r) (row kb c) * H.Q (row qb r) l : ℝ) : EReal) := by
  rw [pay8_raw, ha]
  simp only [pay7_real H hk hv hq hd ho hs _ _ (h _ _), hq _ _, ← EReal.coe_mul, ← coe_sum, ← EReal.coe_add]

/-- The trip's query gradient over the real numbers. -/
theorem pay9_real {k : FVec Ideal S512x256 .bf16} {v : FVec Ideal S512x128 .bf16} {q : Vec Ideal S512x256 .bf16} {d o : Vec Ideal S512x128 .bf16} {s : Vec Ideal S512x1 .f32} {w : Vec Ideal S512x256 .f32}
    (hk : Holds k H.K kb) (hv : Holds v H.V kb) (hq : Holds q H.Q qb) (hd : Holds d H.D qb) (ho : Holds o H.O qb) (hs : HoldsCol s H.S qb) (h : ∀ r c, row kb c ≤ row qb r)
    (r : Fin 512) (l : Fin 256) (W : ℝ) (hw : w (ix2 r l) = (W : EReal)) :
    k0_pay9 (F := Ideal) k v q d o s w (ix2 r l) = ((W + ∑ c, H.gm (row qb r) (row kb c) * H.K (row kb c) l : ℝ) : EReal) := by
  rw [pay9_raw, hw]
  simp only [pay7_real H hk hv hq hd ho hs _ _ (h _ _), hk _ _, ← EReal.coe_mul, ← coe_sum, ← EReal.coe_add]

/-- The diagonal block's mask keeps the keys up to the query's row. -/
theorem mask_diag (r c : Fin 512) (a b : EReal) :
    Scalar.select (IntOp.cmpi .sle (BitVec.ofNat 32 c.val) (IntOp.addi (BitVec.ofNat 32 r.val) 0#32)) a b = if c.val ≤ r.val then a else b := by
  have hr := r.isLt
  have hc := c.isLt
  have e1 : (BitVec.ofNat 32 c.val).toInt = (c.val : ℤ) := by
    rw [BitVec.toInt_eq_toNat_cond, BitVec.toNat_ofNat, Nat.mod_eq_of_lt (by omega)]
    rw [if_pos (by omega)]
  have e2 : (BitVec.ofNat 32 r.val).toInt = (r.val : ℤ) := by
    rw [BitVec.toInt_eq_toNat_cond, BitVec.toNat_ofNat, Nat.mod_eq_of_lt (by omega)]
    rw [if_pos (by omega)]
  have e0 : IntOp.addi (BitVec.ofNat 32 r.val) 0#32 = BitVec.ofNat 32 r.val := by simp [IntOp.addi]
  rw [e0]
  simp only [IntOp.cmpi, BitVec.sle, e1, e2, Nat.cast_le]
  by_cases h : c.val ≤ r.val <;> simp [h, Scalar.select]

/-- Rows of one block are in the order of their places in it. -/
theorem row_le_row (hb : kb < 8) (r c : Fin 512) : row kb c ≤ row kb r ↔ c.val ≤ r.val := by
  rw [Fin.le_def, row_val hb, row_val hb]; omega

/-- The diagonal block's masked weights over the real numbers. -/
theorem pay26_real (hb : kb < 8) {p : FVec Ideal S512x512 .f32} (hp : ∀ r c, p (ix2 r c) = (H.pr (row kb r) (row kb c) : EReal)) (r c : Fin 512) :
    k0_pay26 (F := Ideal) p (iota .tc S512x512 32 [0] iota_S512x512_d0_w32) 0#32 (ix2 r c) = (H.pm (row kb r) (row kb c) : EReal) := by
  rw [pay26_raw, mask_diag, hp]
  by_cases h : c.val ≤ r.val
  · rw [if_pos h, Head.pm_of_le H ((row_le_row hb r c).mpr h)]
  · rw [if_neg h, Head.pm_of_lt H (not_le.mp fun e => h ((row_le_row hb r c).mp e)), EReal.coe_zero]

/-- The diagonal block's score gradient over the real numbers. -/
theorem pay28_real (hb : kb < 8) {v d : FVec Ideal S512x128 .bf16} {e : FVec Ideal S512x1 .f32} {p : FVec Ideal S512x512 .f32}
    (hv : Holds v H.V kb) (hd : Holds d H.D kb) (he : ∀ r, e (ix2 r 0) = ((∑ x, H.D (row kb r) x * H.O (row kb r) x : ℝ) : EReal))
    (hp : ∀ r c, p (ix2 r c) = (H.pr (row kb r) (row kb c) : EReal)) (r c : Fin 512) :
    k0_pay28 (F := Ideal) v d e p (iota .tc S512x512 32 [0] iota_S512x512_d0_w32) 0#32 (ix2 r c) = (H.gm (row kb r) (row kb c) : EReal) := by
  rw [pay28_raw, scale_eq, pay26_real H hb hp, he]
  simp only [hv _ _, hd _ _, ← EReal.coe_mul, ← coe_sum, ← EReal.coe_sub]
  rfl

/-- The diagonal block's value gradient over the real numbers. -/
theorem pay27_real (hb : kb < 8) {a : FVec Ideal S512x128 .f32} {d : FVec Ideal S512x128 .bf16} {p : FVec Ideal S512x512 .f32}
    (hd : Holds d H.D kb) (hp : ∀ r c, p (ix2 r c) = (H.pr (row kb r) (row kb c) : EReal)) (c : Fin 512) (l : Fin 128) (ha : a (ix2 c l) = 0) :
    k0_pay27 (F := Ideal) a d p (iota .tc S512x512 32 [0] iota_S512x512_d0_w32) 0#32 (ix2 c l) = ((∑ r, H.pm (row kb r) (row kb c) * H.D (row kb r) l : ℝ) : EReal) := by
  rw [pay27_raw, ha, zero_add]
  simp only [pay26_real H hb hp, hd _ _, ← EReal.coe_mul, ← coe_sum]

/-- The diagonal block's key gradient over the real numbers. -/
theorem pay29_real (hb : kb < 8) {v d : FVec Ideal S512x128 .bf16} {a : FVec Ideal S512x256 .f32} {q : FVec Ideal S512x256 .bf16} {e : FVec Ideal S512x1 .f32} {p : FVec Ideal S512x512 .f32}
    (hv : Holds v H.V kb) (hq : Holds q H.Q kb) (hd : Holds d H.D kb) (he : ∀ r, e (ix2 r 0) = ((∑ x, H.D (row kb r) x * H.O (row kb r) x : ℝ) : EReal))
    (hp : ∀ r c, p (ix2 r c) = (H.pr (row kb r) (row kb c) : EReal)) (c : Fin 512) (l : Fin 256) (ha : a (ix2 c l) = 0) :
    k0_pay29 (F := Ideal) v a q d e p (iota .tc S512x512 32 [0] iota_S512x512_d0_w32) 0#32 (ix2 c l) = ((∑ r, H.gm (row kb r) (row kb c) * H.Q (row kb r) l : ℝ) : EReal) := by
  rw [pay29_raw, ha, zero_add]
  simp only [pay28_real H hb hv hd he hp, hq _ _, ← EReal.coe_mul, ← coe_sum]

/-- The diagonal block's query gradient over the real numbers. -/
theorem pay30_real (hb : kb < 8) {k : FVec Ideal S512x256 .bf16} {v d : FVec Ideal S512x128 .bf16} {e : FVec Ideal S512x1 .f32} {p : FVec Ideal S512x512 .f32} {w : Vec Ideal S512x256 .f32}
    (hk : Holds k H.K kb) (hv : Holds v H.V kb) (hd : Holds d H.D kb) (he : ∀ r, e (ix2 r 0) = ((∑ x, H.D (row kb r) x * H.O (row kb r) x : ℝ) : EReal))
    (hp : ∀ r c, p (ix2 r c) = (H.pr (row kb r) (row kb c) : EReal)) (r : Fin 512) (l : Fin 256) (W : ℝ) (hw : w (ix2 r l) = (W : EReal)) :
    k0_pay30 (F := Ideal) k v d e p (iota .tc S512x512 32 [0] iota_S512x512_d0_w32) 0#32 w (ix2 r l) = ((W + ∑ c, H.gm (row kb r) (row kb c) * H.K (row kb c) l : ℝ) : EReal) := by
  rw [pay30_raw, hw]
  simp only [pay28_real H hb hv hd he hp, hk _ _, ← EReal.coe_mul, ← coe_sum, ← EReal.coe_add]

end Cert.Attn

end
-- ==== Proof.AttnStep.lean ====
/-
  One point of the backward pass over the real numbers: its key block against its own queries and then, trip by trip,
  against the queries after it.
-/
module

public import proofs.«01_k».proof.Proof.AttnBlock
public import proofs.«01_k».proof.Proof.AttnBody
public import Idealize.ShloMosaic.Lib.Pipeline.ValueKit.Tiles

@[expose] public section

set_option maxRecDepth 16384

noncomputable section

namespace Cert.Attn

open Cert.Kernel2Ideal Cert.Kernel2Ideal.Gen
open Idealize.ShloMosaic Idealize.ShloMosaic.TcCoe

/-- The point's key block. -/
abbrev kb (i : grid0.Coords) : ℕ := (i 1).val

/-- There are eight blocks of keys. -/
theorem kb_lt (i : grid0.Coords) : kb i < 8 := (i 1).isLt

/-! ## Where the point reads and writes -/

/-- The loop runs over the later blocks of queries. -/
theorem trips_eq (i : grid0.Coords) : (k0_t1_loop i).trips = 7 - kb i := by
  have h : ∀ j : Fin 8, (k0_t1_loop (fun a => match a with | ⟨0, _⟩ => (0 : Fin 16) | ⟨1, _⟩ => j : grid0.Coords)).trips = 7 - j.val := by decide +kernel
  exact h (i 1)

/-- Where the diagonal block reads or writes. -/
theorem off1_eq (i : grid0.Coords) : k0_off1 i = ![512 * kb i, 0] := by
  have h : ∀ j : Fin 8, k0_off1 (fun a => match a with | ⟨0, _⟩ => (0 : Fin 16) | ⟨1, _⟩ => j : grid0.Coords) = ![512 * j.val, 0] := by decide +kernel
  exact h (i 1)
/-- Where the diagonal block reads or writes. -/
theorem off2_eq (i : grid0.Coords) : k0_off2 i = ![512 * kb i, 0] := by
  have h : ∀ j : Fin 8, k0_off2 (fun a => match a with | ⟨0, _⟩ => (0 : Fin 16) | ⟨1, _⟩ => j : grid0.Coords) = ![512 * j.val, 0] := by decide +kernel
  exact h (i 1)
/-- Where the diagonal block reads or writes. -/
theorem off3_eq (i : grid0.Coords) : k0_off3 i = ![512 * kb i, 0] := by
  have h : ∀ j : Fin 8, k0_off3 (fun a => match a with | ⟨0, _⟩ => (0 : Fin 16) | ⟨1, _⟩ => j : grid0.Coords) = ![512 * j.val, 0] := by decide +kernel
  exact h (i 1)
/-- Where a trip reads or writes. -/
theorem off4_eq (i : grid0.Coords) (k : Fin (k0_t1_loop i).trips) : k0_off4 i k = ![512 * (kb i + 1 + k.val), 0] := by
  have h : ∀ (j : Fin 8) (k : Fin (k0_t1_loop (fun a => match a with | ⟨0, _⟩ => (0 : Fin 16) | ⟨1, _⟩ => j : grid0.Coords)).trips),
      k0_off4 (fun a => match a with | ⟨0, _⟩ => (0 : Fin 16) | ⟨1, _⟩ => j : grid0.Coords) k = ![512 * (j.val + 1 + k.val), 0] := by decide +kernel
  exact h (i 1) k
/-- Where a trip reads or writes. -/
theorem off5_eq (i : grid0.Coords) (k : Fin (k0_t1_loop i).trips) : k0_off5 i k = ![512 * (kb i + 1 + k.val), 0] := by
  have h : ∀ (j : Fin 8) (k : Fin (k0_t1_loop (fun a => match a with | ⟨0, _⟩ => (0 : Fin 16) | ⟨1, _⟩ => j : grid0.Coords)).trips),
      k0_off5 (fun a => match a with | ⟨0, _⟩ => (0 : Fin 16) | ⟨1, _⟩ => j : grid0.Coords) k = ![512 * (j.val + 1 + k.val), 0] := by decide +kernel
  exact h (i 1) k
/-- Where a trip reads or writes. -/
theorem off6_eq (i : grid0.Coords) (k : Fin (k0_t1_loop i).trips) : k0_off6 i k = ![512 * (kb i + 1 + k.val), 0] := by
  have h : ∀ (j : Fin 8) (k : Fin (k0_t1_loop (fun a => match a with | ⟨0, _⟩ => (0 : Fin 16) | ⟨1, _⟩ => j : grid0.Coords)).trips),
      k0_off6 (fun a => match a with | ⟨0, _⟩ => (0 : Fin 16) | ⟨1, _⟩ => j : grid0.Coords) k = ![512 * (j.val + 1 + k.val), 0] := by decide +kernel
  exact h (i 1) k

/-- Reading 512 rows from block `b` on, of all lanes or of the first few. -/
theorem ld_rows {n w : ℕ} {e : EltTy} (hw : w ≤ n) (X : (⟨2, ![4096, n]⟩ : Shape).Idx → Elt Ideal e) (off : Fin 2 → ℕ) (b : ℕ) (hb : b < 8) (eo : off = ![512 * b, 0])
    (inb : ∀ a, off a + (![512, w] : Fin 2 → ℕ) a ≤ (⟨2, ![4096, n]⟩ : Shape).size a) (r : Fin 512) (l : Fin w) :
    View.ld (Val := Elt Ideal) (e' := e) X (Rect.unit (s := ⟨2, ![4096, n]⟩) off ![512, w] inb) (ix2 r l) = X (ix2 (row b r) ⟨l.val, lt_of_lt_of_le l.isLt hw⟩) := by
  subst eo
  refine View.ld_unit_apply_of X _ _ inb (ix2 r l) (ix2 (row b r) ⟨l.val, lt_of_lt_of_le l.isLt hw⟩) fun a => ?_
  match a with
  | ⟨0, _⟩ => exact row_val hb r
  | ⟨1, _⟩ => show l.val = 0 + l.val; omega

/-- Writing 512 rows from block `b` on: the rows written. -/
theorem put_in (X : S4096x256.Idx → EReal) (off : Fin 2 → ℕ) (b : ℕ) (hb : b < 8) (e : off = ![512 * b, 0]) (w : S512x256.Idx → EReal) (r : Fin 512) (l : Fin 256) :
    VecWindow.put (s := S4096x256) X off S512x256.size w (ix2 (row b r) l) = w (ix2 r l) := by
  subst e
  have hr := row_val hb r
  have := r.isLt
  have := l.isLt
  unfold VecWindow.put
  rw [dif_pos (fun a => by
    match a with
    | ⟨0, _⟩ => exact ⟨by show 512 * b ≤ (row b r).val; omega, by show (row b r).val < 512 * b + 512; omega⟩
    | ⟨1, _⟩ => exact ⟨Nat.zero_le _, by show l.val < 0 + 256; omega⟩)]
  refine congrArg w (funext fun a => Fin.ext ?_)
  match a with
  | ⟨0, _⟩ => show (row b r).val - 512 * b = r.val; omega
  | ⟨1, _⟩ => rfl

/-- And the rows left alone. -/
theorem put_out (X : S4096x256.Idx → EReal) (off : Fin 2 → ℕ) (b : ℕ) (e : off = ![512 * b, 0]) (w : S512x256.Idx → EReal) (r : Fin 4096) (l : Fin 256)
    (h : r.val < 512 * b ∨ 512 * b + 512 ≤ r.val) :
    VecWindow.put (s := S4096x256) X off S512x256.size w (ix2 r l) = X (ix2 r l) := by
  subst e
  unfold VecWindow.put
  exact dif_neg fun hh => by
    have h1 : 512 * b ≤ r.val := (hh 0).1
    have h2 : r.val < 512 * b + 512 := (hh 0).2
    omega

/-- A row inside block `b`. -/
theorem row_of {b : ℕ} (hb : b < 8) (r : Fin 4096) (h1 : 512 * b ≤ r.val) (h2 : r.val < 512 * b + 512) : r = row b ⟨r.val - 512 * b, by omega⟩ :=
  Fin.ext (by rw [row_val hb]; show r.val = 512 * b + (r.val - 512 * b); omega)

/-! ## The point -/

variable (H : Head) (i : grid0.Coords)

/-- What key block `n` gives the query gradient. -/
def dQpart (r : Fin 4096) (l : Fin 256) (n : ℕ) : ℝ := ∑ c, H.gm r (row n c) * H.K (row n c) l

/-- The buffers a point reads hold the head's reals. -/
structure Reads (x0 : Vec Ideal S4096x256 .bf16) (x1 : Vec Ideal S512x256 .bf16) (x2 : Vec Ideal S512x128 .bf16) (x3 : Vec Ideal S4096x128 .bf16) (x4 : Vec Ideal S4096x128 .f32) (x5 : Vec Ideal S4096x128 .bf16) : Prop where
  q : ∀ (r : Fin 4096) (l : Fin 256), x0 (ix2 r l) = (H.Q r l : EReal)
  key : Holds (keyOf x1 x2) H.K (kb i)
  val : Holds (valOf x1) H.V (kb i)
  o : ∀ (r : Fin 4096) (l : Fin 128), x3 (ix2 r l) = (H.O r l : EReal)
  s : ∀ (r : Fin 4096) (l : Fin 128), x4 (ix2 r l) = (H.S r : EReal)
  d : ∀ (r : Fin 4096) (l : Fin 128), x5 (ix2 r l) = (H.D r l : EReal)

variable {H i} {x0 : Vec Ideal S4096x256 .bf16} {x1 : Vec Ideal S512x256 .bf16} {x2 : Vec Ideal S512x128 .bf16} {x3 : Vec Ideal S4096x128 .bf16} {x4 : Vec Ideal S4096x128 .f32} {x5 : Vec Ideal S4096x128 .bf16}

namespace Reads

variable (R : Reads H i x0 x1 x2 x3 x4 x5)
include R

/-- The diagonal block of the queries. -/
theorem diag_q : Holds (View.ld x0 (diagQ i)) H.Q (kb i) := fun r l =>
  (ld_rows (n := 256) (w := 256) le_rfl x0 _ (kb i) (kb_lt i) (off1_eq i) _ r l).trans (R.q _ _)
/-- The diagonal block of the output. -/
theorem diag_o : Holds (View.ld x3 (diagV i)) H.O (kb i) := fun r l =>
  (ld_rows (n := 128) (w := 128) le_rfl x3 _ (kb i) (kb_lt i) (off2_eq i) _ r l).trans (R.o _ _)
/-- The diagonal block of the output gradient. -/
theorem diag_d : Holds (View.ld x5 (diagV i)) H.D (kb i) := fun r l =>
  (ld_rows (n := 128) (w := 128) le_rfl x5 _ (kb i) (kb_lt i) (off2_eq i) _ r l).trans (R.d _ _)
/-- The diagonal block of the row constants. -/
theorem diag_s : HoldsCol (View.ld x4 (diagL i)) H.S (kb i) := fun r =>
  (ld_rows (n := 128) (w := 1) (by norm_num) x4 _ (kb i) (kb_lt i) (off3_eq i) _ r 0).trans (R.s _ _)

variable (k : Fin (k0_t1_loop i).trips)

omit R in
/-- A trip's block of queries is one of the eight. -/
theorem trip_lt : kb i + 1 + k.val < 8 := by
  have h := k.isLt
  have e := trips_eq i
  have hb := kb_lt i
  omega

/-- A trip's block of the queries. -/
theorem trip_q : Holds (View.ld x0 (rectQ i k)) H.Q (kb i + 1 + k.val) := fun r l =>
  (ld_rows (n := 256) (w := 256) le_rfl x0 _ _ (trip_lt k) (off4_eq i k) _ r l).trans (R.q _ _)
/-- A trip's block of the output. -/
theorem trip_o : Holds (View.ld x3 (rectV i k)) H.O (kb i + 1 + k.val) := fun r l =>
  (ld_rows (n := 128) (w := 128) le_rfl x3 _ _ (trip_lt k) (off5_eq i k) _ r l).trans (R.o _ _)
/-- A trip's block of the output gradient. -/
theorem trip_d : Holds (View.ld x5 (rectV i k)) H.D (kb i + 1 + k.val) := fun r l =>
  (ld_rows (n := 128) (w := 128) le_rfl x5 _ _ (trip_lt k) (off5_eq i k) _ r l).trans (R.d _ _)
/-- A trip's block of the row constants. -/
theorem trip_s : HoldsCol (View.ld x4 (rectL i k)) H.S (kb i + 1 + k.val) := fun r =>
  (ld_rows (n := 128) (w := 1) (by norm_num) x4 _ _ (trip_lt k) (off6_eq i k) _ r 0).trans (R.s _ _)

omit R in
/-- A trip's queries come after the keys. -/
theorem trip_le (r c : Fin 512) : row (kb i) c ≤ row (kb i + 1 + k.val) r := by
  rw [Fin.le_def, row_val (kb_lt i), row_val (trip_lt k)]
  have := c.isLt
  omega

/-! ### The diagonal block -/

/-- The diagonal block's weights before the mask. -/
theorem diag_pr (r c : Fin 512) :
    k0_pay25 (F := Ideal) (View.ld x1 (Rect.unit (s := S512x256) ![0, 0] S512x128.size inb_S512x256_S512x128_0_0)) x2 (View.ld x0 (diagQ i)) (View.ld x4 (diagL i)) (ix2 r c)
      = (H.pr (row (kb i) r) (row (kb i) c) : EReal) :=
  pay25_real H (kb := kb i) R.key R.diag_q R.diag_s r c

/-- The diagonal block's row term. -/
theorem diag_delta (r : Fin 512) : k0_pay24 (F := Ideal) (View.ld x5 (diagV i)) (View.ld x3 (diagV i)) (ix2 r 0)
    = ((∑ x, H.D (row (kb i) r) x * H.O (row (kb i) r) x : ℝ) : EReal) := by
  rw [pay24_raw]
  simp only [R.diag_d _ _, R.diag_o _ _, ← EReal.coe_mul, ← coe_sum]

/-- The queries, as the diagonal block uses them. -/
theorem diag_q' : Holds (k0_pay22 (F := Ideal) (View.ld x0 (diagQ i))) H.Q (kb i) := fun r l => (pay22_apply _ r l).trans (R.diag_q r l)
/-- The output gradient, as the diagonal block uses it. -/
theorem diag_d' : Holds (k0_pay23 (F := Ideal) (View.ld x5 (diagV i))) H.D (kb i) := fun r l => (pay23_apply _ r l).trans (R.diag_d r l)

/-- The key gradient after the diagonal block. -/
theorem diag_acc1 (c : Fin 512) (l : Fin 256) : (diagAcc i x0 x1 x2 x3 x4 x5).1 (ix2 c l)
    = ((∑ r, H.gm (row (kb i) r) (row (kb i) c) * H.Q (row (kb i) r) l : ℝ) : EReal) :=
  pay29_real H (kb_lt i) R.val R.diag_q' R.diag_d' R.diag_delta R.diag_pr c l (pay20_apply c l)

/-- The value gradient after the diagonal block. -/
theorem diag_acc2 (c : Fin 512) (l : Fin 128) : (diagAcc i x0 x1 x2 x3 x4 x5).2 (ix2 c l)
    = ((∑ r, H.pm (row (kb i) r) (row (kb i) c) * H.D (row (kb i) r) l : ℝ) : EReal) :=
  pay27_real H (kb_lt i) R.diag_d' R.diag_pr c l (pay21_apply c l)

/-- The query gradient's rows that the diagonal block adds to. -/
theorem diag_rows (s : Vec Ideal S4096x256 .f32) (r : Fin 512) (l : Fin 256) (W : ℝ) (hw : s (ix2 (row (kb i) r) l) = (W : EReal)) :
    diagRows i x0 x1 x2 x3 x4 x5 s (ix2 r l) = ((W + dQpart H (row (kb i) r) l (kb i) : ℝ) : EReal) :=
  pay30_real H (kb_lt i) R.key R.val R.diag_d' R.diag_delta R.diag_pr r l W
    ((ld_rows (n := 256) (w := 256) le_rfl s _ (kb i) (kb_lt i) (off1_eq i) _ r l).trans hw)

/-! ### The trips -/

/-- What the point has of the gradients after its own block and `k` trips. -/
theorem carried_real (s : Vec Ideal S4096x256 .f32) (hs : ∀ (r : Fin 4096) (l : Fin 256), s (ix2 r l) = ((∑ n ∈ Finset.range (kb i), dQpart H r l n : ℝ) : EReal)) :
    ∀ k, k ≤ 7 - kb i →
      (∀ c l, (carried i (keyOf x1 x2) (valOf x1) x0 x3 x4 x5 (VecWindow.put s (k0_off1 i) S512x256.size (diagRows i x0 x1 x2 x3 x4 x5 s)) (diagAcc i x0 x1 x2 x3 x4 x5) k).1.1 (ix2 c l)
          = ((∑ n ∈ Finset.range (k + 1), ∑ r, H.gm (row (kb i + n) r) (row (kb i) c) * H.Q (row (kb i + n) r) l : ℝ) : EReal))
      ∧ (∀ c l, (carried i (keyOf x1 x2) (valOf x1) x0 x3 x4 x5 (VecWindow.put s (k0_off1 i) S512x256.size (diagRows i x0 x1 x2 x3 x4 x5 s)) (diagAcc i x0 x1 x2 x3 x4 x5) k).1.2 (ix2 c l)
          = ((∑ n ∈ Finset.range (k + 1), ∑ r, H.pm (row (kb i + n) r) (row (kb i) c) * H.D (row (kb i + n) r) l : ℝ) : EReal))
      ∧ (∀ (r : Fin 4096) (l : Fin 256), (carried i (keyOf x1 x2) (valOf x1) x0 x3 x4 x5 (VecWindow.put s (k0_off1 i) S512x256.size (diagRows i x0 x1 x2 x3 x4 x5 s)) (diagAcc i x0 x1 x2 x3 x4 x5) k).2 (ix2 r l)
          = ((∑ n ∈ Finset.range (if r.val < 512 * (kb i + 1 + k) then kb i + 1 else kb i), dQpart H r l n : ℝ) : EReal)) := by
  have hb := kb_lt i
  intro k
  induction k with
  | zero =>
    intro _
    refine ⟨fun c l => ?_, fun c l => ?_, fun r l => ?_⟩
    · rw [Finset.sum_range_one]; exact R.diag_acc1 c l
    · rw [Finset.sum_range_one]; exact R.diag_acc2 c l
    · show VecWindow.put (s := S4096x256) s (k0_off1 i) S512x256.size (diagRows i x0 x1 x2 x3 x4 x5 s) (ix2 r l) = _
      by_cases h1 : r.val < 512 * kb i
      · rw [put_out s _ (kb i) (off1_eq i) _ r l (Or.inl h1), hs, if_pos (by omega), Finset.sum_range_succ]
        have z : dQpart H r l (kb i) = 0 := Finset.sum_eq_zero fun c _ => by
          rw [Head.gm_of_lt, zero_mul]; rw [Fin.lt_def, row_val hb]; omega
        rw [z, add_zero]
      · by_cases h2 : r.val < 512 * kb i + 512
        · rw [if_pos (by omega), Finset.sum_range_succ]
          rw [row_of hb r (by omega) h2]
          rw [put_in s _ (kb i) hb (off1_eq i) _ _ l]
          exact R.diag_rows s _ l _ (hs _ _)
        · rw [put_out s _ (kb i) (off1_eq i) _ r l (Or.inr (by omega)), hs, if_neg (by omega)]
  | succ k ih =>
    intro hk
    obtain ⟨ih1, ih2, ih3⟩ := ih (by omega)
    have hkt : k < (k0_t1_loop i).trips := by rw [trips_eq]; omega
    have hc := carried_succ i (keyOf x1 x2) (valOf x1) x0 x3 x4 x5 (VecWindow.put s (k0_off1 i) S512x256.size (diagRows i x0 x1 x2 x3 x4 x5 s)) (diagAcc i x0 x1 x2 x3 x4 x5) ⟨k, hkt⟩
    have hlt : kb i + 1 + k < 8 := trip_lt ⟨k, hkt⟩
    dsimp only at hc
    rw [hc]
    generalize carried i (keyOf x1 x2) (valOf x1) x0 x3 x4 x5 (VecWindow.put s (k0_off1 i) S512x256.size (diagRows i x0 x1 x2 x3 x4 x5 s)) (diagAcc i x0 x1 x2 x3 x4 x5) k = p at ih1 ih2 ih3
    refine ⟨fun c l => ?_, fun c l => ?_, fun r l => ?_⟩
    · rw [Finset.sum_range_succ, show kb i + (k + 1) = kb i + 1 + k by omega]
      exact pay8_real H R.key R.val (R.trip_q ⟨k, hkt⟩) (R.trip_d ⟨k, hkt⟩) (R.trip_o ⟨k, hkt⟩) (R.trip_s ⟨k, hkt⟩) (trip_le ⟨k, hkt⟩) c l _ (ih1 c l)
    · rw [Finset.sum_range_succ, show kb i + (k + 1) = kb i + 1 + k by omega]
      exact pay6_real H R.key (R.trip_q ⟨k, hkt⟩) (R.trip_d ⟨k, hkt⟩) (R.trip_s ⟨k, hkt⟩) (trip_le ⟨k, hkt⟩) c l _ (ih2 c l)
    · have e4 := off4_eq i ⟨k, hkt⟩
      dsimp only
      by_cases h1 : r.val < 512 * (kb i + 1 + k)
      · rw [put_out p.2 _ (kb i + 1 + k) e4 _ r l (Or.inl h1), ih3, if_pos h1, if_pos (by omega)]
      · by_cases h2 : r.val < 512 * (kb i + 1 + k) + 512
        · rw [if_pos (by omega), Finset.sum_range_succ]
          have hr := row_of hlt r (by omega) h2
          have hp := ih3 r l
          rw [if_neg h1] at hp
          rw [hr] at hp ⊢
          rw [put_in p.2 _ (kb i + 1 + k) hlt e4 _ _ l]
          refine (pay31_apply _ _ _).trans ?_
          exact pay9_real H R.key R.val (R.trip_q ⟨k, hkt⟩) (R.trip_d ⟨k, hkt⟩) (R.trip_o ⟨k, hkt⟩) (R.trip_s ⟨k, hkt⟩) (trip_le ⟨k, hkt⟩) _ l _
            ((ld_rows (n := 256) (w := 256) le_rfl p.2 _ _ hlt e4 _ _ l).trans hp)
        · rw [put_out p.2 _ (kb i + 1 + k) e4 _ r l (Or.inr (by omega)), ih3, if_neg h1, if_neg (by omega)]

/-- What the point leaves: its key block's whole gradients, and the query gradient one key block further. -/
theorem finish_real (s : Vec Ideal S4096x256 .f32) (hs : ∀ (r : Fin 4096) (l : Fin 256), s (ix2 r l) = ((∑ n ∈ Finset.range (kb i), dQpart H r l n : ℝ) : EReal)) :
    (∀ c l, (finish i x0 x1 x2 x3 x4 x5 s).1.1 (ix2 c l) = ((∑ r, H.gm r (row (kb i) c) * H.Q r l : ℝ) : EReal))
    ∧ (∀ c l, (finish i x0 x1 x2 x3 x4 x5 s).1.2 (ix2 c l) = ((∑ r, H.pm r (row (kb i) c) * H.D r l : ℝ) : EReal))
    ∧ (∀ (r : Fin 4096) (l : Fin 256), (finish i x0 x1 x2 x3 x4 x5 s).2 (ix2 r l) = ((∑ n ∈ Finset.range (kb i + 1), dQpart H r l n : ℝ) : EReal)) := by
  have hb := kb_lt i
  obtain ⟨h1, h2, h3⟩ := R.carried_real s hs (7 - kb i) le_rfl
  unfold finish
  rw [trips_eq]
  refine ⟨fun c l => ?_, fun c l => ?_, fun r l => ?_⟩
  · rw [h1, show 7 - kb i + 1 = 8 - kb i by omega, sum_blocks_from (fun r => H.gm r (row (kb i) c) * H.Q r l) (kb i) (by omega)]
    intro r hr
    rw [Head.gm_of_lt, zero_mul]; rw [Fin.lt_def, row_val hb]; omega
  · rw [h2, show 7 - kb i + 1 = 8 - kb i by omega, sum_blocks_from (fun r => H.pm r (row (kb i) c) * H.D r l) (kb i) (by omega)]
    intro r hr
    rw [Head.pm_of_lt, zero_mul]; rw [Fin.lt_def, row_val hb]; omega
  · rw [h3, if_pos (by have := r.isLt; omega)]

end Reads

end Cert.Attn

end
-- ==== Proof.AttnValue.lean ====
/-
  What the attention's backward pass computes: over the extended reals, with real arguments, its three result
  arrays are the gradients of causal attention.
-/
module

public import proofs.«01_k».proof.Proof.AttnRun
public import proofs.«01_k».proof.Proof.AttnStep
public import proofs.«01_k».proof.Proof.AttnSaved
public import proofs.«01_k».proof.Proof.AttnArrays
public import Idealize.ShloMosaic.Lib.Pipeline.Value

@[expose] public section

set_option maxRecDepth 16384
set_option maxHeartbeats 4000000

noncomputable section

namespace Cert.Attn

open Cert.Kernel2Ideal Cert.Kernel2Ideal.Gen
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

/-! ## The blocks, an element at a time -/

/-- There are 128 points. -/
theorem point_lt (t : Fin cfg0.N) : t.val < 128 := lt_of_lt_of_eq t.isLt N_0

/-- The point's head. -/
abbrev hd (t : Fin cfg0.N) : Fin 16 := ⟨t.val / 8, by have := point_lt t; omega⟩

/-- The point's key block. -/
theorem kb_val (t : Fin cfg0.N) : kb (grid0.coords t) = t.val % 8 := by
  have e1 : (grid0.coords t 1).val = t.val / 1 % 8 := Pipeline.Grid.coords_val t 1 (by decide) rfl
  rw [kb, e1, Nat.div_one]

/-- Where each window's block begins, in blocks, at every point. -/
theorem index0 : ∀ t : Fin cfg0.N, win0_0.index t 0 = 0 ∧ win0_0.index t 1 = t.val / 8 :=
  (by decide +kernel : ∀ t : Fin grid0.N, win0_0.index t 0 = 0 ∧ win0_0.index t 1 = t.val / 8)
/-- Which block of the keys and values a point uses. -/
theorem index1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
/-- Which block of the rotated keys a point uses. -/
theorem index2 : ∀ t : Fin cfg0.N, win0_2.index t 0 = t.val % 8 ∧ win0_2.index t 1 = 0 :=
  (by decide +kernel : ∀ t : Fin grid0.N, win0_2.index t 0 = t.val % 8 ∧ win0_2.index t 1 = 0)
/-- Which block of the output a point uses. -/
theorem index3 : ∀ t : Fin cfg0.N, win0_3.index t 0 = 0 ∧ win0_3.index t 1 = t.val / 8 :=
  (by decide +kernel : ∀ t : Fin grid0.N, win0_3.index t 0 = 0 ∧ win0_3.index t 1 = t.val / 8)
/-- Which block of the row constants a point uses. -/
theorem index4 : ∀ t : Fin cfg0.N, win0_4.index t 0 = 0 ∧ win0_4.index t 1 = t.val / 8 :=
  (by decide +kernel : ∀ t : Fin grid0.N, win0_4.index t 0 = 0 ∧ win0_4.index t 1 = t.val / 8)
/-- Which block of the output gradient a point uses. -/
theorem index5 : ∀ t : Fin cfg0.N, win0_5.index t 0 = 0 ∧ win0_5.index t 1 = t.val / 8 :=
  (by decide +kernel : ∀ t : Fin grid0.N, win0_5.index t 0 = 0 ∧ win0_5.index t 1 = t.val / 8)
/-- Which block of the cosines a point uses. -/
theorem index6 : ∀ t : Fin cfg0.N, win0_6.index t 0 = 0 ∧ win0_6.index t 1 = 0 :=
  (by decide +kernel : ∀ t : Fin grid0.N, win0_6.index t 0 = 0 ∧ win0_6.index t 1 = 0)
/-- Which block of the first sines a point uses. -/
theorem index7 : ∀ t : Fin cfg0.N, win0_7.index t 0 = 0 ∧ win0_7.index t 1 = 0 :=
  (by decide +kernel : ∀ t : Fin grid0.N, win0_7.index t 0 = 0 ∧ win0_7.index t 1 = 0)
/-- Which block of the second sines a point uses. -/
theorem index8 : ∀ t : Fin cfg0.N, win0_8.index t 0 = 0 ∧ win0_8.index t 1 = 0 :=
  (by decide +kernel : ∀ t : Fin grid0.N, win0_8.index t 0 = 0 ∧ win0_8.index t 1 = 0)
/-- Which block of the key and value gradient a point uses. -/
theorem index9 : ∀ t : Fin cfg0.N, win0_9.index t 0 = t.val % 8 ∧ win0_9.index t 1 = t.val / 8 :=
  (by decide +kernel : ∀ t : Fin grid0.N, win0_9.index t 0 = t.val % 8 ∧ win0_9.index t 1 = t.val / 8)
/-- Which block of the rotated key gradient a point uses. -/
theorem index10 : ∀ t : Fin cfg0.N, win0_10.index t 0 = t.val % 8 ∧ win0_10.index t 1 = t.val / 8 :=
  (by decide +kernel : ∀ t : Fin grid0.N, win0_10.index t 0 = t.val % 8 ∧ win0_10.index t 1 = t.val / 8)
/-- Which block of the query gradient a point uses. -/
theorem index11 : ∀ t : Fin cfg0.N, win0_11.index t 0 = 0 ∧ win0_11.index t 1 = t.val / 8 :=
  (by decide +kernel : ∀ t : Fin grid0.N, win0_11.index t 0 = 0 ∧ win0_11.index t 1 = t.val / 8)

/-- An element of a point's block of the queries. -/
theorem blk0 (c : Dev nD) (t : Fin cfg0.N) (r : Fin 4096) (l : Fin 256) (p : Fin 4096) (hp : p.val = 256 * (t.val / 8) + l.val) :
    (iblk m c 0 t : S4096x256.Idx → EReal) (ix2 r l) = (V m c main_v60 : S4096x4096.Idx → EReal) (ix2 (r) p) := by
  have hr := r.isLt
  have ht := point_lt t
  unfold iblk
  rw [View.read_apply]
  show V m c main_v60 _ = _
  refine congrArg (V m c main_v60) (funext fun b => Fin.ext ?_)
  match b with
  | ⟨0, _⟩ => show win0_0.index t 0 * 4096 + 1 * r.val = (r).val; rw [(index0 t).1]; omega
  | ⟨1, _⟩ => show win0_0.index t 1 * 256 + 1 * l.val = p.val; rw [(index0 t).2, hp]; omega

/-- An element of a point's block of the keys and values. -/
theorem blk1 (c : Dev nD) (t : Fin cfg0.N) (r : Fin 512) (l : Fin 256) (p : Fin 4096) (hp : p.val = 256 * (t.val / 8) + l.val) :
    (iblk m c 1 t : S512x256.Idx → EReal) (ix2 r l) = (V m c main_v62 : S4096x4096.Idx → EReal) (ix2 (row (t.val % 8) r) p) := by
  have hr := r.isLt
  have ht := point_lt t
  unfold iblk
  rw [View.read_apply]
  show V m c main_v62 _ = _
  refine congrArg (V m c main_v62) (funext fun b => Fin.ext ?_)
  match b with
  | ⟨0, _⟩ => show win0_1.index t 0 * 512 + 1 * r.val = (row (t.val % 8) r).val; rw [(index1 t).1, row_val (by omega)]; omega
  | ⟨1, _⟩ => show win0_1.index t 1 * 256 + 1 * l.val = p.val; rw [(index1 t).2, hp]; omega

/-- An element of a point's block of the rotated keys. -/
theorem blk2 (c : Dev nD) (t : Fin cfg0.N) (r : Fin 512) (l : Fin 128) (p : Fin 128) (hp : p.val = l.val) :
    (iblk m c 2 t : S512x128.Idx → EReal) (ix2 r l) = (V m c main_v64 : S4096x128.Idx → EReal) (ix2 (row (t.val % 8) r) p) := by
  have hr := r.isLt
  have ht := point_lt t
  unfold iblk
  rw [View.read_apply]
  show V m c main_v64 _ = _
  refine congrArg (V m c main_v64) (funext fun b => Fin.ext ?_)
  match b with
  | ⟨0, _⟩ => show win0_2.index t 0 * 512 + 1 * r.val = (row (t.val % 8) r).val; rw [(index2 t).1, row_val (by omega)]; omega
  | ⟨1, _⟩ => show win0_2.index t 1 * 128 + 1 * l.val = p.val; rw [(index2 t).2, hp]; omega

/-- An element of a point's block of the output. -/
theorem blk3 (c : Dev nD) (t : Fin cfg0.N) (r : Fin 4096) (l : Fin 128) (p : Fin 2048) (hp : p.val = 128 * (t.val / 8) + l.val) :
    (iblk m c 3 t : S4096x128.Idx → EReal) (ix2 r l) = (V m c main_v66 : S4096x2048.Idx → EReal) (ix2 (r) p) := by
  have hr := r.isLt
  have ht := point_lt t
  unfold iblk
  rw [View.read_apply]
  show V m c main_v66 _ = _
  refine congrArg (V m c main_v66) (funext fun b => Fin.ext ?_)
  match b with
  | ⟨0, _⟩ => show win0_3.index t 0 * 4096 + 1 * r.val = (r).val; rw [(index3 t).1]; omega
  | ⟨1, _⟩ => show win0_3.index t 1 * 128 + 1 * l.val = p.val; rw [(index3 t).2, hp]; omega

/-- An element of a point's block of the row constants. -/
theorem blk4 (c : Dev nD) (t : Fin cfg0.N) (r : Fin 4096) (l : Fin 128) (p : Fin 2048) (hp : p.val = 128 * (t.val / 8) + l.val) :
    (iblk m c 4 t : S4096x128.Idx → EReal) (ix2 r l) = (V m c main_v68 : S4096x2048.Idx → EReal) (ix2 (r) p) := by
  have hr := r.isLt
  have ht := point_lt t
  unfold iblk
  rw [View.read_apply]
  show V m c main_v68 _ = _
  refine congrArg (V m c main_v68) (funext fun b => Fin.ext ?_)
  match b with
  | ⟨0, _⟩ => show win0_4.index t 0 * 4096 + 1 * r.val = (r).val; rw [(index4 t).1]; omega
  | ⟨1, _⟩ => show win0_4.index t 1 * 128 + 1 * l.val = p.val; rw [(index4 t).2, hp]; omega

/-- An element of a point's block of the output gradient. -/
theorem blk5 (c : Dev nD) (t : Fin cfg0.N) (r : Fin 4096) (l : Fin 128) (p : Fin 2048) (hp : p.val = 128 * (t.val / 8) + l.val) :
    (iblk m c 5 t : S4096x128.Idx → EReal) (ix2 r l) = (V m c main_v70 : S4096x2048.Idx → EReal) (ix2 (r) p) := by
  have hr := r.isLt
  have ht := point_lt t
  unfold iblk
  rw [View.read_apply]
  show V m c main_v70 _ = _
  refine congrArg (V m c main_v70) (funext fun b => Fin.ext ?_)
  match b with
  | ⟨0, _⟩ => show win0_5.index t 0 * 4096 + 1 * r.val = (r).val; rw [(index5 t).1]; omega
  | ⟨1, _⟩ => show win0_5.index t 1 * 128 + 1 * l.val = p.val; rw [(index5 t).2, hp]; omega

/-- An element of a point's block of the cosines. -/
theorem blk6 (c : Dev nD) (t : Fin cfg0.N) (r : Fin 4096) (l : Fin 128) (p : Fin 128) (hp : p.val = l.val) :
    (iblk m c 6 t : S4096x128.Idx → EReal) (ix2 r l) = (V m c main_v53 : S4096x128.Idx → EReal) (ix2 (r) p) := by
  have hr := r.isLt
  have ht := point_lt t
  unfold iblk
  rw [View.read_apply]
  show V m c main_v53 _ = _
  refine congrArg (V m c main_v53) (funext fun b => Fin.ext ?_)
  match b with
  | ⟨0, _⟩ => show win0_6.index t 0 * 4096 + 1 * r.val = (r).val; rw [(index6 t).1]; omega
  | ⟨1, _⟩ => show win0_6.index t 1 * 128 + 1 * l.val = p.val; rw [(index6 t).2, hp]; omega

/-- An element of a point's block of the first sines. -/
theorem blk7 (c : Dev nD) (t : Fin cfg0.N) (r : Fin 4096) (l : Fin 128) (p : Fin 128) (hp : p.val = l.val) :
    (iblk m c 7 t : S4096x128.Idx → EReal) (ix2 r l) = (V m c main_v71 : S4096x128.Idx → EReal) (ix2 (r) p) := by
  have hr := r.isLt
  have ht := point_lt t
  unfold iblk
  rw [View.read_apply]
  show V m c main_v71 _ = _
  refine congrArg (V m c main_v71) (funext fun b => Fin.ext ?_)
  match b with
  | ⟨0, _⟩ => show win0_7.index t 0 * 4096 + 1 * r.val = (r).val; rw [(index7 t).1]; omega
  | ⟨1, _⟩ => show win0_7.index t 1 * 128 + 1 * l.val = p.val; rw [(index7 t).2, hp]; omega

/-- An element of a point's block of the second sines. -/
theorem blk8 (c : Dev nD) (t : Fin cfg0.N) (r : Fin 4096) (l : Fin 128) (p : Fin 128) (hp : p.val = l.val) :
    (iblk m c 8 t : S4096x128.Idx → EReal) (ix2 r l) = (V m c main_v72 : S4096x128.Idx → EReal) (ix2 (r) p) := by
  have hr := r.isLt
  have ht := point_lt t
  unfold iblk
  rw [View.read_apply]
  show V m c main_v72 _ = _
  refine congrArg (V m c main_v72) (funext fun b => Fin.ext ?_)
  match b with
  | ⟨0, _⟩ => show win0_8.index t 0 * 4096 + 1 * r.val = (r).val; rw [(index8 t).1]; omega
  | ⟨1, _⟩ => show win0_8.index t 1 * 128 + 1 * l.val = p.val; rw [(index8 t).2, hp]; omega

/-- Reading 128 lanes from lane `o` on. -/
theorem ld_lanes {n : ℕ} {e : EltTy} (X : (⟨2, ![n, 256]⟩ : Shape).Idx → Elt Ideal e) (o : ℕ) (ho : o ≤ 128)
    (inb : ∀ a, (![0, o] : Fin 2 → ℕ) a + (![n, 128] : Fin 2 → ℕ) a ≤ (⟨2, ![n, 256]⟩ : Shape).size a) (r : Fin n) (l : Fin 128) :
    View.ld (Val := Elt Ideal) (e' := e) X (Rect.unit (s := ⟨2, ![n, 256]⟩) ![0, o] ![n, 128] inb) (ix2 r l) = X (ix2 r ⟨o + l.val, by omega⟩) := by
  refine View.ld_unit_apply_of X _ _ inb (ix2 r l) (ix2 r ⟨o + l.val, by omega⟩) fun a => ?_
  match a with
  | ⟨0, _⟩ => show r.val = 0 + r.val; omega
  | ⟨1, _⟩ => rfl

/-! ## The points -/

section
variable (c : Dev nD) {X : Args} (G : Given (A0 m c) (A1 m c) (A2 m c) (A3 m c) (A4 m c) (A5 m c) X)
include G

/-- Each point reads its head's reals. -/
theorem reads (t : Fin cfg0.N) : Reads (X.head (hd t)) (grid0.coords t) (iblk m c 0 t) (iblk m c 1 t) (iblk m c 2 t) (iblk m c 3 t) (iblk m c 4 t) (iblk m c 5 t) where
  q r l := by
    have ht := point_lt t
    refine (blk0 m c t r l ⟨256 * (t.val / 8) + l.val, by omega⟩ rfl).trans ?_
    rw [V_v60]
    exact hQ_real G r (hd t) l _ rfl
  key := by
    intro r l
    have ht := point_lt t
    have hl := l.isLt
    rw [kb_val]
    unfold keyOf
    rw [pay18_apply]
    by_cases h : l.val < 128
    · rw [dif_pos h]
      refine (ld_lanes (n := 512) (e := .bf16) (iblk m c 1 t) 0 (by omega) inb_S512x256_S512x128_0_0 r ⟨l.val, h⟩).trans ?_
      refine (blk1 m c t r ⟨0 + l.val, by omega⟩ ⟨256 * (t.val / 8) + (0 + l.val), by omega⟩ rfl).trans ?_
      rw [V_v62, hKV_real G _ (hd t) ⟨l.val, by omega⟩ _ (by show 256 * (t.val / 8) + (0 + l.val) = 256 * (t.val / 8) + l.val; omega)]
      show _ = ((if h1 : l.val < 128 then X.kv (row (t.val % 8) r) (hd t) ⟨l.val, by omega⟩ else _ : ℝ) : EReal)
      rw [dif_pos h]
    · rw [dif_neg h]
      refine (blk2 m c t r ⟨l.val - 128, by omega⟩ ⟨l.val - 128, by omega⟩ rfl).trans ?_
      rw [V_v64, hKR_real G]
      show _ = ((if h1 : l.val < 128 then _ else if h2 : l.val - 128 < 64 then X.kr (row (t.val % 8) r) ⟨l.val - 128, h2⟩ else 0 : ℝ) : EReal)
      rw [dif_neg h]
  val := by
    intro r l
    have ht := point_lt t
    rw [kb_val]
    unfold valOf
    rw [pay19_apply]
    refine (ld_lanes (n := 512) (e := .bf16) (iblk m c 1 t) 128 le_rfl inb_S512x256_S512x128_0_128 r l).trans ?_
    refine (blk1 m c t r ⟨128 + l.val, by omega⟩ ⟨256 * (t.val / 8) + (128 + l.val), by omega⟩ rfl).trans ?_
    rw [V_v62, hKV_real G _ (hd t) ⟨128 + l.val, by omega⟩ _ rfl]
    rfl
  o r l := by
    have ht := point_lt t
    refine (blk3 m c t r l ⟨128 * (t.val / 8) + l.val, by omega⟩ rfl).trans ?_
    rw [V_v66]
    exact hO_real G r (hd t) l _ rfl
  s r l := by
    have ht := point_lt t
    refine (blk4 m c t r l ⟨128 * (t.val / 8) + l.val, by omega⟩ rfl).trans ?_
    rw [V_v68]
    exact hLse_real G r (hd t) _ (by show (128 * (t.val / 8) + l.val) / 128 = t.val / 8; omega)
  d r l := by
    have ht := point_lt t
    refine (blk5 m c t r l ⟨128 * (t.val / 8) + l.val, by omega⟩ rfl).trans ?_
    rw [V_v70]
    exact hD_real G r (hd t) l _ rfl

/-- The scratch a point finds holds what the head's earlier key blocks gave the query gradient. -/
theorem found (n : ℕ) : ∀ t : Fin cfg0.N, t.val = n → ∀ (r : Fin 4096) (l : Fin 256),
    (if t.val % 8 = 0 then k0_pay17 (F := Ideal) else scrAt m c t.val) (ix2 r l) = ((∑ k ∈ Finset.range (kb (grid0.coords t)), dQpart (X.head (hd t)) r l k : ℝ) : EReal) := by
  induction n with
  | zero =>
    intro t ht r l
    rw [kb_val, ht, if_pos (Nat.zero_mod _), pay17_apply, Nat.zero_mod, Finset.range_zero, Finset.sum_empty, EReal.coe_zero]
  | succ n ih =>
    intro t ht r l
    rw [kb_val]
    by_cases h : t.val % 8 = 0
    · rw [if_pos h, pay17_apply, h, Finset.range_zero, Finset.sum_empty, EReal.coe_zero]
    · rw [if_neg h]
      have hlt := t.isLt
      obtain ⟨u, hu⟩ : ∃ u : Fin cfg0.N, u.val = n := ⟨⟨n, by omega⟩, rfl⟩
      have e : t.val = u.val + 1 := by omega
      rw [e, scrAt_succ]
      have hf := ((reads m c G u).finish_real _ (ih u hu)).2.2 r l
      refine hf.trans ?_
      have e1 : kb (grid0.coords u) + 1 = (u.val + 1) % 8 := by rw [kb_val]; omega
      have e2 : hd u = hd t := Fin.ext (by show u.val / 8 = t.val / 8; omega)
      rw [e1, e2]

/-- What a point leaves. -/
theorem left (t : Fin cfg0.N) :
    (∀ k l, (finAt m c t).1.1 (ix2 k l) = ((∑ r, X.dS (hd t) r (row (t.val % 8) k) * (X.head (hd t)).Q r l : ℝ) : EReal))
    ∧ (∀ k l, (finAt m c t).1.2 (ix2 k l) = ((∑ r, X.P (hd t) r (row (t.val % 8) k) * X.d r (hd t) l : ℝ) : EReal))
    ∧ (t.val % 8 = 7 → ∀ (r : Fin 4096) (l : Fin 256), (finAt m c t).2 (ix2 r l) = ((∑ j, X.dS (hd t) r j * (X.head (hd t)).K j l : ℝ) : EReal)) := by
  obtain ⟨h1, h2, h3⟩ := (reads m c G t).finish_real _ (found m c G t.val t rfl)
  simp only [X.head_gm, X.head_pm, kb_val] at h1 h2
  refine ⟨h1, h2, fun h r l => ?_⟩
  refine (h3 r l).trans ?_
  rw [kb_val, h]
  simp only [dQpart, X.head_gm]
  rw [sum_blocks]

end

/-! ## The results, as the arrays the kernel leaves -/

/-- The key and value gradient, head by head side by side. -/
def finKV (X : Args) : S4096x4096.Idx → EReal := fun y => (X.dKV (y 0) ⟨(y 1).val / 256, by have : (y 1).val < 4096 := (y 1).isLt; omega⟩ ⟨(y 1).val % 256, by omega⟩ : EReal)
/-- The rotated keys' gradient, head by head side by side. -/
def finKR (X : Args) : S4096x2048.Idx → EReal := fun y => (X.dKR (y 0) ⟨(y 1).val / 128, by have : (y 1).val < 2048 := (y 1).isLt; omega⟩ ⟨(y 1).val % 128, by omega⟩ : EReal)
/-- The query gradient, head by head side by side. -/
def finQ (X : Args) : S4096x4096.Idx → EReal := fun y => (X.dQ (y 0) ⟨(y 1).val / 256, by have : (y 1).val < 4096 := (y 1).isLt; omega⟩ ⟨(y 1).val % 256, by omega⟩ : EReal)

section
variable (c : Dev nD) {X : Args} (G : Given (A0 m c) (A1 m c) (A2 m c) (A3 m c) (A4 m c) (A5 m c) X)
include G

/-- The blocks of the key and value gradients. -/
theorem outKV_real (t : Fin cfg0.N) (k : Fin 512) (l : Fin 256) :
    outKV (finAt m c t).1 (ix2 k l) = (X.dKV (row (t.val % 8) k) (hd t) l : EReal) := by
  obtain ⟨h1, h2, -⟩ := left m c G t
  have hl := l.isLt
  show (if h : l.val < 128 then k0_pay33 (finAt m c t).1.1 (ix2 k ⟨l.val, h⟩) else k0_pay34 (finAt m c t).1.2 (ix2 k ⟨l.val - 128, by omega⟩)) = _
  unfold Args.dKV
  by_cases h : l.val < 128
  · rw [dif_pos h, dif_pos h, pay33_apply, h1]
    refine congrArg _ (Finset.sum_congr rfl fun i _ => congrArg _ ?_)
    show (if h1 : l.val < 128 then X.q i (hd t) ⟨l.val, by omega⟩ else _) = _
    rw [dif_pos h]
  · rw [dif_neg h, dif_neg h, pay34_apply, h2]

/-- The blocks of the rotated key gradients. -/
theorem outKR_real (t : Fin cfg0.N) (k : Fin 512) (l : Fin 128) :
    k0_pay35 (F := Ideal) (finAt m c t).1.1 (ix2 k l) = (X.dKR (row (t.val % 8) k) (hd t) l : EReal) := by
  obtain ⟨h1, -, -⟩ := left m c G t
  have hl := l.isLt
  rw [pay35_apply, h1]
  unfold Args.dKR
  have e (i : Fin 4096) : (X.head (hd t)).Q i ⟨128 + l.val, by omega⟩ = if h : l.val < 64 then X.rot i (hd t) ⟨l.val, h⟩ else 0 := by
    show (if h1 : 128 + l.val < 128 then _ else if h2 : 128 + l.val - 128 < 64 then X.rot i (hd t) ⟨128 + l.val - 128, h2⟩ else 0) = _
    have e : 128 + l.val - 128 = l.val := by omega
    rw [dif_neg (by omega)]
    simp only [e]
  simp only [e]
  by_cases h : l.val < 64
  · simp only [dif_pos h]
  · simp only [dif_neg h, mul_zero, Finset.sum_const_zero]

/-- The query gradient's rotated lanes before they are turned back. -/
theorem rot_real (t : Fin cfg0.N) (ht : t.val % 8 = 7) (r : Fin 4096) (l : Fin 128) :
    View.ld (Val := Elt Ideal) (e' := .f32) (finAt m c t).2 (Rect.unit (s := S4096x256) ![0, 128] S4096x128.size inb_S4096x256_S4096x128_0_128) (ix2 r l)
      = ((if h : l.val < 64 then X.dR r (hd t) ⟨l.val, h⟩ else 0 : ℝ) : EReal) := by
  obtain ⟨-, -, h3⟩ := left m c G t
  refine (ld_lanes (n := 4096) (e := .f32) (finAt m c t).2 128 le_rfl inb_S4096x256_S4096x128_0_128 r l).trans ?_
  rw [h3 ht]
  have e (j : Fin 4096) : (X.head (hd t)).K j ⟨128 + l.val, by omega⟩ = if h : l.val < 64 then X.kr j ⟨l.val, h⟩ else 0 := by
    show (if h1 : 128 + l.val < 128 then _ else if h2 : 128 + l.val - 128 < 64 then X.kr j ⟨128 + l.val - 128, h2⟩ else 0) = _
    have e : 128 + l.val - 128 = l.val := by omega
    rw [dif_neg (by omega)]
    simp only [e]
  simp only [e]
  by_cases h : l.val < 64
  · simp only [dif_pos h]; rfl
  · simp only [dif_neg h, mul_zero, Finset.sum_const_zero]

/-- The blocks of the query gradients. -/
theorem outQ_real (t : Fin cfg0.N) (ht : t.val % 8 = 7) (r : Fin 4096) (l : Fin 256) :
    outQ (F := Ideal) (finAt m c t).2 (iblk m c 6 t) (iblk m c 7 t) (iblk m c 8 t) (ix2 r l) = (X.dQ r (hd t) l : EReal) := by
  obtain ⟨-, -, h3⟩ := left m c G t
  have hl := l.isLt
  show (if h : l.val < 128 then k0_pay1 (F := Ideal) (View.ld (finAt m c t).2 (Rect.unit (s := S4096x256) ![0, 0] S4096x128.size inb_S4096x256_S4096x128_0_0)) (ix2 r ⟨l.val, h⟩)
    else k0_pay2 (F := Ideal) (View.ld (finAt m c t).2 (Rect.unit (s := S4096x256) ![0, 128] S4096x128.size inb_S4096x256_S4096x128_0_128)) (iblk m c 6 t) (iblk m c 7 t) (iblk m c 8 t) (ix2 r ⟨l.val - 128, by omega⟩)) = _
  unfold Args.dQ
  by_cases h : l.val < 128
  · rw [dif_pos h, dif_pos h, pay1_apply]
    refine (ld_lanes (n := 4096) (e := .f32) (finAt m c t).2 0 (by omega) inb_S4096x256_S4096x128_0_0 r ⟨l.val, h⟩).trans ?_
    rw [h3 ht]
    refine congrArg _ (Finset.sum_congr rfl fun j _ => congrArg _ ?_)
    show (if h1 : 0 + l.val < 128 then X.kv j (hd t) ⟨0 + l.val, by omega⟩ else _) = _
    have e : 0 + l.val = l.val := by omega
    rw [dif_pos (by omega)]
    simp only [e]
  · rw [dif_neg h, dif_neg h, pay2_apply]
    have b6 := (blk6 m c t r ⟨l.val - 128, by omega⟩ ⟨l.val - 128, by omega⟩ rfl).trans ((congrFun (V_v53 m c) _).trans (hC_real G r ⟨l.val - 128, by omega⟩))
    have b7 := (blk7 m c t r ⟨l.val - 128, by omega⟩ ⟨l.val - 128, by omega⟩ rfl).trans ((congrFun (V_v71 m c) _).trans (hA_real G r ⟨l.val - 128, by omega⟩))
    have b8 := (blk8 m c t r ⟨l.val - 128, by omega⟩ ⟨l.val - 128, by omega⟩ rfl).trans ((congrFun (V_v72 m c) _).trans (hB_real G r ⟨l.val - 128, by omega⟩))
    refine (congrArg₂ (· + ·) (congrArg₂ (· + ·) (congrArg₂ (· * ·) (rot_real m c G t ht r _) b6) (congrArg₂ (· * ·) (rot_real m c G t ht r _) b7)) (congrArg₂ (· * ·) (rot_real m c G t ht r _) b8)).trans ?_
    rw [← EReal.coe_mul, ← EReal.coe_mul, ← EReal.coe_mul, ← EReal.coe_add, ← EReal.coe_add]
    refine congrArg _ ?_
    dsimp only
    by_cases h1 : l.val - 128 < 32
    · have e1 : (l.val - 128 + 128 - 96) % 128 = l.val - 128 + 32 := by omega
      simp only [e1]
      rw [dif_pos h1, dif_pos h1, dif_pos h1, dif_pos h1, dif_pos (by omega), dif_pos (by omega), mul_zero, add_zero]
    · rw [dif_neg h1, dif_neg h1, dif_neg h1, dif_neg h1]
      by_cases h2 : l.val - 128 < 64
      · have e1 : (l.val - 128 + 128 - 32) % 128 = l.val - 128 - 32 := by omega
        simp only [e1]
        have h3 : l.val - 128 - 32 < 32 := by omega
        have h4 : l.val - 128 - 32 < 64 := by omega
        simp only [dif_pos h2, dif_pos h3, dif_pos h4, mul_zero, add_zero]
        ring
      · have h3 : ¬ l.val - 128 - 32 < 32 := by omega
        simp only [dif_neg h2, dif_neg h3, mul_zero, add_zero]

/-- What a point writes back of the key and value gradient is its block of the result. -/
theorem flushed9 (t : Fin cfg0.N) (hf : (cfg0.win 9).flush t = true) :
    (dats m 0 c).flushed 9 t = ((cfg0.win 9).blk t).view.read (Elt Ideal) (finKV X) := by
  have ht := point_lt t
  show (cfg0.win 9).cut (grid0.coords t) ((dats m 0 c).after 9 t) = _
  rw [after9]
  funext j
  rw [View.read_apply]
  have h0 : (j 0).val < 512 := (j 0).isLt
  have hl : (j 1).val < 256 := (j 1).isLt
  refine Eq.trans (b := outKV (finAt m c t).1 (ix2 (j 0) (j 1))) (congrArg (outKV (finAt m c t).1) (Shape.idx_ext₂ rfl rfl)) ?_
  refine (outKV_real m c G t (j 0) (j 1)).trans ?_
  have e0 : (row (t.val % 8) (⟨(j 0).val, h0⟩ : Fin 512)).val = win0_9.index t 0 * 512 + 1 * (j 0).val := by
    refine (row_val (by omega) _).trans ?_
    rw [(index9 t).1]
    show 512 * (t.val % 8) + (j 0).val = t.val % 8 * 512 + 1 * (j 0).val
    omega
  have e1 : win0_9.index t 1 * 256 + 1 * (j 1).val = 256 * (t.val / 8) + (j 1).val := by rw [(index9 t).2]; omega
  refine congrArg (fun x : ℝ => (x : EReal)) ?_
  refine congr (congr (congrArg X.dKV (Fin.ext e0)) (Fin.ext ?_)) (Fin.ext ?_)
  · show t.val / 8 = (win0_9.index t 1 * 256 + 1 * (j 1).val) / 256; rw [e1]; omega
  · show (j 1).val = (win0_9.index t 1 * 256 + 1 * (j 1).val) % 256; rw [e1]; omega

/-- What a point writes back of the rotated key gradient is its block of the result. -/
theorem flushed10 (t : Fin cfg0.N) (hf : (cfg0.win 10).flush t = true) :
    (dats m 0 c).flushed 10 t = ((cfg0.win 10).blk t).view.read (Elt Ideal) (finKR X) := by
  have ht := point_lt t
  show (cfg0.win 10).cut (grid0.coords t) ((dats m 0 c).after 10 t) = _
  rw [after10]
  funext j
  rw [View.read_apply]
  have h0 : (j 0).val < 512 := (j 0).isLt
  have hl : (j 1).val < 128 := (j 1).isLt
  refine Eq.trans (b := k0_pay35 (F := Ideal) (finAt m c t).1.1 (ix2 (j 0) (j 1))) (congrArg (k0_pay35 (F := Ideal) (finAt m c t).1.1) (Shape.idx_ext₂ rfl rfl)) ?_
  refine (outKR_real m c G t (j 0) (j 1)).trans ?_
  have e0 : (row (t.val % 8) (⟨(j 0).val, h0⟩ : Fin 512)).val = win0_10.index t 0 * 512 + 1 * (j 0).val := by
    refine (row_val (by omega) _).trans ?_
    rw [(index10 t).1]
    show 512 * (t.val % 8) + (j 0).val = t.val % 8 * 512 + 1 * (j 0).val
    omega
  have e1 : win0_10.index t 1 * 128 + 1 * (j 1).val = 128 * (t.val / 8) + (j 1).val := by rw [(index10 t).2]; omega
  refine congrArg (fun x : ℝ => (x : EReal)) ?_
  refine congr (congr (congrArg X.dKR (Fin.ext e0)) (Fin.ext ?_)) (Fin.ext ?_)
  · show t.val / 8 = (win0_10.index t 1 * 128 + 1 * (j 1).val) / 128; rw [e1]; omega
  · show (j 1).val = (win0_10.index t 1 * 128 + 1 * (j 1).val) % 128; rw [e1]; omega

/-- What a point writes back of the query gradient is its block of the result. -/
theorem flushed11 (t : Fin cfg0.N) (hf : (cfg0.win 11).flush t = true) :
    (dats m 0 c).flushed 11 t = ((cfg0.win 11).blk t).view.read (Elt Ideal) (finQ X) := by
  have ht := point_lt t
  show (cfg0.win 11).cut (grid0.coords t) ((dats m 0 c).after 11 t) = _
  rw [after11]
  funext j
  rw [View.read_apply]
  have h0 : (j 0).val < 4096 := (j 0).isLt
  have hl : (j 1).val < 256 := (j 1).isLt
  refine Eq.trans (b := outQ (F := Ideal) (finAt m c t).2 (iblk m c 6 t) (iblk m c 7 t) (iblk m c 8 t) (ix2 (j 0) (j 1))) (congrArg (outQ (F := Ideal) (finAt m c t).2 (iblk m c 6 t) (iblk m c 7 t) (iblk m c 8 t)) (Shape.idx_ext₂ rfl rfl)) ?_
  refine (outQ_real m c G t ((flush0_11 t).mp hf) (j 0) (j 1)).trans ?_
  have e0 : (j 0).val = win0_11.index t 0 * 4096 + 1 * (j 0).val := by rw [(index11 t).1]; omega
  have e1 : win0_11.index t 1 * 256 + 1 * (j 1).val = 256 * (t.val / 8) + (j 1).val := by rw [(index11 t).2]; omega
  refine congrArg (fun x : ℝ => (x : EReal)) ?_
  refine congr (congr (congrArg X.dQ (Fin.ext e0)) (Fin.ext ?_)) (Fin.ext ?_)
  · show t.val / 8 = (win0_11.index t 1 * 256 + 1 * (j 1).val) / 256; rw [e1]; omega
  · show (j 1).val = (win0_11.index t 1 * 256 + 1 * (j 1).val) % 256; rw [e1]; omega

/-- The blocks written cover the key and value gradients. -/
theorem final9 : (dats m 0 c).arrAt 9 cfg0.N = finKV X :=
  (dats m 0 c).arrAt_eq_of_cover 9 (finKV X) (flushed9 m c G) fun (i : S4096x4096.Idx) => by
    have h0 : (i 0 : Nat) < 4096 := (i 0).isLt
    have h1 : (i 1 : Nat) < 4096 := (i 1).isLt
    have hN : cfg0.N = 128 := N_0
    obtain ⟨t, ht⟩ : ∃ t : Fin cfg0.N, t.val = 8 * ((i 1 : Nat) / 256) + (i 0 : Nat) / 512 := ⟨⟨8 * ((i 1 : Nat) / 256) + (i 0 : Nat) / 512, by rw [hN]; omega⟩, rfl⟩
    refine ⟨t, flush0_9 t, ?_⟩
    show i ∈ ((View.whole main_v73_0).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(index9 t).1]; omega
    | ⟨1, _⟩ =>
      show win0_9.index t 1 * 256 ≤ (i 1 : Nat) ∧ (i 1 : Nat) < win0_9.index t 1 * 256 + 256
      rw [(index9 t).2]; omega

/-- The blocks written cover the rotated key gradients. -/
theorem final10 : (dats m 0 c).arrAt 10 cfg0.N = finKR X :=
  (dats m 0 c).arrAt_eq_of_cover 10 (finKR X) (flushed10 m c G) fun (i : S4096x2048.Idx) => by
    have h0 : (i 0 : Nat) < 4096 := (i 0).isLt
    have h1 : (i 1 : Nat) < 2048 := (i 1).isLt
    have hN : cfg0.N = 128 := N_0
    obtain ⟨t, ht⟩ : ∃ t : Fin cfg0.N, t.val = 8 * ((i 1 : Nat) / 128) + (i 0 : Nat) / 512 := ⟨⟨8 * ((i 1 : Nat) / 128) + (i 0 : Nat) / 512, by rw [hN]; omega⟩, rfl⟩
    refine ⟨t, flush0_10 t, ?_⟩
    show i ∈ ((View.whole main_v73_1).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [(index10 t).1]; omega
    | ⟨1, _⟩ =>
      show win0_10.index t 1 * 128 ≤ (i 1 : Nat) ∧ (i 1 : Nat) < win0_10.index t 1 * 128 + 128
      rw [(index10 t).2]; omega

/-- The blocks written cover the query gradients. -/
theorem final11 : (dats m 0 c).arrAt 11 cfg0.N = finQ X :=
  (dats m 0 c).arrAt_eq_of_cover 11 (finQ X) (flushed11 m c G) fun (i : S4096x4096.Idx) => by
    have h0 : (i 0 : Nat) < 4096 := (i 0).isLt
    have h1 : (i 1 : Nat) < 4096 := (i 1).isLt
    have hN : cfg0.N = 128 := N_0
    obtain ⟨t, ht⟩ : ∃ t : Fin cfg0.N, t.val = 8 * ((i 1 : Nat) / 256) + 7 := ⟨⟨8 * ((i 1 : Nat) / 256) + 7, by rw [hN]; omega⟩, rfl⟩
    refine ⟨t, (flush0_11 t).mpr (by omega), ?_⟩
    show i ∈ ((View.whole main_v73_2).slice (win0_11.rect t)).set
    rw [View.set_slice_whole, Rect.mem_set_unit]
    intro a
    match a with
    | ⟨0, _⟩ =>
      show win0_11.index t 0 * 4096 ≤ (i 0 : Nat) ∧ (i 0 : Nat) < win0_11.index t 0 * 4096 + 4096
      rw [(index11 t).1]; omega
    | ⟨1, _⟩ =>
      show win0_11.index t 1 * 256 ≤ (i 1 : Nat) ∧ (i 1 : Nat) < win0_11.index t 1 * 256 + 256
      rw [(index11 t).2]; omega

end

/-- The kernel's run from real arguments: its results are the gradients of causal attention, its arguments unchanged. -/
theorem kernel_run (X : Dev nD → Args) (G : ∀ c, Given (A0 m c) (A1 m c) (A2 m c) (A3 m c) (A4 m c) (A5 m c) (X c)) :
    θ_run defs (onTc (τ := τ) (main (F := Ideal))) ⟨m, fun _ => 0, ρ⟩ fun r => ∀ c : Dev nD,
      r.2.mem ((c.tc : Thread nD τ).loc main_v73_0) = finKV (X c)
      ∧ r.2.mem ((c.tc : Thread nD τ).loc main_v73_1) = finKR (X c)
      ∧ r.2.mem ((c.tc : Thread nD τ).loc main_v73_2) = finQ (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 9).trans (final9 m c (G c)), ((h.1 c).1 10).trans (final10 m c (G c)), ((h.1 c).1 11).trans (final11 m c (G c)), h.2 c⟩)
    (θ_run_and (run_main m ρ) (unchanged m ρ))

end Cert.Attn

end
-- ==== Proof.AttnEqual.lean ====
/-
  The attention backward's kernel and its reference end with equal results when every argument is real.
-/
module

public import proofs.«01_k».proof.Proof.AttnFinite
public import proofs.«01_k».proof.Proof.AttnRefRun
public import proofs.«01_k».proof.Proof.AttnValue

@[expose] public section

set_option maxRecDepth 16384

noncomputable section

namespace Cert.Attn

open Idealize.ShloMosaic Idealize.ShloMosaic.TcCoe Idealize.SL.Sem

section
variable {q : FVec Ideal Cert.Kernel2Ideal.S4096x16x192 .f32} {kv : FVec Ideal Cert.Kernel2Ideal.S4096x16x256 .f32}
  {kr : FVec Ideal Cert.Kernel2Ideal.S4096x64 .f32} {d : FVec Ideal Cert.Kernel2Ideal.S4096x16x128 .f32}
  {co si : FVec Ideal Cert.Kernel2Ideal.S4096x32 .f32} {X : Args} (G : Given q kv kr d co si X)
include G

/-- The reference's first result, as an array of reals. -/
theorem refKV : rKV q d (rP (hMask (hScore q kv kr co si))) (rDS kv d (hMask (hScore q kv kr co si))) = finKV X :=
  funext fun y => by
    obtain ⟨r, l, rfl⟩ : ∃ r l, y = ix2 r l := ⟨y 0, y 1, Shape.idx_ext₂ rfl rfl⟩
    exact rKV_real G r l

/-- The reference's second result, as an array of reals. -/
theorem refKR : rKR q co si (rDS kv d (hMask (hScore q kv kr co si))) = finKR X :=
  funext fun y => by
    obtain ⟨r, l, rfl⟩ : ∃ r l, y = ix2 r l := ⟨y 0, y 1, Shape.idx_ext₂ rfl rfl⟩
    exact rKR_real G r l

/-- The reference's third result, as an array of reals. -/
theorem refQ : rQ kv kr co si (rDS kv d (hMask (hScore q kv kr co si))) = finQ X :=
  funext fun y => by
    obtain ⟨r, l, rfl⟩ : ∃ r l, y = ix2 r l := ⟨y 0, y 1, Shape.idx_ext₂ rfl rfl⟩
    exact rQ_real G r l

end

/-- Kernel and reference end with equal results. -/
theorem equal_results2 : Cert.algebraic_Kernel2Ideal_Reference2Ideal_pre_finite := fun m g m' g' hp ha => by
  have G : ∀ c, Given (A0 m c) (A1 m c) (A2 m c) (A3 m c) (A4 m c) (A5 m c) (realsOf (A0 m c) (A1 m c) (A2 m c) (A3 m c) (A4 m c) (A5 m c)) :=
    fun c => given_of _ _ _ _ _ _ (hp c).1 (hp c).2.1 (hp c).2.2.1 (hp c).2.2.2.1 (hp c).2.2.2.2.1 (hp c).2.2.2.2.2
  refine ⟨_, _, _, kernel_run m g _ G, (θ_run Cert.Reference2Ideal.defs _ _).mono (fun _ h c => ?_) (ref_lines m' g')⟩
  have e0 : B0 m' c = A0 m c := (ha c).1
  have e1 : B1 m' c = A1 m c := (ha c).2.1
  have e2 : B2 m' c = A2 m c := (ha c).2.2.1
  have e3 : B3 m' c = A3 m c := (ha c).2.2.2.1
  have e4 : B4 m' c = A4 m c := (ha c).2.2.2.2.1
  have e5 : B5 m' c = A5 m c := (ha c).2.2.2.2.2
  have h1 := (h c).1
  have h2 := (h c).2.1
  have h3 := (h c).2.2.1
  unfold refScores at h1 h2 h3
  rw [e0, e1, e2, e3, e4, e5] at h1
  rw [e0, e1, e2, e3, e4, e5] at h2
  rw [e0, e1, e2, e3, e4, e5] at h3
  exact ⟨h1.trans (refKV (G c)), h2.trans (refKR (G c)), h3.trans (refQ (G c)), (h c).2.2.2⟩

end Cert.Attn

end
-- ==== Proof.Products.lean ====
/-
  What the proofs about the matrix products share: a block that begins at its buffer's origin, the equality of
  two indices, and a sum over columns taken a group at a time.
-/
module

public import Idealize.ShloMosaic.PureOps.Ideal
public import Idealize.ShloMosaic.Lib.Pipeline.Value

@[expose] public section

noncomputable section

namespace Cert.Products

/-- Both coordinates of a whole block begin at zero. -/
theorem zero2 : (![0, 0] : Fin 2 → Nat) = fun _ => 0 := by
  funext a
  match a with
  | ⟨0, _⟩ => rfl
  | ⟨1, _⟩ => rfl

/-- All three coordinates of a whole block begin at zero. -/
theorem zero3 : (![0, 0, 0] : Fin 3 → Nat) = fun _ => 0 := by
  funext a
  match a with
  | ⟨0, _⟩ => rfl
  | ⟨1, _⟩ => rfl
  | ⟨2, _⟩ => rfl

/-- Two indices into three axes agree when their coordinates do. -/
theorem ext3 {n : Fin 3 → ℕ} {x y : (a : Fin 3) → Fin (n a)} (h0 : (x 0 : ℕ) = y 0) (h1 : (x 1 : ℕ) = y 1) (h2 : (x 2 : ℕ) = y 2) : x = y :=
  funext fun a => Fin.ext (match a with
    | ⟨0, _⟩ => h0
    | ⟨1, _⟩ => h1
    | ⟨2, _⟩ => h2)

/-- The number of a column: its group, one of `d`, and its place there, one of `n`. -/
def col {d n : Nat} (i : Fin d) (k : Fin n) : Fin (d * n) := ⟨n * i.val + k.val, (finProdFinEquiv (i, k)).isLt.trans_eq' (Nat.add_comm _ _)⟩

/-- A sum over all columns, a group at a time. -/
theorem sum_groups {d n : Nat} (f : Fin (d * n) → EReal) : ∑ i, f i = ∑ i : Fin d, ∑ k : Fin n, f (col i k) := by
  rw [← Finset.sum_product' (s := Finset.univ) (t := Finset.univ) (f := fun (i : Fin d) (k : Fin n) => f (col i k)), Finset.univ_product_univ]
  refine (Fintype.sum_equiv finProdFinEquiv (fun x => f (col x.1 x.2)) f fun x => congrArg f (Fin.ext ?_)).symm
  exact Nat.add_comm _ _

end Cert.Products

end
-- ==== Proof.MlpDact.lean ====
/-
  The gradient of the hidden layer before its positive part: over the extended reals the kernel's array is twice the
  positive part times the activation's gradient, element for element as the reference has it.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlpDact

open Idealize.ShloMosaic Idealize.ShloMosaic.TcCoe Idealize.SL.Sem

/-! ## The reference -/

section Ref
open Cert.Reference3Ideal Cert.Reference3Ideal.Gen

/-- The reference's result, of its arguments. -/
def refOut (u : FVec Ideal S4096x8192 .f32) (w : FVec Ideal S8192x2048 .f32) (g : FVec Ideal S4096x2048 .f32) : FVec Ideal S4096x8192 .bf16 :=
  truncf .bf16 (select (cmpf .ogt u (broadcastInDim S4096x8192 ![] bcast_S_S4096x8192 (constant S_ .f32 0x00000000#32))) (addf (mulf (maximumf u (broadcastInDim S4096x8192 ![] bcast_S_S4096x8192 (constant S_ .f32 0x00000000#32))) (Host.dotGeneral dot_S4096x2048_S8192x2048_S4096x8192_1_1_0_0_n_n none g w)) (mulf (Host.dotGeneral dot_S4096x2048_S8192x2048_S4096x8192_1_1_0_0_n_n none g w) (maximumf u (broadcastInDim S4096x8192 ![] bcast_S_S4096x8192 (constant S_ .f32 0x00000000#32))))) (broadcastInDim S4096x8192 ![] bcast_S_S4096x8192 (constant S_ .f32 0x00000000#32))) bitsLt_bf16_f32

/-- An element of the reference's result. -/
theorem refOut_apply (u : FVec Ideal S4096x8192 .f32) (w : FVec Ideal S8192x2048 .f32) (g : FVec Ideal S4096x2048 .f32) (p : Fin 4096) (q : Fin 8192) :
    refOut u w g (ix2 p q) = if 0 < u (ix2 p q) then max (u (ix2 p q)) 0 * (∑ k : Fin 2048, g (ix2 p k) * w (ix2 q k))
      + (∑ k : Fin 2048, g (ix2 p k) * w (ix2 q k)) * max (u (ix2 p q)) 0 else 0 := by
  pointwise [refOut]

/-- Twice the positive part times a number, as a choice by sign. -/
theorem twice (s u : EReal) : s * (2 * max u 0) = if 0 < u then max u 0 * s + s * max u 0 else 0 := by
  by_cases h : 0 < u
  · rw [if_pos h, mul_comm (max u 0) s, mul_left_comm, ← one_add_one_eq_two, EReal.right_distrib_of_nonneg zero_le_one zero_le_one, one_mul]
  · rw [if_neg h, max_eq_right (not_lt.mp h), mul_zero, mul_zero]

/-- The reference's run: straight-line host code, which declares no counter. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

end Ref

open Cert.Kernel3Ideal Cert.Kernel3Ideal.Gen
open Idealize.ShloMosaic.Pipeline (Dat Window)

/-- The kernel as compiled. -/
theorem frame_kernel : Cert.quiescent_Kernel3 := fun m ρ _ => Cert.Kernel3.Gen.frame m ρ

/-- The idealized kernel. -/
theorem frame_ideal : Cert.quiescent_Kernel3Ideal := fun m ρ _ => Cert.Kernel3Ideal.Gen.frame m ρ

variable (m : (ℓ : Loc nD τ sig) → Buf (Elt Ideal) ℓ) (ρ : Dev nD → PrngReg)

/-! ## The blocks, an element at a time -/

/-- There are 32 points. -/
theorem point_lt (t : Fin cfg0.N) : t.val < 32 := lt_of_lt_of_eq t.isLt N_0

/-- The hidden layer before its positive part. -/
abbrev uArg (c : Dev nD) : S4096x8192.Idx → EReal := m ((c.tc : Thread nD τ).loc main_arg0)

/-- The weight. -/
abbrev wArg (c : Dev nD) : S8192x2048.Idx → EReal := m ((c.tc : Thread nD τ).loc main_arg1)

/-- The result's gradient. -/
abbrev gArg (c : Dev nD) : S4096x2048.Idx → EReal := m ((c.tc : Thread nD τ).loc main_arg2)

/-- One of the arrays the call reads: an argument. -/
theorem found0 (c : Dev nD) : (V m c main_v0 : S4096x2048.Idx → EReal) = gArg m c := by
  unfold V
  simp only [hostOps0, List.flatten_cons, List.flatten_nil, List.append_nil, List.cons_append, List.nil_append]
  after_results
  rfl

/-- One of the arrays the call reads: an argument. -/
theorem found1 (c : Dev nD) : (V m c main_v1 : S8192x2048.Idx → EReal) = wArg m c := by
  unfold V
  simp only [hostOps0, List.flatten_cons, List.flatten_nil, List.append_nil, List.cons_append, List.nil_append]
  after_results
  rfl

/-- One of the arrays the call reads: an argument. -/
theorem found2 (c : Dev nD) : (V m c main_arg0 : S4096x8192.Idx → EReal) = uArg m c := by
  unfold V
  simp only [hostOps0, List.flatten_cons, List.flatten_nil, List.append_nil, List.cons_append, List.nil_append]
  after_results

/-- Where a window's block begins, in blocks, at every point. -/
theorem index0 : ∀ t : Fin cfg0.N, win0_0.index t 0 = t.val / 8 ∧ win0_0.index t 1 = 0 :=
  (by decide +kernel : ∀ t : Fin grid0.N, win0_0.index t 0 = t.val / 8 ∧ win0_0.index t 1 = 0)

/-- Where a window's block begins, in blocks, at every point. -/
theorem index1 : ∀ t : Fin cfg0.N, win0_1.index t 0 = t.val % 8 ∧ win0_1.index t 1 = 0 :=
  (by decide +kernel : ∀ t : Fin grid0.N, win0_1.index t 0 = t.val % 8 ∧ win0_1.index t 1 = 0)

/-- Where a window's block begins, in blocks, at every point. -/
theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- Where a window's block begins, in blocks, at every point. -/
theorem index3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

/-- An element of a point's block of window 0. -/
theorem iblk0_apply (c : Dev nD) (t : Fin cfg0.N) (r : Fin 1024) (k : Fin 2048) (p : Fin 4096) (hp : p.val = 1024 * (t.val / 8) + r.val) :
    (iblk m c 0 t : S1024x2048.Idx → EReal) (ix2 r k) = gArg m c (ix2 p k) := by
  rw [← found0]
  blk_simp [iblk]
  exact congrArg (V m c main_v0) (by blk_ext [index0])

/-- An element of a point's block of window 1. -/
theorem iblk1_apply (c : Dev nD) (t : Fin cfg0.N) (l : Fin 1024) (k : Fin 2048) (q : Fin 8192) (hq : q.val = 1024 * (t.val % 8) + l.val) :
    (iblk m c 1 t : S1024x2048.Idx → EReal) (ix2 l k) = wArg m c (ix2 q k) := by
  rw [← found1]
  blk_simp [iblk]
  exact congrArg (V m c main_v1) (by blk_ext [index1])

/-- An element of a point's block of window 2. -/
theorem iblk2_apply (c : Dev nD) (t : Fin cfg0.N) (r l : Fin 1024) (p : Fin 4096) (q : Fin 8192) (hp : p.val = 1024 * (t.val / 8) + r.val) (hq : q.val = 1024 * (t.val % 8) + l.val) :
    (iblk m c 2 t : S1024x1024.Idx → EReal) (ix2 r l) = uArg m c (ix2 p q) := by
  rw [← found2]
  blk_simp [iblk]
  exact congrArg (V m c main_arg0) (by blk_ext [index2])

/-- The word of the constant two. -/
theorem word_two : Ideal.ofBits .f32 1073741824#32 = (2 : EReal) := by
  simp [Ideal.ofBits, Ideal.ieee, -EReal.coe_mul]
  norm_num
  rfl

/-- An element of the block a point computes. -/
theorem out_apply (x : Vec Ideal S1024x2048 .bf16) (w : Vec Ideal S1024x2048 .bf16) (u : Vec Ideal S1024x1024 .f32) (r l : Fin 1024) :
    out0_3 (F := Ideal) x w u (ix2 r l) = (∑ k : Fin 2048, x (ix2 r k) * w (ix2 l k)) * (2 * max (u (ix2 r l)) 0) := by
  unfold out0_3
  rw [View.canon_unit_zero Products.zero2, View.ld_unit_zero Products.zero2, View.ld_unit_zero Products.zero2, View.ld_unit_zero Products.zero2]
  pointwise [k0_pay1]
  rw [word_two]

/-! ## The result array -/

/-- The blocks cover the result, and each is its block of the reference's result. -/
theorem final (c : Dev nD) : (dats m 0 c).arrAt 3 cfg0.N = (refOut (uArg m c) (wArg m c) (gArg m c) : S4096x8192.Idx → EReal) := by
  refine (dats m 0 c).arrAt_eq_of_covers 3 _ (by decide +kernel) fun t hf j => ?_
  have ht := point_lt t
  blk_simp
  rw [after0_3]
  have h0 : (j 0).val < 1024 := (j 0).isLt
  have h1 : (j 1).val < 1024 := (j 1).isLt
  refine (congrArg (out0_3 (iblk m c 0 t) (iblk m c 1 t) (iblk m c 2 t)) (show j = ix2 (j 0) (j 1) from Shape.idx_ext₂ rfl rfl)).trans ((out_apply _ _ _ _ _).trans ?_)
  refine Eq.trans ?_ (congrArg (refOut (uArg m c) (wArg m c) (gArg m c)) (show _ = ix2 (⟨1024 * (t.val / 8) + (j 0).val, by omega⟩ : Fin 4096) (⟨1024 * (t.val % 8) + (j 1).val, by omega⟩ : Fin 8192) by blk_ext [index3])).symm
  rw [refOut_apply, ← twice]
  exact congrArg₂ (fun s u : EReal => s * (2 * max u 0))
    (Finset.sum_congr rfl fun k _ => congrArg₂ (· * ·) (iblk0_apply m c t _ k _ rfl) (iblk1_apply m c t _ k _ rfl)) (iblk2_apply m c t _ _ _ _ rfl rfl)

/-- Kernel and reference end with equal results. -/
theorem equal_results : Cert.algebraic_Kernel3Ideal_Reference3Ideal := fun m g m' g' _ hargs =>
  ⟨_, (θ_run defs _ _).mono (fun _ h c => ⟨(h c).1.trans (final m c), (h c).2⟩) (Cert.Kernel3Ideal.Value.run_blocks m g),
    (θ_run Cert.Reference3Ideal.defs _ _).mono (fun _ h c =>
      ⟨(h c).1.trans (by rw [(hargs c).1, (hargs c).2.1, (hargs c).2.2]; rfl), (h c).2⟩) (Cert.Reference3Ideal.Value.run m' g')⟩

end Cert.MlpDact

end
-- ==== Proof.MlpDwDown.lean ====
/-
  The gradient of the second weight of the hidden layer: over the extended reals the kernel's array is the
  activation transposed times the result's gradient, element for element as the reference has it.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlpDwDown

open Idealize.ShloMosaic Idealize.ShloMosaic.TcCoe Idealize.SL.Sem

/-! ## The reference -/

section Ref
open Cert.Reference4Ideal Cert.Reference4Ideal.Gen

/-- The reference's result, of its arguments. -/
def refOut (u : FVec Ideal S4096x8192 .f32) (g : FVec Ideal S4096x2048 .f32) : FVec Ideal S8192x2048 .bf16 :=
  truncf .bf16 (transpose S8192x2048 [1, 0] (Host.dotGeneral dot_S4096x2048_S4096x8192_S2048x8192_0_0_1_1_n_n none g (mulf (maximumf u (broadcastInDim S4096x8192 ![] bcast_S_S4096x8192 (constant S_ .f32 0x00000000#32))) (maximumf u (broadcastInDim S4096x8192 ![] bcast_S_S4096x8192 (constant S_ .f32 0x00000000#32))))) transposes_S2048x8192_S8192x2048_1_0) bitsLt_bf16_f32

/-- An element of the reference's result. -/
theorem refOut_apply (u : FVec Ideal S4096x8192 .f32) (g : FVec Ideal S4096x2048 .f32) (p : Fin 8192) (q : Fin 2048) :
    refOut u g (ix2 p q) = ∑ k : Fin 4096, g (ix2 k q) * (max (u (ix2 k p)) 0 * max (u (ix2 k p)) 0) := by
  pointwise [refOut]

/-- The reference's run: straight-line host code, which declares no counter. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

end Ref

open Cert.Kernel4Ideal Cert.Kernel4Ideal.Gen
open Idealize.ShloMosaic.Pipeline (Dat Window)

/-- The kernel as compiled. -/
theorem frame_kernel : Cert.quiescent_Kernel4 := fun m ρ _ => Cert.Kernel4.Gen.frame m ρ

/-- The idealized kernel. -/
theorem frame_ideal : Cert.quiescent_Kernel4Ideal := fun m ρ _ => Cert.Kernel4Ideal.Gen.frame m ρ

variable (m : (ℓ : Loc nD τ sig) → Buf (Elt Ideal) ℓ) (ρ : Dev nD → PrngReg)

/-! ## The blocks, an element at a time -/

/-- There are 32 points. -/
theorem point_lt (t : Fin cfg0.N) : t.val < 32 := lt_of_lt_of_eq t.isLt N_0

/-- The hidden layer before its positive part. -/
abbrev uArg (c : Dev nD) : S4096x8192.Idx → EReal := m ((c.tc : Thread nD τ).loc main_arg0)

/-- The result's gradient. -/
abbrev gArg (c : Dev nD) : S4096x2048.Idx → EReal := m ((c.tc : Thread nD τ).loc main_arg2)

/-- The activation the call reads. -/
theorem found0 (c : Dev nD) (r : Fin 4096) (k : Fin 8192) :
    (V m c main_v3 : S4096x8192.Idx → EReal) (ix2 r k) = max (uArg m c (ix2 r k)) 0 * max (uArg m c (ix2 r k)) 0 := by
  have e : (V m c main_v3 : S4096x8192.Idx → EReal) = (truncf .bf16 (mulf (maximumf (uArg m c) (broadcastInDim S4096x8192 ![] bcast_S_S4096x8192 (constant S_ .f32 0x00000000#32))) (maximumf (uArg m c) (broadcastInDim S4096x8192 ![] bcast_S_S4096x8192 (constant S_ .f32 0x00000000#32))) : FVec Ideal S4096x8192 .f32) bitsLt_bf16_f32 : FVec Ideal S4096x8192 .bf16) := by
    unfold V
    simp only [hostOps0, List.flatten_cons, List.flatten_nil, List.append_nil, List.cons_append, List.nil_append]
    after_results
  rw [e]
  pointwise []

/-- One of the arrays the call reads: an argument. -/
theorem found1 (c : Dev nD) : (V m c main_v4 : S4096x2048.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = 0 ∧ win0_0.index t 1 = t.val / 4 :=
  (by decide +kernel : ∀ t : Fin grid0.N, win0_0.index t 0 = 0 ∧ win0_0.index t 1 = t.val / 4)

/-- Where a window's block begins, in blocks, at every point. -/
theorem index1 : ∀ t : Fin cfg0.N, win0_1.index t 0 = 0 ∧ win0_1.index t 1 = t.val % 4 :=
  (by decide +kernel : ∀ t : Fin grid0.N, win0_1.index t 0 = 0 ∧ win0_1.index t 1 = t.val % 4)

/-- Where a window's block begins, in blocks, at every point. -/
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- An element of a point's block of window 0. -/
theorem iblk0_apply (c : Dev nD) (t : Fin cfg0.N) (k : Fin 4096) (r : Fin 1024) (p : Fin 8192) (hp : p.val = 1024 * (t.val / 4) + r.val) :
    (iblk m c 0 t : S4096x1024.Idx → EReal) (ix2 k r) = max (uArg m c (ix2 k p)) 0 * max (uArg m c (ix2 k p)) 0 := by
  rw [← found0]
  blk_simp [iblk]
  exact congrArg (V m c main_v3) (by blk_ext [index0])

/-- An element of a point's block of window 1. -/
theorem iblk1_apply (c : Dev nD) (t : Fin cfg0.N) (k : Fin 4096) (l : Fin 512) (q : Fin 2048) (hq : q.val = 512 * (t.val % 4) + l.val) :
    (iblk m c 1 t : S4096x512.Idx → EReal) (ix2 k l) = gArg m c (ix2 k q) := by
  rw [← found1]
  blk_simp [iblk]
  exact congrArg (V m c main_v4) (by blk_ext [index1])

/-- An element of the block a point computes. -/
theorem out_apply (x : Vec Ideal S4096x1024 .bf16) (w : Vec Ideal S4096x512 .bf16) (r : Fin 1024) (l : Fin 512) :
    out0_2 (F := Ideal) x w (ix2 r l) = ∑ k : Fin 4096, x (ix2 k r) * w (ix2 k l) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (uArg m c) (gArg m c) : S8192x2048.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 512 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (uArg m c) (gArg m c)) (show _ = ix2 (⟨1024 * (t.val / 4) + (j 0).val, by omega⟩ : Fin 8192) (⟨512 * (t.val % 4) + (j 1).val, by omega⟩ : Fin 2048) by blk_ext [index2])).symm
  rw [refOut_apply]
  exact Finset.sum_congr rfl fun k _ => Eq.trans (congrArg₂ (fun a b : EReal => a * b) (iblk0_apply m c t k _ _ rfl) (iblk1_apply m c t k _ _ rfl)) (mul_comm (_ : EReal) _)

/-- Kernel and reference end with equal results. -/
theorem equal_results : Cert.algebraic_Kernel4Ideal_Reference4Ideal := fun m g m' g' _ hargs =>
  ⟨_, (θ_run defs _ _).mono (fun _ h c => ⟨(h c).1.trans (final m c), (h c).2⟩) (Cert.Kernel4Ideal.Value.run_blocks m g),
    (θ_run Cert.Reference4Ideal.defs _ _).mono (fun _ h c =>
      ⟨(h c).1.trans (by rw [(hargs c).1, (hargs c).2.2]; rfl), (h c).2⟩) (Cert.Reference4Ideal.Value.run m' g')⟩

end Cert.MlpDwDown

end
-- ==== Proof.MlpDwUp.lean ====
/-
  The gradient of the first weight of the hidden layer, its columns in eight groups: over the extended reals the
  kernel's array is the input transposed times the hidden layer's gradient, as the reference has it.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlpDwUp

open Idealize.ShloMosaic Idealize.ShloMosaic.TcCoe Idealize.SL.Sem

/-! ## The reference -/

section Ref
open Cert.Reference5Ideal Cert.Reference5Ideal.Gen

/-- The product before its columns are grouped. -/
def prod (h : FVec Ideal S4096x2048 .f32) (g : FVec Ideal S4096x8192 .f32) : FVec Ideal S2048x8192 .f32 :=
  transpose S2048x8192 [1, 0] (Host.dotGeneral dot_S4096x8192_S4096x2048_S8192x2048_0_0_1_1_n_n none g h) transposes_S8192x2048_S2048x8192_1_0

/-- The reference's result, of its arguments. -/
def refOut (h : FVec Ideal S4096x2048 .f32) (g : FVec Ideal S4096x8192 .f32) : FVec Ideal S8x2048x1024 .bf16 :=
  truncf .bf16 (transpose S8x2048x1024 [1, 0, 2] (shapeCast S2048x8x1024 (prod h g) shapeCasts_S2048x8192_S2048x8x1024) transposes_S2048x8x1024_S8x2048x1024_1_0_2) bitsLt_bf16_f32

/-- A matrix with its columns in eight groups, an element at a time. -/
theorem groups_apply (x : FVec Ideal S2048x8192 .f32) (p : Fin 2048) (d : Fin 8) (e : Fin 1024) (q : Fin 8192) (hq : q.val = 1024 * d.val + e.val) :
    shapeCast S2048x8x1024 x shapeCasts_S2048x8192_S2048x8x1024 (ix3 p d e) = x (ix2 p q) := by
  pointwise []
  refine congrArg x (Shape.idx_ext₂ ?_ ?_)
  · have := e.isLt
    have := d.isLt
    simp
  · have := e.isLt
    simp
    omega

/-- An element of the product. -/
theorem prod_apply (h : FVec Ideal S4096x2048 .f32) (g : FVec Ideal S4096x8192 .f32) (p : Fin 2048) (q : Fin 8192) :
    prod h g (ix2 p q) = ∑ k : Fin 4096, g (ix2 k q) * h (ix2 k p) := by
  pointwise [prod]

/-- An element of the reference's result. -/
theorem refOut_apply (h : FVec Ideal S4096x2048 .f32) (g : FVec Ideal S4096x8192 .f32) (d : Fin 8) (p : Fin 2048) (e : Fin 1024) (q : Fin 8192) (hq : q.val = 1024 * d.val + e.val) :
    refOut h g (ix3 d p e) = ∑ k : Fin 4096, g (ix2 k q) * h (ix2 k p) := by
  rw [← prod_apply, ← groups_apply (prod h g) p d e q hq]
  unfold refOut
  generalize shapeCast S2048x8x1024 (prod h g) shapeCasts_S2048x8192_S2048x8x1024 = y
  pointwise []

/-- The reference's run: straight-line host code, which declares no counter. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

end Ref

open Cert.Kernel5Ideal Cert.Kernel5Ideal.Gen
open Idealize.ShloMosaic.Pipeline (Dat Window)

/-- The kernel as compiled. -/
theorem frame_kernel : Cert.quiescent_Kernel5 := fun m ρ _ => Cert.Kernel5.Gen.frame m ρ

/-- The idealized kernel. -/
theorem frame_ideal : Cert.quiescent_Kernel5Ideal := fun m ρ _ => Cert.Kernel5Ideal.Gen.frame m ρ

variable (m : (ℓ : Loc nD τ sig) → Buf (Elt Ideal) ℓ) (ρ : Dev nD → PrngReg)

/-! ## The blocks, an element at a time -/

/-- There are 32 points. -/
theorem point_lt (t : Fin cfg0.N) : t.val < 32 := lt_of_lt_of_eq t.isLt N_0

/-- The input. -/
abbrev hArg (c : Dev nD) : S4096x2048.Idx → EReal := m ((c.tc : Thread nD τ).loc main_arg0)

/-- The hidden layer's gradient. -/
abbrev gArg (c : Dev nD) : S4096x8192.Idx → EReal := m ((c.tc : Thread nD τ).loc main_arg2)

/-- One of the arrays the call reads: an argument. -/
theorem found0 (c : Dev nD) : (V m c main_v0 : S4096x2048.Idx → EReal) = hArg m c := by
  unfold V
  simp only [hostOps0, List.flatten_cons, List.flatten_nil, List.append_nil, List.cons_append, List.nil_append]
  after_results
  rfl

/-- One of the arrays the call reads: an argument. -/
theorem found1 (c : Dev nD) : (V m c main_v1 : S4096x8192.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = 0 ∧ win0_0.index t 1 = t.val / 16 :=
  (by decide +kernel : ∀ t : Fin grid0.N, win0_0.index t 0 = 0 ∧ win0_0.index t 1 = t.val / 16)

/-- Where a window's block begins, in blocks, at every point. -/
theorem index1 : ∀ t : Fin cfg0.N, win0_1.index t 0 = 0 ∧ win0_1.index t 1 = t.val % 16 :=
  (by decide +kernel : ∀ t : Fin grid0.N, win0_1.index t 0 = 0 ∧ win0_1.index t 1 = t.val % 16)

/-- Where a window's block begins, in blocks, at every point. -/
theorem index2 : ∀ t : Fin cfg0.N, win0_2.index t 0 = t.val % 16 / 2 ∧ win0_2.index t 1 = t.val / 16 ∧ win0_2.index t 2 = t.val % 2 :=
  (by decide +kernel : ∀ t : Fin grid0.N, win0_2.index t 0 = t.val % 16 / 2 ∧ win0_2.index t 1 = t.val / 16 ∧ win0_2.index t 2 = t.val % 2)

/-- An element of a point's block of window 0. -/
theorem iblk0_apply (c : Dev nD) (t : Fin cfg0.N) (k : Fin 4096) (r : Fin 1024) (p : Fin 2048) (hp : p.val = 1024 * (t.val / 16) + r.val) :
    (iblk m c 0 t : S4096x1024.Idx → EReal) (ix2 k r) = hArg m c (ix2 k p) := by
  rw [← found0]
  blk_simp [iblk]
  exact congrArg (V m c main_v0) (by blk_ext [index0])

/-- An element of a point's block of window 1. -/
theorem iblk1_apply (c : Dev nD) (t : Fin cfg0.N) (k : Fin 4096) (l : Fin 512) (q : Fin 8192) (hq : q.val = 512 * (t.val % 16) + l.val) :
    (iblk m c 1 t : S4096x512.Idx → EReal) (ix2 k l) = gArg m c (ix2 k q) := by
  rw [← found1]
  blk_simp [iblk]
  exact congrArg (V m c main_v1) (by blk_ext [index1])

/-- An element of the block a point computes. -/
theorem out_apply (x : Vec Ideal S4096x1024 .bf16) (w : Vec Ideal S4096x512 .bf16) (z : Fin 1) (r : Fin 1024) (l : Fin 512) :
    out0_2 (F := Ideal) x w (ix3 z r l) = ∑ k : Fin 4096, x (ix2 k r) * w (ix2 k l) := by
  unfold out0_2
  rw [View.canon_unit_zero Products.zero3, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (hArg m c) (gArg m c) : S8x2048x1024.Idx → EReal) := by
  refine (dats m 0 c).arrAt_eq_of_covers 2 _ (by decide +kernel) fun t hf j => ?_
  have ht := point_lt t
  blk_simp
  rw [after0_2]
  have h0 : (j 0).val < 1 := (j 0).isLt
  have h1 : (j 1).val < 1024 := (j 1).isLt
  have h2 : (j 2).val < 512 := (j 2).isLt
  refine (congrArg (out0_2 (iblk m c 0 t) (iblk m c 1 t)) (show j = ix3 (j 0) (j 1) (j 2) from Products.ext3 rfl rfl rfl)).trans ((out_apply _ _ _ _ _).trans ?_)
  refine Eq.trans ?_ (congrArg (refOut (hArg m c) (gArg m c)) (show _ = ix3 (⟨t.val % 16 / 2, by omega⟩ : Fin 8) (⟨1024 * (t.val / 16) + (j 1).val, by omega⟩ : Fin 2048) (⟨512 * (t.val % 2) + (j 2).val, by omega⟩ : Fin 1024) by blk_ext [index2])).symm
  rw [refOut_apply _ _ _ _ _ (⟨512 * (t.val % 16) + (j 2).val, by omega⟩ : Fin 8192) (by show 512 * (t.val % 16) + (j 2).val = 1024 * (t.val % 16 / 2) + (512 * (t.val % 2) + (j 2).val); omega)]
  exact Finset.sum_congr rfl fun k _ => Eq.trans (congrArg₂ (fun a b : EReal => a * b) (iblk0_apply m c t k _ _ rfl) (iblk1_apply m c t k _ _ rfl)) (mul_comm (_ : EReal) _)

/-- Kernel and reference end with equal results. -/
theorem equal_results : Cert.algebraic_Kernel5Ideal_Reference5Ideal := fun m g m' g' _ hargs =>
  ⟨_, (θ_run defs _ _).mono (fun _ h c => ⟨(h c).1.trans (final m c), (h c).2⟩) (Cert.Kernel5Ideal.Value.run_blocks m g),
    (θ_run Cert.Reference5Ideal.defs _ _).mono (fun _ h c =>
      ⟨(h c).1.trans (by rw [(hargs c).1, (hargs c).2.2]; rfl), (h c).2⟩) (Cert.Reference5Ideal.Value.run m' g')⟩

end Cert.MlpDwUp

end
-- ==== Proof.MlpDh.lean ====
/-
  The gradient of the hidden layer's input: over the extended reals the kernel's array, a sum over eight groups of the
  weight's columns, is the product of the hidden layer's gradient with the weight transposed, as the reference has it.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry
public import Idealize.ShloMosaic.Lib.Pipeline.ValueKit.Tiles

@[expose] public section

set_option maxRecDepth 16384

noncomputable section

namespace Cert.MlpDh

open Idealize.ShloMosaic Idealize.ShloMosaic.TcCoe Idealize.SL.Sem

/-! ## The reference -/

section Ref
open Cert.Reference6Ideal Cert.Reference6Ideal.Gen

/-- The reference's result, of its arguments. -/
def refOut (w : FVec Ideal S2048x8192 .f32) (g : FVec Ideal S4096x8192 .f32) : FVec Ideal S4096x2048 .f32 :=
  Host.dotGeneral dot_S4096x8192_S2048x8192_S4096x2048_1_1_0_0_n_n none g w

/-- An element of the reference's result. -/
theorem refOut_apply (w : FVec Ideal S2048x8192 .f32) (g : FVec Ideal S4096x8192 .f32) (p : Fin 4096) (q : Fin 2048) :
    refOut w g (ix2 p q) = ∑ k : Fin 8192, g (ix2 p k) * w (ix2 q k) := by
  pointwise [refOut]

/-- The reference's run: straight-line host code, which declares no counter. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

end Ref

open Cert.Kernel6Ideal Cert.Kernel6Ideal.Gen
open Idealize.ShloMosaic.Pipeline (Dat Window)

/-- The kernel as compiled. -/
theorem frame_kernel : Cert.quiescent_Kernel6 := fun m ρ _ => Cert.Kernel6.Gen.frame m ρ

/-- The idealized kernel. -/
theorem frame_ideal : Cert.quiescent_Kernel6Ideal := fun m ρ _ => Cert.Kernel6Ideal.Gen.frame m ρ

variable (m : (ℓ : Loc nD τ sig) → Buf (Elt Ideal) ℓ) (ρ : Dev nD → PrngReg)

/-! ## The blocks, an element at a time -/

/-- There are 32 points. -/
theorem point_lt (t : Fin cfg0.N) : t.val < 32 := lt_of_lt_of_eq t.isLt N_0

/-- The weight. -/
abbrev wArg (c : Dev nD) : S2048x8192.Idx → EReal := m ((c.tc : Thread nD τ).loc main_arg1)

/-- The hidden layer's gradient. -/
abbrev gArg (c : Dev nD) : S4096x8192.Idx → EReal := m ((c.tc : Thread nD τ).loc main_arg2)

/-- One of the arrays the call reads: an argument. -/
theorem found0 (c : Dev nD) : (V m c main_v0 : S4096x8192.Idx → EReal) = gArg m c := by
  unfold V
  simp only [hostOps0, List.flatten_cons, List.flatten_nil, List.append_nil, List.cons_append, List.nil_append]
  after_results
  rfl

/-- The weight the call reads: its columns in eight groups. -/
theorem found1 (c : Dev nD) (d : Fin 8) (k : Fin 2048) (l : Fin 1024) (q : Fin 8192) (hq : q.val = 1024 * d.val + l.val) :
    (V m c main_v3 : S8x2048x1024.Idx → EReal) (ix3 d k l) = wArg m c (ix2 k q) := by
  have e : (V m c main_v3 : S8x2048x1024.Idx → EReal) = (truncf .bf16 (transpose S8x2048x1024 [1, 0, 2] (shapeCast S2048x8x1024 (wArg m c : FVec Ideal S2048x8192 .f32) shapeCasts_S2048x8192_S2048x8x1024) transposes_S2048x8x1024_S8x2048x1024_1_0_2) bitsLt_bf16_f32 : FVec Ideal S8x2048x1024 .bf16) := by
    unfold V
    simp only [hostOps0, List.flatten_cons, List.flatten_nil, List.append_nil, List.cons_append, List.nil_append]
    after_results
    rfl
  rw [e]
  pointwise []
  refine congrArg (wArg m c) (Shape.idx_ext₂ ?_ ?_)
  · have := l.isLt
    have := d.isLt
    simp
  · have := l.isLt
    simp
    omega

/-- Where a window's block begins, in blocks, at every point. -/
theorem index0 : ∀ t : Fin cfg0.N, win0_0.index t 0 = t.val / 4 ∧ win0_0.index t 1 = 0 :=
  (by decide +kernel : ∀ t : Fin grid0.N, win0_0.index t 0 = t.val / 4 ∧ win0_0.index t 1 = 0)

/-- Where a window's block begins, in blocks, at every point. -/
theorem index1 : ∀ t : Fin cfg0.N, win0_1.index t 0 = 0 ∧ win0_1.index t 1 = t.val % 4 ∧ win0_1.index t 2 = 0 :=
  (by decide +kernel : ∀ t : Fin grid0.N, win0_1.index t 0 = 0 ∧ win0_1.index t 1 = t.val % 4 ∧ win0_1.index t 2 = 0)

/-- Where a window's block begins, in blocks, at every point. -/
theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

/-- An element of a point's block of window 0. -/
theorem iblk0_apply (c : Dev nD) (t : Fin cfg0.N) (r : Fin 512) (k : Fin 8192) (p : Fin 4096) (hp : p.val = 512 * (t.val / 4) + r.val) :
    (iblk m c 0 t : S512x8192.Idx → EReal) (ix2 r k) = gArg m c (ix2 p k) := by
  rw [← found0]
  blk_simp [iblk]
  exact congrArg (V m c main_v0) (by blk_ext [index0])

/-- An element of a point's block of window 1. -/
theorem iblk1_apply (c : Dev nD) (t : Fin cfg0.N) (d : Fin 8) (l : Fin 512) (k : Fin 1024) (q : Fin 2048) (hq : q.val = 512 * (t.val % 4) + l.val) :
    (iblk m c 1 t : S8x512x1024.Idx → EReal) (ix3 d l k) = wArg m c (ix2 q (Products.col d k)) := by
  rw [← found1 m c d q k (Products.col d k) rfl]
  blk_simp [iblk]
  exact congrArg (V m c main_v3) (by blk_ext [index1])

/-- An element of the sum of eight products. -/
theorem pay_apply (a0 a1 a2 a3 a4 a5 a6 a7 : Vec Ideal S512x1024 .bf16) (b0 b1 b2 b3 b4 b5 b6 b7 : Vec Ideal S1x512x1024 .bf16) (r l : Fin 512) :
    k0_pay1 (F := Ideal) (k0_pay2 a0 b0 a1 b1 a2 b2 a3 b3) (k0_pay3 a4 b4) a5 b5 a6 b6 a7 b7 (ix2 r l)
      = (∑ k : Fin 1024, a0 (ix2 r k) * b0 (ix3 0 l k)) + (∑ k : Fin 1024, a1 (ix2 r k) * b1 (ix3 0 l k)) + (∑ k : Fin 1024, a2 (ix2 r k) * b2 (ix3 0 l k)) + (∑ k : Fin 1024, a3 (ix2 r k) * b3 (ix3 0 l k)) + (∑ k : Fin 1024, a4 (ix2 r k) * b4 (ix3 0 l k)) + (∑ k : Fin 1024, a5 (ix2 r k) * b5 (ix3 0 l k)) + (∑ k : Fin 1024, a6 (ix2 r k) * b6 (ix3 0 l k)) + (∑ k : Fin 1024, a7 (ix2 r k) * b7 (ix3 0 l k)) := by
  pointwise [k0_pay1, k0_pay2, k0_pay3]

/-- One of the eight products, of the whole blocks. -/
theorem part (x : Vec Ideal S512x8192 .bf16) (w : Vec Ideal S8x512x1024 .bf16) (r l : Fin 512) (d : Fin 8)
    (o : Fin 2 → Nat) (ho : o = ![0, 1024 * d.val]) (i0 : ∀ a, o a + S512x1024.size a ≤ S512x8192.size a)
    (o' : Fin 3 → Nat) (ho' : o' = ![d.val, 0, 0]) (i1 : ∀ a, o' a + S1x512x1024.size a ≤ S8x512x1024.size a) :
    ∑ k : Fin 1024, (View.ld (Val := Elt Ideal) (e' := .bf16) x (Rect.unit (s := S512x8192) o S512x1024.size i0) : S512x1024.Idx → EReal) (ix2 r k)
        * (View.ld (Val := Elt Ideal) (e' := .bf16) w (Rect.unit (s := S8x512x1024) o' S1x512x1024.size i1) : S1x512x1024.Idx → EReal) (ix3 0 l k)
      = ∑ k : Fin 1024, (x (ix2 r (Products.col d k)) : EReal) * w (ix3 d l k) := by
  subst ho ho'
  refine Finset.sum_congr rfl fun k _ => congrArg₂ (· * ·) ?_ ?_
  · refine View.ld_unit_apply_of x _ _ _ _ _ fun a => ?_
    match a with
    | ⟨0, _⟩ => show r.val = 0 + r.val; omega
    | ⟨1, _⟩ => rfl
  · refine View.ld_unit_apply_of w _ _ _ _ _ fun a => ?_
    match a with
    | ⟨0, _⟩ => show d.val = d.val + 0; omega
    | ⟨1, _⟩ => show l.val = 0 + l.val; omega
    | ⟨2, _⟩ => show k.val = 0 + k.val; omega

/-- An element of the block a point computes. -/
theorem out_apply (x : Vec Ideal S512x8192 .bf16) (w : Vec Ideal S8x512x1024 .bf16) (z : Vec Ideal S8x128 .f32) (r l : Fin 512) :
    out0_3 (F := Ideal) x w z (ix2 r l) = ∑ d : Fin 8, ∑ k : Fin 1024, x (ix2 r (Products.col d k)) * w (ix3 d l k) := by
  unfold out0_3
  rw [View.canon_unit_zero Products.zero2]
  refine (pay_apply _ _ _ _ _ _ _ _ _ _ _ _ _ _ _ _ r l).trans ?_
  rw [Fin.sum_univ_eight]
  exact congrArg₂ (· + ·) (congrArg₂ (· + ·) (congrArg₂ (· + ·) (congrArg₂ (· + ·) (congrArg₂ (· + ·) (congrArg₂ (· + ·) (congrArg₂ (· + ·)
    (part x w r l 0 _ rfl _ _ rfl _) (part x w r l 1 _ rfl _ _ rfl _)) (part x w r l 2 _ rfl _ _ rfl _)) (part x w r l 3 _ rfl _ _ rfl _)) (part x w r l 4 _ rfl _ _ rfl _)) (part x w r l 5 _ rfl _ _ rfl _)) (part x w r l 6 _ rfl _ _ rfl _)) (part x w r l 7 _ rfl _ _ rfl _)

/-! ## The result array -/

/-- The blocks cover the result, and each is its block of the reference's result. -/
theorem final (c : Dev nD) : (dats m 0 c).arrAt 3 cfg0.N = (refOut (wArg m c) (gArg m c) : S4096x2048.Idx → EReal) := by
  refine (dats m 0 c).arrAt_eq_of_covers 3 _ (by decide +kernel) fun t hf j => ?_
  have ht := point_lt t
  blk_simp
  rw [after0_3]
  have h0 : (j 0).val < 512 := (j 0).isLt
  have h1 : (j 1).val < 512 := (j 1).isLt
  refine (congrArg (out0_3 (iblk m c 0 t) (iblk m c 1 t) (iblk m c 2 t)) (show j = ix2 (j 0) (j 1) from Shape.idx_ext₂ rfl rfl)).trans ((out_apply _ _ _ _ _).trans ?_)
  refine Eq.trans ?_ (congrArg (refOut (wArg m c) (gArg m c)) (show _ = ix2 (⟨512 * (t.val / 4) + (j 0).val, by omega⟩ : Fin 4096) (⟨512 * (t.val % 4) + (j 1).val, by omega⟩ : Fin 2048) by blk_ext [index3])).symm
  rw [refOut_apply]
  refine Eq.trans ?_ (Products.sum_groups (d := 8) (n := 1024) _).symm
  exact Finset.sum_congr rfl fun d _ => Finset.sum_congr rfl fun k _ => congrArg₂ (· * ·) (iblk0_apply m c t _ _ _ rfl) (iblk1_apply m c t d _ k _ rfl)

/-- Kernel and reference end with equal results. -/
theorem equal_results : Cert.algebraic_Kernel6Ideal_Reference6Ideal := fun m g m' g' _ hargs =>
  ⟨_, (θ_run defs _ _).mono (fun _ h c => ⟨(h c).1.trans (final m c), (h c).2⟩) (Cert.Kernel6Ideal.Value.run_blocks m g),
    (θ_run Cert.Reference6Ideal.defs _ _).mono (fun _ h c =>
      ⟨(h c).1.trans (by rw [(hargs c).2.1, (hargs c).2.2]; rfl), (h c).2⟩) (Cert.Reference6Ideal.Value.run m' g')⟩

end Cert.MlpDh

end
-- ==== Proof.MlpUp.lean ====
/-
  The first product of the hidden layer: over the extended reals the kernel's two arrays are the product of its
  arguments and the squared positive part of it, element for element as the reference has them.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlpUp

open Idealize.ShloMosaic Idealize.ShloMosaic.TcCoe Idealize.SL.Sem

/-! ## The reference -/

section Ref
open Cert.Reference7Ideal Cert.Reference7Ideal.Gen

/-- The reference's product, of its arguments. -/
def refU (h : FVec Ideal S4096x2048 .f32) (w : FVec Ideal S2048x8192 .f32) : FVec Ideal S4096x8192 .f32 :=
  Host.dotGeneral dot_S4096x2048_S2048x8192_S4096x8192_1_0_0_1_n_n none h w

/-- The reference's activation, of its arguments. -/
def refA (h : FVec Ideal S4096x2048 .f32) (w : FVec Ideal S2048x8192 .f32) : FVec Ideal S4096x8192 .bf16 :=
  truncf .bf16 (mulf (maximumf (Host.dotGeneral dot_S4096x2048_S2048x8192_S4096x8192_1_0_0_1_n_n none h w) (broadcastInDim S4096x8192 ![] bcast_S_S4096x8192 (constant S_ .f32 0x00000000#32))) (maximumf (Host.dotGeneral dot_S4096x2048_S2048x8192_S4096x8192_1_0_0_1_n_n none h w) (broadcastInDim S4096x8192 ![] bcast_S_S4096x8192 (constant S_ .f32 0x00000000#32)))) bitsLt_bf16_f32

/-- An element of the reference's product. -/
theorem refU_apply (h : FVec Ideal S4096x2048 .f32) (w : FVec Ideal S2048x8192 .f32) (p : Fin 4096) (q : Fin 8192) :
    refU h w (ix2 p q) = ∑ k : Fin 2048, h (ix2 p k) * w (ix2 k q) := by
  pointwise [refU]

/-- An element of the reference's activation. -/
theorem refA_apply (h : FVec Ideal S4096x2048 .f32) (w : FVec Ideal S2048x8192 .f32) (p : Fin 4096) (q : Fin 8192) :
    refA h w (ix2 p q) = max (∑ k : Fin 2048, h (ix2 p k) * w (ix2 k q)) 0 * max (∑ k : Fin 2048, h (ix2 p k) * w (ix2 k q)) 0 := by
  pointwise [refA]

/-- The reference's run: straight-line host code, which declares no counter. -/
theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

end Ref

open Cert.Kernel7Ideal Cert.Kernel7Ideal.Gen
open Idealize.ShloMosaic.Pipeline (Dat Window)

/-- The kernel as compiled. -/
theorem frame_kernel : Cert.quiescent_Kernel7 := fun m ρ _ => Cert.Kernel7.Gen.frame m ρ

/-- The idealized kernel. -/
theorem frame_ideal : Cert.quiescent_Kernel7Ideal := fun m ρ _ => Cert.Kernel7Ideal.Gen.frame m ρ

variable (m : (ℓ : Loc nD τ sig) → Buf (Elt Ideal) ℓ) (ρ : Dev nD → PrngReg)

/-! ## The blocks, an element at a time -/

/-- There are 32 points. -/
theorem point_lt (t : Fin cfg0.N) : t.val < 32 := lt_of_lt_of_eq t.isLt N_0

/-- The input. -/
abbrev hArg (c : Dev nD) : S4096x2048.Idx → EReal := m ((c.tc : Thread nD τ).loc main_arg0)

/-- The weight. -/
abbrev wArg (c : Dev nD) : S2048x8192.Idx → EReal := m ((c.tc : Thread nD τ).loc main_arg1)

/-- One of the arrays the call reads: an argument. -/
theorem found0 (c : Dev nD) : (V m c main_v0 : S4096x2048.Idx → EReal) = hArg m c := by
  unfold V
  simp only [hostOps0, List.flatten_cons, List.flatten_nil, List.append_nil, List.cons_append, List.nil_append]
  after_results
  rfl

/-- The weight the call reads: its columns in eight groups. -/
theorem found1 (c : Dev nD) (d : Fin 8) (k : Fin 2048) (l : Fin 1024) (q : Fin 8192) (hq : q.val = 1024 * d.val + l.val) :
    (V m c main_v3 : S8x2048x1024.Idx → EReal) (ix3 d k l) = wArg m c (ix2 k q) := by
  have e : (V m c main_v3 : S8x2048x1024.Idx → EReal) = (truncf .bf16 (transpose S8x2048x1024 [1, 0, 2] (shapeCast S2048x8x1024 (wArg m c : FVec Ideal S2048x8192 .f32) shapeCasts_S2048x8192_S2048x8x1024) transposes_S2048x8x1024_S8x2048x1024_1_0_2) bitsLt_bf16_f32 : FVec Ideal S8x2048x1024 .bf16) := by
    unfold V
    simp only [hostOps0, List.flatten_cons, List.flatten_nil, List.append_nil, List.cons_append, List.nil_append]
    after_results
    rfl
  rw [e]
  pointwise []
  refine congrArg (wArg m c) (Shape.idx_ext₂ ?_ ?_)
  · have := l.isLt
    have := d.isLt
    simp
  · have := l.isLt
    simp
    omega

/-- Where a window's block begins, in blocks, at every point. -/
theorem index0 : ∀ t : Fin cfg0.N, win0_0.index t 0 = t.val / 8 ∧ win0_0.index t 1 = 0 :=
  (by decide +kernel : ∀ t : Fin grid0.N, win0_0.index t 0 = t.val / 8 ∧ win0_0.index t 1 = 0)

/-- Where a window's block begins, in blocks, at every point. -/
theorem index1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)

/-- Where a window's block begins, in blocks, at every point. -/
theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- Where a window's block begins, in blocks, at every point. -/
theorem index3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

/-- An element of a point's block of window 0. -/
theorem iblk0_apply (c : Dev nD) (t : Fin cfg0.N) (r : Fin 1024) (k : Fin 2048) (p : Fin 4096) (hp : p.val = 1024 * (t.val / 8) + r.val) :
    (iblk m c 0 t : S1024x2048.Idx → EReal) (ix2 r k) = hArg m c (ix2 p k) := by
  rw [← found0]
  blk_simp [iblk]
  exact congrArg (V m c main_v0) (by blk_ext [index0])

/-- An element of a point's block of window 1. -/
theorem iblk1_apply (c : Dev nD) (t : Fin cfg0.N) (k : Fin 2048) (l : Fin 1024) (q : Fin 8192) (hq : q.val = 1024 * (t.val % 8) + l.val) :
    (iblk m c 1 t : S1x2048x1024.Idx → EReal) (ix3 0 k l) = wArg m c (ix2 k q) := by
  rw [← found1 m c (⟨t.val % 8, by omega⟩ : Fin 8) k l q hq]
  blk_simp [iblk]
  exact congrArg (V m c main_v3) (by blk_ext [index1])

/-- An element of a block a point computes. -/
theorem out2_apply (x : Vec Ideal S1024x2048 .bf16) (w : Vec Ideal S1x2048x1024 .bf16) (r l : Fin 1024) :
    out0_2 (F := Ideal) x w (ix2 r l) = ∑ k : Fin 2048, x (ix2 r k) * w (ix3 0 k l) := by
  unfold out0_2
  rw [View.canon_unit_zero Products.zero2, View.ld_unit_zero Products.zero2, View.ld_unit_zero Products.zero3]
  pointwise [k0_pay1, k0_pay1]

/-- An element of a block a point computes. -/
theorem out3_apply (x : Vec Ideal S1024x2048 .bf16) (w : Vec Ideal S1x2048x1024 .bf16) (r l : Fin 1024) :
    out0_3 (F := Ideal) x w (ix2 r l) = max (∑ k : Fin 2048, x (ix2 r k) * w (ix3 0 k l)) 0 * max (∑ k : Fin 2048, x (ix2 r k) * w (ix3 0 k l)) 0 := by
  unfold out0_3
  rw [View.canon_unit_zero Products.zero2, View.ld_unit_zero Products.zero2, View.ld_unit_zero Products.zero3]
  pointwise [k0_pay2, k0_pay1]

/-! ## The result array -/

/-- The blocks cover the result, and each is its block of the reference's result. -/
theorem final2 (c : Dev nD) : (dats m 0 c).arrAt 2 cfg0.N = (refU (hArg m c) (wArg m c) : S4096x8192.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 1024 := (j 1).isLt
  refine (congrArg (out0_2 (iblk m c 0 t) (iblk m c 1 t)) (show j = ix2 (j 0) (j 1) from Shape.idx_ext₂ rfl rfl)).trans ((out2_apply _ _ _ _).trans ?_)
  refine Eq.trans ?_ (congrArg (refU (hArg m c) (wArg m c)) (show _ = ix2 (⟨1024 * (t.val / 8) + (j 0).val, by omega⟩ : Fin 4096) (⟨1024 * (t.val % 8) + (j 1).val, by omega⟩ : Fin 8192) by blk_ext [index2])).symm
  rw [refU_apply]
  exact Finset.sum_congr rfl fun k _ => congrArg₂ (· * ·) (iblk0_apply m c t _ k _ rfl) (iblk1_apply m c t k _ _ rfl)

/-- The blocks cover the result, and each is its block of the reference's result. -/
theorem final3 (c : Dev nD) : (dats m 0 c).arrAt 3 cfg0.N = (refA (hArg m c) (wArg m c) : S4096x8192.Idx → EReal) := by
  refine (dats m 0 c).arrAt_eq_of_covers 3 _ (by decide +kernel) fun t hf j => ?_
  have ht := point_lt t
  blk_simp
  rw [after0_3]
  have h0 : (j 0).val < 1024 := (j 0).isLt
  have h1 : (j 1).val < 1024 := (j 1).isLt
  refine (congrArg (out0_3 (iblk m c 0 t) (iblk m c 1 t)) (show j = ix2 (j 0) (j 1) from Shape.idx_ext₂ rfl rfl)).trans ((out3_apply _ _ _ _).trans ?_)
  refine Eq.trans ?_ (congrArg (refA (hArg m c) (wArg m c)) (show _ = ix2 (⟨1024 * (t.val / 8) + (j 0).val, by omega⟩ : Fin 4096) (⟨1024 * (t.val % 8) + (j 1).val, by omega⟩ : Fin 8192) by blk_ext [index3])).symm
  rw [refA_apply]
  exact congrArg (fun s : EReal => max s 0 * max s 0) (Finset.sum_congr rfl fun k _ => congrArg₂ (· * ·) (iblk0_apply m c t _ k _ rfl) (iblk1_apply m c t k _ _ rfl))

/-- Kernel and reference end with equal results. -/
theorem equal_results : Cert.algebraic_Kernel7Ideal_Reference7Ideal := fun m g m' g' _ hargs =>
  ⟨_, _, (θ_run defs _ _).mono (fun _ h c => ⟨(h c).1.trans (final2 m c), (h c).2.1.trans (final3 m c), (h c).2.2⟩) (Cert.Kernel7Ideal.Value.run_blocks m g),
    (θ_run Cert.Reference7Ideal.defs _ _).mono (fun _ h c =>
      ⟨(h c).1.trans (by rw [(hargs c).1, (hargs c).2]; rfl), (h c).2.1.trans (by rw [(hargs c).1, (hargs c).2]; rfl), (h c).2.2⟩) (Cert.Reference7Ideal.Value.run m' g')⟩

end Cert.MlpUp

end
-- ==== Proof.MlpDown.lean ====
/-
  The second product of the gated-by-square hidden layer: over the extended reals the kernel's array is the
  squared positive parts times the second weight, element for element as the reference has it.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlpDown

open Idealize.ShloMosaic Idealize.ShloMosaic.TcCoe Idealize.SL.Sem

/-! ## The reference -/

section Ref
open Cert.Reference8Ideal Cert.Reference8Ideal.Gen

/-- The reference's result, of its arguments. -/
def refOut (u : FVec Ideal S4096x8192 .f32) (w : FVec Ideal S8192x2048 .f32) : FVec Ideal S4096x2048 .f32 :=
  Host.dotGeneral dot_S4096x8192_S8192x2048_S4096x2048_1_0_0_1_n_n none (mulf (maximumf u (broadcastInDim S4096x8192 ![] bcast_S_S4096x8192 (constant S_ .f32 0x00000000#32))) (maximumf u (broadcastInDim S4096x8192 ![] bcast_S_S4096x8192 (constant S_ .f32 0x00000000#32)))) w

/-- An element of the reference's result. -/
theorem refOut_apply (u : FVec Ideal S4096x8192 .f32) (w : FVec Ideal S8192x2048 .f32) (r : Fin 4096) (q : Fin 2048) :
    refOut u w (ix2 r q) = ∑ k : Fin 8192, max (u (ix2 r k)) 0 * max (u (ix2 r k)) 0 * w (ix2 k q) := by
  pointwise [refOut]

/-- The reference's run: straight-line host code, which declares no counter. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

end Ref

open Cert.Kernel8Ideal Cert.Kernel8Ideal.Gen
open Idealize.ShloMosaic.Pipeline (Dat Window)

/-- The kernel as compiled. -/
theorem frame_kernel : Cert.quiescent_Kernel8 := fun m ρ _ => Cert.Kernel8.Gen.frame m ρ

/-- The idealized kernel. -/
theorem frame_ideal : Cert.quiescent_Kernel8Ideal := fun m ρ _ => Cert.Kernel8Ideal.Gen.frame m ρ

variable (m : (ℓ : Loc nD τ sig) → Buf (Elt Ideal) ℓ) (ρ : Dev nD → PrngReg)

/-! ## The blocks, an element at a time -/

/-- There are 32 points. -/
theorem point_lt (t : Fin cfg0.N) : t.val < 32 := lt_of_lt_of_eq t.isLt N_0

/-- The hidden layer before its positive part. -/
abbrev uArg (c : Dev nD) : S4096x8192.Idx → EReal := m ((c.tc : Thread nD τ).loc main_arg0)
/-- The weight. -/
abbrev wArg (c : Dev nD) : S8192x2048.Idx → EReal := m ((c.tc : Thread nD τ).loc main_arg1)

/-- The first array the call reads. -/
theorem found0 (c : Dev nD) (r : Fin 4096) (k : Fin 8192) :
    (V m c main_v3 : S4096x8192.Idx → EReal) (ix2 r k) = max (uArg m c (ix2 r k)) 0 * max (uArg m c (ix2 r k)) 0 := by
  have e : (V m c main_v3 : S4096x8192.Idx → EReal) = (truncf .bf16 (mulf (maximumf (uArg m c) (broadcastInDim S4096x8192 ![] bcast_S_S4096x8192 (constant S_ .f32 0x00000000#32))) (maximumf (uArg m c) (broadcastInDim S4096x8192 ![] bcast_S_S4096x8192 (constant S_ .f32 0x00000000#32))) : FVec Ideal S4096x8192 .f32) bitsLt_bf16_f32 : FVec Ideal S4096x8192 .bf16) := by
    unfold V
    simp only [hostOps0, List.flatten_cons, List.flatten_nil, List.append_nil, List.cons_append, List.nil_append]
    after_results
  rw [e]
  pointwise []

/-- The second array the call reads. -/
theorem found1 (c : Dev nD) : (V m c main_v4 : S8192x2048.Idx → EReal) = wArg m c := by
  unfold V
  simp only [hostOps0, List.flatten_cons, List.flatten_nil, List.append_nil, List.cons_append, List.nil_append]
  after_results
  rfl

/-- Where each window's block begins, in blocks, at every point. -/
theorem index0 : ∀ t : Fin cfg0.N, win0_0.index t 0 = t.val / 4 ∧ win0_0.index t 1 = 0 :=
  (by decide +kernel : ∀ t : Fin grid0.N, win0_0.index t 0 = t.val / 4 ∧ win0_0.index t 1 = 0)
/-- Which block of the weight a point uses. -/
theorem index1 : ∀ t : Fin cfg0.N, win0_1.index t 0 = 0 ∧ win0_1.index t 1 = t.val % 4 :=
  (by decide +kernel : ∀ t : Fin grid0.N, win0_1.index t 0 = 0 ∧ win0_1.index t 1 = t.val % 4)
/-- Which block of the result a point writes. -/
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- An element of a point's block of the hidden layer. -/
theorem iblk0_apply (c : Dev nD) (t : Fin cfg0.N) (r : Fin 512) (k : Fin 8192) (p : Fin 4096) (hp : p.val = 512 * (t.val / 4) + r.val) :
    (iblk m c 0 t : S512x8192.Idx → EReal) (ix2 r k) = max (uArg m c (ix2 p k)) 0 * max (uArg m c (ix2 p k)) 0 := by
  rw [← found0]
  blk_simp [iblk]
  exact congrArg (V m c main_v3) (by blk_ext [index0])

/-- An element of a point's block of the weight. -/
theorem iblk1_apply (c : Dev nD) (t : Fin cfg0.N) (k : Fin 8192) (l : Fin 512) (q : Fin 2048) (hq : q.val = 512 * (t.val % 4) + l.val) :
    (iblk m c 1 t : S8192x512.Idx → EReal) (ix2 k l) = wArg m c (ix2 k q) := by
  rw [← found1]
  blk_simp [iblk]
  exact congrArg (V m c main_v4) (by blk_ext [index1])

/-- An element of the block a point computes. -/
theorem out_apply (x : Vec Ideal S512x8192 .bf16) (w : Vec Ideal S8192x512 .bf16) (r l : Fin 512) :
    out0_2 (F := Ideal) x w (ix2 r l) = ∑ k : Fin 8192, x (ix2 r k) * w (ix2 k l) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (uArg m c) (wArg m c) : S4096x2048.Idx → EReal) := by
  refine (dats m 0 c).arrAt_eq_of_covers 2 _ (by decide +kernel) fun t hf j => ?_
  have ht := point_lt t
  blk_simp
  rw [after0_2]
  have h0 : (j 0).val < 512 := (j 0).isLt
  have h1 : (j 1).val < 512 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (uArg m c) (wArg m c)) (show _ = ix2 (⟨512 * (t.val / 4) + (j 0).val, by omega⟩ : Fin 4096) (⟨512 * (t.val % 4) + (j 1).val, by omega⟩ : Fin 2048) by blk_ext [index2])).symm
  rw [refOut_apply]
  exact Finset.sum_congr rfl fun k _ => congrArg₂ (· * ·) (iblk0_apply m c t _ k _ rfl) (iblk1_apply m c t k _ _ rfl)

/-- Kernel and reference end with equal results. -/
theorem equal_results : Cert.algebraic_Kernel8Ideal_Reference8Ideal := fun m g m' g' _ hargs =>
  ⟨_, (θ_run defs _ _).mono (fun _ h c => ⟨(h c).1.trans (final m c), (h c).2⟩) (Cert.Kernel8Ideal.Value.run_blocks m g),
    (θ_run Cert.Reference8Ideal.defs _ _).mono (fun _ h c =>
      ⟨(h c).1.trans (by rw [(hargs c).1, (hargs c).2]; rfl), (h c).2⟩) (Cert.Reference8Ideal.Value.run m' g')⟩

end Cert.MlpDown

end
-- ==== Proof.ConvOut.lean ====
/-
  The output projection of the convolution: over the extended reals the kernel's array is the
  product of its arguments, element for element as the reference has it.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.ConvOut

open Idealize.ShloMosaic Idealize.ShloMosaic.TcCoe Idealize.SL.Sem

/-! ## The reference -/

section Ref
open Cert.Reference9Ideal Cert.Reference9Ideal.Gen

/-- The reference's result, of its arguments. -/
def refOut (h : FVec Ideal S4096x2048 .f32) (w : FVec Ideal S2048x2048 .f32) : FVec Ideal S4096x2048 .f32 :=
  Host.dotGeneral dot_S4096x2048_S2048x2048_S4096x2048_1_0_0_1_n_n none h w

/-- An element of the reference's result. -/
theorem refOut_apply (h : FVec Ideal S4096x2048 .f32) (w : FVec Ideal S2048x2048 .f32) (p : Fin 4096) (q : Fin 2048) :
    refOut h w (ix2 p q) = ∑ k : Fin 2048, h (ix2 p k) * w (ix2 k q) := by
  pointwise [refOut]

/-- The reference's run: straight-line host code, which declares no counter. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

end Ref

open Cert.Kernel9Ideal Cert.Kernel9Ideal.Gen
open Idealize.ShloMosaic.Pipeline (Dat Window)

/-- The kernel as compiled. -/
theorem frame_kernel : Cert.quiescent_Kernel9 := fun m ρ _ => Cert.Kernel9.Gen.frame m ρ

/-- The idealized kernel. -/
theorem frame_ideal : Cert.quiescent_Kernel9Ideal := fun m ρ _ => Cert.Kernel9Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 8 := lt_of_lt_of_eq t.isLt N_0

/-- The first factor. -/
abbrev hArg (c : Dev nD) : S4096x2048.Idx → EReal := m ((c.tc : Thread nD τ).loc main_arg0)

/-- The weight. -/
abbrev wArg (c : Dev nD) : S2048x2048.Idx → EReal := m ((c.tc : Thread nD τ).loc main_arg1)

/-- One of the arrays the call reads: an argument. -/
theorem found0 (c : Dev nD) : (V m c main_v0 : S4096x2048.Idx → EReal) = hArg m c := by
  unfold V
  simp only [hostOps0, List.flatten_cons, List.flatten_nil, List.append_nil, List.cons_append, List.nil_append]
  after_results
  rfl

/-- One of the arrays the call reads: an argument. -/
theorem found1 (c : Dev nD) : (V m c main_v1 : S2048x2048.Idx → EReal) = wArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = t.val / 2 ∧ win0_0.index t 1 = 0 :=
  (by decide +kernel : ∀ t : Fin grid0.N, win0_0.index t 0 = t.val / 2 ∧ win0_0.index t 1 = 0)

/-- Where a window's block begins, in blocks, at every point. -/
theorem index1 : ∀ t : Fin cfg0.N, win0_1.index t 0 = 0 ∧ win0_1.index t 1 = t.val % 2 :=
  (by decide +kernel : ∀ t : Fin grid0.N, win0_1.index t 0 = 0 ∧ win0_1.index t 1 = t.val % 2)

/-- Where a window's block begins, in blocks, at every point. -/
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- An element of a point's block of window 0. -/
theorem iblk0_apply (c : Dev nD) (t : Fin cfg0.N) (r : Fin 1024) (k : Fin 2048) (p : Fin 4096) (hp : p.val = 1024 * (t.val / 2) + r.val) :
    (iblk m c 0 t : S1024x2048.Idx → EReal) (ix2 r k) = hArg m c (ix2 p k) := by
  rw [← found0]
  blk_simp [iblk]
  exact congrArg (V m c main_v0) (by blk_ext [index0])

/-- An element of a point's block of window 1. -/
theorem iblk1_apply (c : Dev nD) (t : Fin cfg0.N) (k : Fin 2048) (l : Fin 1024) (q : Fin 2048) (hq : q.val = 1024 * (t.val % 2) + l.val) :
    (iblk m c 1 t : S2048x1024.Idx → EReal) (ix2 k l) = wArg m c (ix2 k q) := by
  rw [← found1]
  blk_simp [iblk]
  exact congrArg (V m c main_v1) (by blk_ext [index1])

/-- An element of the block a point computes. -/
theorem out_apply (x : Vec Ideal S1024x2048 .bf16) (w : Vec Ideal S2048x1024 .bf16) (r : Fin 1024) (l : Fin 1024) :
    out0_2 (F := Ideal) x w (ix2 r l) = ∑ k : Fin 2048, x (ix2 r k) * w (ix2 k l) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (hArg m c) (wArg m c) : S4096x2048.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 1024 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (hArg m c) (wArg m c)) (show _ = ix2 (⟨1024 * (t.val / 2) + (j 0).val, by omega⟩ : Fin 4096) (⟨1024 * (t.val % 2) + (j 1).val, by omega⟩ : Fin 2048) by blk_ext [index2])).symm
  rw [refOut_apply]
  exact Finset.sum_congr rfl fun k _ => congrArg₂ (· * ·) (iblk0_apply m c t _ k _ rfl) (iblk1_apply m c t k _ _ rfl)

/-- Kernel and reference end with equal results. -/
theorem equal_results : Cert.algebraic_Kernel9Ideal_Reference9Ideal := fun m g m' g' _ hargs =>
  ⟨_, (θ_run defs _ _).mono (fun _ h c => ⟨(h c).1.trans (final m c), (h c).2⟩) (Cert.Kernel9Ideal.Value.run_blocks m g),
    (θ_run Cert.Reference9Ideal.defs _ _).mono (fun _ h c =>
      ⟨(h c).1.trans (by rw [(hargs c).1, (hargs c).2]; rfl), (h c).2⟩) (Cert.Reference9Ideal.Value.run m' g')⟩

end Cert.ConvOut

end
-- ==== Proof.ConvDbz.lean ====
/-
  The gradient of the output projection's input: over the extended reals the kernel's array is the
  product of the output's gradient with the weight transposed, element for element as the reference has it.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.ConvDbz

open Idealize.ShloMosaic Idealize.ShloMosaic.TcCoe Idealize.SL.Sem

/-! ## The reference -/

section Ref
open Cert.Reference10Ideal Cert.Reference10Ideal.Gen

/-- The reference's result, of its arguments. -/
def refOut (w : FVec Ideal S2048x2048 .f32) (g : FVec Ideal S4096x2048 .f32) : FVec Ideal S4096x2048 .f32 :=
  Host.dotGeneral dot_S4096x2048_S2048x2048_S4096x2048_1_1_0_0_n_n none g w

/-- An element of the reference's result. -/
theorem refOut_apply (w : FVec Ideal S2048x2048 .f32) (g : FVec Ideal S4096x2048 .f32) (p : Fin 4096) (q : Fin 2048) :
    refOut w g (ix2 p q) = ∑ k : Fin 2048, g (ix2 p k) * w (ix2 q k) := by
  pointwise [refOut]

/-- The reference's run: straight-line host code, which declares no counter. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

end Ref

open Cert.Kernel10Ideal Cert.Kernel10Ideal.Gen
open Idealize.ShloMosaic.Pipeline (Dat Window)

/-- The kernel as compiled. -/
theorem frame_kernel : Cert.quiescent_Kernel10 := fun m ρ _ => Cert.Kernel10.Gen.frame m ρ

/-- The idealized kernel. -/
theorem frame_ideal : Cert.quiescent_Kernel10Ideal := fun m ρ _ => Cert.Kernel10Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 8 := lt_of_lt_of_eq t.isLt N_0

/-- The weight. -/
abbrev wArg (c : Dev nD) : S2048x2048.Idx → EReal := m ((c.tc : Thread nD τ).loc main_arg1)

/-- The output's gradient. -/
abbrev gArg (c : Dev nD) : S4096x2048.Idx → EReal := m ((c.tc : Thread nD τ).loc main_arg2)

/-- One of the arrays the call reads: an argument. -/
theorem found0 (c : Dev nD) : (V m c main_v0 : S4096x2048.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = t.val / 2 ∧ win0_0.index t 1 = 0 :=
  (by decide +kernel : ∀ t : Fin grid0.N, win0_0.index t 0 = t.val / 2 ∧ win0_0.index t 1 = 0)

/-- One of the arrays the call reads: an argument. -/
theorem found1 (c : Dev nD) : (V m c main_v1 : S2048x2048.Idx → EReal) = wArg m c := by
  unfold V
  simp only [hostOps0, List.flatten_cons, List.flatten_nil, List.append_nil, List.cons_append, List.nil_append]
  after_results
  rfl

/-- Where a window's block begins, in blocks, at every point. -/
theorem index1 : ∀ t : Fin cfg0.N, win0_1.index t 0 = t.val % 2 ∧ win0_1.index t 1 = 0 :=
  (by decide +kernel : ∀ t : Fin grid0.N, win0_1.index t 0 = t.val % 2 ∧ win0_1.index t 1 = 0)

/-- Where a window's block begins, in blocks, at every point. -/
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- An element of a point's block of window 0. -/
theorem iblk0_apply (c : Dev nD) (t : Fin cfg0.N) (r : Fin 1024) (k : Fin 2048) (p : Fin 4096) (hp : p.val = 1024 * (t.val / 2) + r.val) :
    (iblk m c 0 t : S1024x2048.Idx → EReal) (ix2 r k) = gArg m c (ix2 p k) := by
  rw [← found0]
  blk_simp [iblk]
  exact congrArg (V m c main_v0) (by blk_ext [index0])

/-- An element of a point's block of window 1. -/
theorem iblk1_apply (c : Dev nD) (t : Fin cfg0.N) (l : Fin 1024) (k : Fin 2048) (q : Fin 2048) (hq : q.val = 1024 * (t.val % 2) + l.val) :
    (iblk m c 1 t : S1024x2048.Idx → EReal) (ix2 l k) = wArg m c (ix2 q k) := by
  rw [← found1]
  blk_simp [iblk]
  exact congrArg (V m c main_v1) (by blk_ext [index1])

/-- An element of the block a point computes. -/
theorem out_apply (x : Vec Ideal S1024x2048 .bf16) (w : Vec Ideal S1024x2048 .bf16) (r : Fin 1024) (l : Fin 1024) :
    out0_2 (F := Ideal) x w (ix2 r l) = ∑ k : Fin 2048, x (ix2 r k) * w (ix2 l k) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (wArg m c) (gArg m c) : S4096x2048.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 1024 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (wArg m c) (gArg m c)) (show _ = ix2 (⟨1024 * (t.val / 2) + (j 0).val, by omega⟩ : Fin 4096) (⟨1024 * (t.val % 2) + (j 1).val, by omega⟩ : Fin 2048) by blk_ext [index2])).symm
  rw [refOut_apply]
  exact Finset.sum_congr rfl fun k _ => congrArg₂ (· * ·) (iblk0_apply m c t _ k _ rfl) (iblk1_apply m c t _ k _ rfl)

/-- Kernel and reference end with equal results. -/
theorem equal_results : Cert.algebraic_Kernel10Ideal_Reference10Ideal := fun m g m' g' _ hargs =>
  ⟨_, (θ_run defs _ _).mono (fun _ h c => ⟨(h c).1.trans (final m c), (h c).2⟩) (Cert.Kernel10Ideal.Value.run_blocks m g),
    (θ_run Cert.Reference10Ideal.defs _ _).mono (fun _ h c =>
      ⟨(h c).1.trans (by rw [(hargs c).2.1, (hargs c).2.2]; rfl), (h c).2⟩) (Cert.Reference10Ideal.Value.run m' g')⟩

end Cert.ConvDbz

end
-- ==== Proof.ConvDwOut.lean ====
/-
  The gradient of the output projection's weight: over the extended reals the kernel's array is the
  input transposed times the output's gradient, element for element as the reference has it.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.ConvDwOut

open Idealize.ShloMosaic Idealize.ShloMosaic.TcCoe Idealize.SL.Sem

/-! ## The reference -/

section Ref
open Cert.Reference11Ideal Cert.Reference11Ideal.Gen

/-- The reference's result, of its arguments. -/
def refOut (h : FVec Ideal S4096x2048 .f32) (g : FVec Ideal S4096x2048 .f32) : FVec Ideal S2048x2048 .bf16 :=
  truncf .bf16 (transpose S2048x2048 [1, 0] (Host.dotGeneral dot_S4096x2048_S4096x2048_S2048x2048_0_0_1_1_n_n none g h) transposes_S2048x2048_S2048x2048_1_0) bitsLt_bf16_f32

/-- An element of the reference's result. -/
theorem refOut_apply (h : FVec Ideal S4096x2048 .f32) (g : FVec Ideal S4096x2048 .f32) (p : Fin 2048) (q : Fin 2048) :
    refOut h g (ix2 p q) = ∑ k : Fin 4096, g (ix2 k q) * h (ix2 k p) := by
  pointwise [refOut]

/-- The reference's run: straight-line host code, which declares no counter. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

end Ref

open Cert.Kernel11Ideal Cert.Kernel11Ideal.Gen
open Idealize.ShloMosaic.Pipeline (Dat Window)

/-- The kernel as compiled. -/
theorem frame_kernel : Cert.quiescent_Kernel11 := fun m ρ _ => Cert.Kernel11.Gen.frame m ρ

/-- The idealized kernel. -/
theorem frame_ideal : Cert.quiescent_Kernel11Ideal := fun m ρ _ => Cert.Kernel11Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 8 := lt_of_lt_of_eq t.isLt N_0

/-- The input. -/
abbrev hArg (c : Dev nD) : S4096x2048.Idx → EReal := m ((c.tc : Thread nD τ).loc main_arg0)

/-- The output's gradient. -/
abbrev gArg (c : Dev nD) : S4096x2048.Idx → EReal := m ((c.tc : Thread nD τ).loc main_arg2)

/-- One of the arrays the call reads: an argument. -/
theorem found0 (c : Dev nD) : (V m c main_v0 : S4096x2048.Idx → EReal) = hArg m c := by
  unfold V
  simp only [hostOps0, List.flatten_cons, List.flatten_nil, List.append_nil, List.cons_append, List.nil_append]
  after_results
  rfl

/-- One of the arrays the call reads: an argument. -/
theorem found1 (c : Dev nD) : (V m c main_v1 : S4096x2048.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = 0 ∧ win0_0.index t 1 = t.val / 4 :=
  (by decide +kernel : ∀ t : Fin grid0.N, win0_0.index t 0 = 0 ∧ win0_0.index t 1 = t.val / 4)

/-- Where a window's block begins, in blocks, at every point. -/
theorem index1 : ∀ t : Fin cfg0.N, win0_1.index t 0 = 0 ∧ win0_1.index t 1 = t.val % 4 :=
  (by decide +kernel : ∀ t : Fin grid0.N, win0_1.index t 0 = 0 ∧ win0_1.index t 1 = t.val % 4)

/-- Where a window's block begins, in blocks, at every point. -/
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- An element of a point's block of window 0. -/
theorem iblk0_apply (c : Dev nD) (t : Fin cfg0.N) (k : Fin 4096) (r : Fin 1024) (p : Fin 2048) (hp : p.val = 1024 * (t.val / 4) + r.val) :
    (iblk m c 0 t : S4096x1024.Idx → EReal) (ix2 k r) = hArg m c (ix2 k p) := by
  rw [← found0]
  blk_simp [iblk]
  exact congrArg (V m c main_v0) (by blk_ext [index0])

/-- An element of a point's block of window 1. -/
theorem iblk1_apply (c : Dev nD) (t : Fin cfg0.N) (k : Fin 4096) (l : Fin 512) (q : Fin 2048) (hq : q.val = 512 * (t.val % 4) + l.val) :
    (iblk m c 1 t : S4096x512.Idx → EReal) (ix2 k l) = gArg m c (ix2 k q) := by
  rw [← found1]
  blk_simp [iblk]
  exact congrArg (V m c main_v1) (by blk_ext [index1])

/-- An element of the block a point computes. -/
theorem out_apply (x : Vec Ideal S4096x1024 .bf16) (w : Vec Ideal S4096x512 .bf16) (r : Fin 1024) (l : Fin 512) :
    out0_2 (F := Ideal) x w (ix2 r l) = ∑ k : Fin 4096, x (ix2 k r) * w (ix2 k l) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (hArg m c) (gArg m c) : S2048x2048.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 512 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (hArg m c) (gArg m c)) (show _ = ix2 (⟨1024 * (t.val / 4) + (j 0).val, by omega⟩ : Fin 2048) (⟨512 * (t.val % 4) + (j 1).val, by omega⟩ : Fin 2048) by blk_ext [index2])).symm
  rw [refOut_apply]
  exact Finset.sum_congr rfl fun k _ => Eq.trans (congrArg₂ (fun a b : EReal => a * b) (iblk0_apply m c t k _ _ rfl) (iblk1_apply m c t k _ _ rfl)) (mul_comm (_ : EReal) _)

/-- Kernel and reference end with equal results. -/
theorem equal_results : Cert.algebraic_Kernel11Ideal_Reference11Ideal := fun m g m' g' _ hargs =>
  ⟨_, (θ_run defs _ _).mono (fun _ h c => ⟨(h c).1.trans (final m c), (h c).2⟩) (Cert.Kernel11Ideal.Value.run_blocks m g),
    (θ_run Cert.Reference11Ideal.defs _ _).mono (fun _ h c =>
      ⟨(h c).1.trans (by rw [(hargs c).1, (hargs c).2.2]; rfl), (h c).2⟩) (Cert.Reference11Ideal.Value.run m' g')⟩

end Cert.ConvDwOut

end
-- ==== Proof.ConvIn.lean ====
/-
  The input projection of the convolution: over the extended reals the kernel's array is the
  product of its arguments, element for element as the reference has it.
-/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.ConvIn

open Idealize.ShloMosaic Idealize.ShloMosaic.TcCoe Idealize.SL.Sem

/-! ## The reference -/

section Ref
open Cert.Reference12Ideal Cert.Reference12Ideal.Gen

/-- The reference's result, of its arguments. -/
def refOut (h : FVec Ideal S4096x2048 .f32) (w : FVec Ideal S2048x6144 .f32) : FVec Ideal S4096x6144 .f32 :=
  Host.dotGeneral dot_S4096x2048_S2048x6144_S4096x6144_1_0_0_1_n_n none h w

/-- An element of the reference's result. -/
theorem refOut_apply (h : FVec Ideal S4096x2048 .f32) (w : FVec Ideal S2048x6144 .f32) (p : Fin 4096) (q : Fin 6144) :
    refOut h w (ix2 p q) = ∑ k : Fin 2048, h (ix2 p k) * w (ix2 k q) := by
  pointwise [refOut]

/-- The reference's run: straight-line host code, which declares no counter. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

end Ref

open Cert.Kernel12Ideal Cert.Kernel12Ideal.Gen
open Idealize.ShloMosaic.Pipeline (Dat Window)

/-- The kernel as compiled. -/
theorem frame_kernel : Cert.quiescent_Kernel12 := fun m ρ _ => Cert.Kernel12.Gen.frame m ρ

/-- The idealized kernel. -/
theorem frame_ideal : Cert.quiescent_Kernel12Ideal := fun m ρ _ => Cert.Kernel12Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 32 := lt_of_lt_of_eq t.isLt N_0

/-- The first factor. -/
abbrev hArg (c : Dev nD) : S4096x2048.Idx → EReal := m ((c.tc : Thread nD τ).loc main_arg0)

/-- The weight. -/
abbrev wArg (c : Dev nD) : S2048x6144.Idx → EReal := m ((c.tc : Thread nD τ).loc main_arg1)

/-- One of the arrays the call reads: an argument. -/
theorem found0 (c : Dev nD) : (V m c main_v0 : S4096x2048.Idx → EReal) = hArg m c := by
  unfold V
  simp only [hostOps0, List.flatten_cons, List.flatten_nil, List.append_nil, List.cons_append, List.nil_append]
  after_results
  rfl

/-- The weight the call reads: its columns in eight groups. -/
theorem found1 (c : Dev nD) (d : Fin 8) (k : Fin 2048) (l : Fin 768) (q : Fin 6144) (hq : q.val = 768 * d.val + l.val) :
    (V m c main_v3 : S8x2048x768.Idx → EReal) (ix3 d k l) = wArg m c (ix2 k q) := by
  have e : (V m c main_v3 : S8x2048x768.Idx → EReal) = (truncf .bf16 (transpose S8x2048x768 [1, 0, 2] (shapeCast S2048x8x768 (wArg m c : FVec Ideal S2048x6144 .f32) shapeCasts_S2048x6144_S2048x8x768) transposes_S2048x8x768_S8x2048x768_1_0_2) bitsLt_bf16_f32 : FVec Ideal S8x2048x768 .bf16) := by
    unfold V
    simp only [hostOps0, List.flatten_cons, List.flatten_nil, List.append_nil, List.cons_append, List.nil_append]
    after_results
    rfl
  rw [e]
  pointwise []
  refine congrArg (wArg m c) (Shape.idx_ext₂ ?_ ?_)
  · have := l.isLt
    have := d.isLt
    simp
  · have := l.isLt
    simp
    omega

/-- Where a window's block begins, in blocks, at every point. -/
theorem index0 : ∀ t : Fin cfg0.N, win0_0.index t 0 = t.val / 8 ∧ win0_0.index t 1 = 0 :=
  (by decide +kernel : ∀ t : Fin grid0.N, win0_0.index t 0 = t.val / 8 ∧ win0_0.index t 1 = 0)

/-- Where a window's block begins, in blocks, at every point. -/
theorem index1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)

/-- Where a window's block begins, in blocks, at every point. -/
theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- An element of a point's block of window 0. -/
theorem iblk0_apply (c : Dev nD) (t : Fin cfg0.N) (r : Fin 1024) (k : Fin 2048) (p : Fin 4096) (hp : p.val = 1024 * (t.val / 8) + r.val) :
    (iblk m c 0 t : S1024x2048.Idx → EReal) (ix2 r k) = hArg m c (ix2 p k) := by
  rw [← found0]
  blk_simp [iblk]
  exact congrArg (V m c main_v0) (by blk_ext [index0])

/-- An element of a point's block of window 1. -/
theorem iblk1_apply (c : Dev nD) (t : Fin cfg0.N) (k : Fin 2048) (l : Fin 768) (q : Fin 6144) (hq : q.val = 768 * (t.val % 8) + l.val) :
    (iblk m c 1 t : S1x2048x768.Idx → EReal) (ix3 0 k l) = wArg m c (ix2 k q) := by
  rw [← found1 m c (⟨t.val % 8, by omega⟩ : Fin 8) k l q hq]
  blk_simp [iblk]
  exact congrArg (V m c main_v3) (by blk_ext [index1])

/-- An element of the block a point computes. -/
theorem out_apply (x : Vec Ideal S1024x2048 .bf16) (w : Vec Ideal S1x2048x768 .bf16) (r : Fin 1024) (l : Fin 768) :
    out0_2 (F := Ideal) x w (ix2 r l) = ∑ k : Fin 2048, x (ix2 r k) * w (ix3 0 k l) := by
  unfold out0_2
  rw [View.canon_unit_zero Products.zero2, View.ld_unit_zero Products.zero2, View.ld_unit_zero Products.zero3]
  pointwise [k0_pay1]

/-! ## The result array -/

/-- The blocks cover the result, and each is its block of the reference's result. -/
theorem final (c : Dev nD) : (dats m 0 c).arrAt 2 cfg0.N = (refOut (hArg m c) (wArg m c) : S4096x6144.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 768 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (hArg m c) (wArg m c)) (show _ = ix2 (⟨1024 * (t.val / 8) + (j 0).val, by omega⟩ : Fin 4096) (⟨768 * (t.val % 8) + (j 1).val, by omega⟩ : Fin 6144) by blk_ext [index2])).symm
  rw [refOut_apply]
  exact Finset.sum_congr rfl fun k _ => congrArg₂ (· * ·) (iblk0_apply m c t _ k _ rfl) (iblk1_apply m c t k _ _ rfl)

/-- Kernel and reference end with equal results. -/
theorem equal_results : Cert.algebraic_Kernel12Ideal_Reference12Ideal := fun m g m' g' _ hargs =>
  ⟨_, (θ_run defs _ _).mono (fun _ h c => ⟨(h c).1.trans (final m c), (h c).2⟩) (Cert.Kernel12Ideal.Value.run_blocks m g),
    (θ_run Cert.Reference12Ideal.defs _ _).mono (fun _ h c =>
      ⟨(h c).1.trans (by rw [(hargs c).1, (hargs c).2]; rfl), (h c).2⟩) (Cert.Reference12Ideal.Value.run m' g')⟩

end Cert.ConvIn

end
-- ==== Proof.ConvDwIn.lean ====
/-
  The gradient of the input projection's weight: over the extended reals the kernel's array is the
  input transposed times the output's gradient, element for element as the reference has it.
-/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.ConvDwIn

open Idealize.ShloMosaic Idealize.ShloMosaic.TcCoe Idealize.SL.Sem

/-! ## The reference -/

section Ref
open Cert.Reference13Ideal Cert.Reference13Ideal.Gen

/-- The product before its columns are grouped. -/
def prod (h : FVec Ideal S4096x2048 .f32) (g : FVec Ideal S4096x6144 .f32) : FVec Ideal S2048x6144 .f32 :=
  transpose S2048x6144 [1, 0] (Host.dotGeneral dot_S4096x6144_S4096x2048_S6144x2048_0_0_1_1_n_n none g h) transposes_S6144x2048_S2048x6144_1_0

/-- The reference's result, of its arguments. -/
def refOut (h : FVec Ideal S4096x2048 .f32) (g : FVec Ideal S4096x6144 .f32) : FVec Ideal S8x2048x768 .bf16 :=
  truncf .bf16 (transpose S8x2048x768 [1, 0, 2] (shapeCast S2048x8x768 (prod h g) shapeCasts_S2048x6144_S2048x8x768) transposes_S2048x8x768_S8x2048x768_1_0_2) bitsLt_bf16_f32

/-- A matrix with its columns in eight groups, an element at a time. -/
theorem groups_apply (x : FVec Ideal S2048x6144 .f32) (p : Fin 2048) (d : Fin 8) (e : Fin 768) (q : Fin 6144) (hq : q.val = 768 * d.val + e.val) :
    shapeCast S2048x8x768 x shapeCasts_S2048x6144_S2048x8x768 (ix3 p d e) = x (ix2 p q) := by
  pointwise []
  refine congrArg x (Shape.idx_ext₂ ?_ ?_)
  · have := e.isLt
    have := d.isLt
    simp
  · have := e.isLt
    simp
    omega

/-- An element of the product. -/
theorem prod_apply (h : FVec Ideal S4096x2048 .f32) (g : FVec Ideal S4096x6144 .f32) (p : Fin 2048) (q : Fin 6144) :
    prod h g (ix2 p q) = ∑ k : Fin 4096, g (ix2 k q) * h (ix2 k p) := by
  pointwise [prod]

/-- An element of the reference's result. -/
theorem refOut_apply (h : FVec Ideal S4096x2048 .f32) (g : FVec Ideal S4096x6144 .f32) (d : Fin 8) (p : Fin 2048) (e : Fin 768) (q : Fin 6144) (hq : q.val = 768 * d.val + e.val) :
    refOut h g (ix3 d p e) = ∑ k : Fin 4096, g (ix2 k q) * h (ix2 k p) := by
  rw [← prod_apply, ← groups_apply (prod h g) p d e q hq]
  unfold refOut
  generalize shapeCast S2048x8x768 (prod h g) shapeCasts_S2048x6144_S2048x8x768 = y
  pointwise []

/-- The reference's run: straight-line host code, which declares no counter. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

end Ref

open Cert.Kernel13Ideal Cert.Kernel13Ideal.Gen
open Idealize.ShloMosaic.Pipeline (Dat Window)

/-- The kernel as compiled. -/
theorem frame_kernel : Cert.quiescent_Kernel13 := fun m ρ _ => Cert.Kernel13.Gen.frame m ρ

/-- The idealized kernel. -/
theorem frame_ideal : Cert.quiescent_Kernel13Ideal := fun m ρ _ => Cert.Kernel13Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 16 := lt_of_lt_of_eq t.isLt N_0

/-- The input. -/
abbrev hArg (c : Dev nD) : S4096x2048.Idx → EReal := m ((c.tc : Thread nD τ).loc main_arg0)

/-- The output's gradient. -/
abbrev gArg (c : Dev nD) : S4096x6144.Idx → EReal := m ((c.tc : Thread nD τ).loc main_arg2)

/-- One of the arrays the call reads: an argument. -/
theorem found0 (c : Dev nD) : (V m c main_v0 : S4096x2048.Idx → EReal) = hArg m c := by
  unfold V
  simp only [hostOps0, List.flatten_cons, List.flatten_nil, List.append_nil, List.cons_append, List.nil_append]
  after_results
  rfl

/-- One of the arrays the call reads: an argument. -/
theorem found1 (c : Dev nD) : (V m c main_v1 : S4096x6144.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = 0 ∧ win0_0.index t 1 = t.val / 8 :=
  (by decide +kernel : ∀ t : Fin grid0.N, win0_0.index t 0 = 0 ∧ win0_0.index t 1 = t.val / 8)

/-- Where a window's block begins, in blocks, at every point. -/
theorem index1 : ∀ t : Fin cfg0.N, win0_1.index t 0 = 0 ∧ win0_1.index t 1 = t.val % 8 :=
  (by decide +kernel : ∀ t : Fin grid0.N, win0_1.index t 0 = 0 ∧ win0_1.index t 1 = t.val % 8)

/-- Where a window's block begins, in blocks, at every point. -/
theorem index2 : ∀ t : Fin cfg0.N, win0_2.index t 0 = t.val % 8 ∧ win0_2.index t 1 = t.val / 8 ∧ win0_2.index t 2 = 0 :=
  (by decide +kernel : ∀ t : Fin grid0.N, win0_2.index t 0 = t.val % 8 ∧ win0_2.index t 1 = t.val / 8 ∧ win0_2.index t 2 = 0)

/-- An element of a point's block of window 0. -/
theorem iblk0_apply (c : Dev nD) (t : Fin cfg0.N) (k : Fin 4096) (r : Fin 1024) (p : Fin 2048) (hp : p.val = 1024 * (t.val / 8) + r.val) :
    (iblk m c 0 t : S4096x1024.Idx → EReal) (ix2 k r) = hArg m c (ix2 k p) := by
  rw [← found0]
  blk_simp [iblk]
  exact congrArg (V m c main_v0) (by blk_ext [index0])

/-- An element of a point's block of window 1. -/
theorem iblk1_apply (c : Dev nD) (t : Fin cfg0.N) (k : Fin 4096) (l : Fin 768) (q : Fin 6144) (hq : q.val = 768 * (t.val % 8) + l.val) :
    (iblk m c 1 t : S4096x768.Idx → EReal) (ix2 k l) = gArg m c (ix2 k q) := by
  rw [← found1]
  blk_simp [iblk]
  exact congrArg (V m c main_v1) (by blk_ext [index1])

/-- An element of the block a point computes. -/
theorem out_apply (x : Vec Ideal S4096x1024 .bf16) (w : Vec Ideal S4096x768 .bf16) (z : Fin 1) (r : Fin 1024) (l : Fin 768) :
    out0_2 (F := Ideal) x w (ix3 z r l) = ∑ k : Fin 4096, x (ix2 k r) * w (ix2 k l) := by
  unfold out0_2
  rw [View.canon_unit_zero Products.zero3, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (hArg m c) (gArg m c) : S8x2048x768.Idx → EReal) := by
  refine (dats m 0 c).arrAt_eq_of_covers 2 _ (by decide +kernel) fun t hf j => ?_
  have ht := point_lt t
  blk_simp
  rw [after0_2]
  have h0 : (j 0).val < 1 := (j 0).isLt
  have h1 : (j 1).val < 1024 := (j 1).isLt
  have h2 : (j 2).val < 768 := (j 2).isLt
  refine (congrArg (out0_2 (iblk m c 0 t) (iblk m c 1 t)) (show j = ix3 (j 0) (j 1) (j 2) from Products.ext3 rfl rfl rfl)).trans ((out_apply _ _ _ _ _).trans ?_)
  refine Eq.trans ?_ (congrArg (refOut (hArg m c) (gArg m c)) (show _ = ix3 (⟨t.val % 8, by omega⟩ : Fin 8) (⟨1024 * (t.val / 8) + (j 1).val, by omega⟩ : Fin 2048) (⟨(j 2).val, by omega⟩ : Fin 768) by blk_ext [index2])).symm
  rw [refOut_apply _ _ _ _ _ (⟨768 * (t.val % 8) + (j 2).val, by omega⟩ : Fin 6144) rfl]
  exact Finset.sum_congr rfl fun k _ => Eq.trans (congrArg₂ (fun a b : EReal => a * b) (iblk0_apply m c t k _ _ rfl) (iblk1_apply m c t k _ _ rfl)) (mul_comm (_ : EReal) _)

/-- Kernel and reference end with equal results. -/
theorem equal_results : Cert.algebraic_Kernel13Ideal_Reference13Ideal := fun m g m' g' _ hargs =>
  ⟨_, (θ_run defs _ _).mono (fun _ h c => ⟨(h c).1.trans (final m c), (h c).2⟩) (Cert.Kernel13Ideal.Value.run_blocks m g),
    (θ_run Cert.Reference13Ideal.defs _ _).mono (fun _ h c =>
      ⟨(h c).1.trans (by rw [(hargs c).1, (hargs c).2.2]; rfl), (h c).2⟩) (Cert.Reference13Ideal.Value.run m' g')⟩

end Cert.ConvDwIn

end
-- ==== Proof.ConvDh.lean ====
/-
  The gradient of the convolution's input: over the extended reals the kernel's array is the
  product of the output's gradient with the weight transposed, element for element as the reference has it.
-/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry
public import Idealize.ShloMosaic.Lib.Pipeline.ValueKit.Tiles

@[expose] public section

set_option maxRecDepth 16384

noncomputable section

namespace Cert.ConvDh

open Idealize.ShloMosaic Idealize.ShloMosaic.TcCoe Idealize.SL.Sem

/-! ## The reference -/

section Ref
open Cert.Reference14Ideal Cert.Reference14Ideal.Gen

/-- The reference's result, of its arguments. -/
def refOut (w : FVec Ideal S2048x6144 .f32) (g : FVec Ideal S4096x6144 .f32) : FVec Ideal S4096x2048 .f32 :=
  Host.dotGeneral dot_S4096x6144_S2048x6144_S4096x2048_1_1_0_0_n_n none g w

/-- An element of the reference's result. -/
theorem refOut_apply (w : FVec Ideal S2048x6144 .f32) (g : FVec Ideal S4096x6144 .f32) (p : Fin 4096) (q : Fin 2048) :
    refOut w g (ix2 p q) = ∑ k : Fin 6144, g (ix2 p k) * w (ix2 q k) := by
  pointwise [refOut]

/-- The reference's run: straight-line host code, which declares no counter. -/
theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

end Ref

open Cert.Kernel14Ideal Cert.Kernel14Ideal.Gen
open Idealize.ShloMosaic.Pipeline (Dat Window)

/-- The kernel as compiled. -/
theorem frame_kernel : Cert.quiescent_Kernel14 := fun m ρ _ => Cert.Kernel14.Gen.frame m ρ

/-- The idealized kernel. -/
theorem frame_ideal : Cert.quiescent_Kernel14Ideal := fun m ρ _ => Cert.Kernel14Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 32 := lt_of_lt_of_eq t.isLt N_0

/-- The weight. -/
abbrev wArg (c : Dev nD) : S2048x6144.Idx → EReal := m ((c.tc : Thread nD τ).loc main_arg1)

/-- The output's gradient. -/
abbrev gArg (c : Dev nD) : S4096x6144.Idx → EReal := m ((c.tc : Thread nD τ).loc main_arg2)

/-- One of the arrays the call reads: an argument. -/
theorem found0 (c : Dev nD) : (V m c main_v0 : S4096x6144.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = t.val / 4 ∧ win0_0.index t 1 = 0 :=
  (by decide +kernel : ∀ t : Fin grid0.N, win0_0.index t 0 = t.val / 4 ∧ win0_0.index t 1 = 0)

/-- The weight the call reads: its columns in eight groups. -/
theorem found1 (c : Dev nD) (d : Fin 8) (k : Fin 2048) (l : Fin 768) (q : Fin 6144) (hq : q.val = 768 * d.val + l.val) :
    (V m c main_v3 : S8x2048x768.Idx → EReal) (ix3 d k l) = wArg m c (ix2 k q) := by
  have e : (V m c main_v3 : S8x2048x768.Idx → EReal) = (truncf .bf16 (transpose S8x2048x768 [1, 0, 2] (shapeCast S2048x8x768 (wArg m c : FVec Ideal S2048x6144 .f32) shapeCasts_S2048x6144_S2048x8x768) transposes_S2048x8x768_S8x2048x768_1_0_2) bitsLt_bf16_f32 : FVec Ideal S8x2048x768 .bf16) := by
    unfold V
    simp only [hostOps0, List.flatten_cons, List.flatten_nil, List.append_nil, List.cons_append, List.nil_append]
    after_results
    rfl
  rw [e]
  pointwise []
  refine congrArg (wArg m c) (Shape.idx_ext₂ ?_ ?_)
  · have := l.isLt
    have := d.isLt
    simp
  · have := l.isLt
    simp
    omega

/-- Where a window's block begins, in blocks, at every point. -/
theorem index1 : ∀ t : Fin cfg0.N, win0_1.index t 0 = 0 ∧ win0_1.index t 1 = t.val % 4 ∧ win0_1.index t 2 = 0 :=
  (by decide +kernel : ∀ t : Fin grid0.N, win0_1.index t 0 = 0 ∧ win0_1.index t 1 = t.val % 4 ∧ win0_1.index t 2 = 0)

/-- Where a window's block begins, in blocks, at every point. -/
theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

/-- An element of a point's block of window 0. -/
theorem iblk0_apply (c : Dev nD) (t : Fin cfg0.N) (r : Fin 512) (k : Fin 6144) (p : Fin 4096) (hp : p.val = 512 * (t.val / 4) + r.val) :
    (iblk m c 0 t : S512x6144.Idx → EReal) (ix2 r k) = gArg m c (ix2 p k) := by
  rw [← found0]
  blk_simp [iblk]
  exact congrArg (V m c main_v0) (by blk_ext [index0])

/-- An element of a point's block of window 1. -/
theorem iblk1_apply (c : Dev nD) (t : Fin cfg0.N) (d : Fin 8) (l : Fin 512) (k : Fin 768) (q : Fin 2048) (hq : q.val = 512 * (t.val % 4) + l.val) :
    (iblk m c 1 t : S8x512x768.Idx → EReal) (ix3 d l k) = wArg m c (ix2 q (Products.col d k)) := by
  rw [← found1 m c d q k (Products.col d k) rfl]
  blk_simp [iblk]
  exact congrArg (V m c main_v3) (by blk_ext [index1])

/-- An element of the sum of eight products. -/
theorem pay_apply (a0 a1 a2 a3 a4 a5 a6 a7 : Vec Ideal S512x768 .bf16) (b0 b1 b2 b3 b4 b5 b6 b7 : Vec Ideal S1x512x768 .bf16) (r l : Fin 512) :
    k0_pay1 (F := Ideal) (k0_pay2 a0 b0 a1 b1 a2 b2 a3 b3) (k0_pay3 a4 b4) a5 b5 a6 b6 a7 b7 (ix2 r l)
      = (∑ k : Fin 768, a0 (ix2 r k) * b0 (ix3 0 l k)) + (∑ k : Fin 768, a1 (ix2 r k) * b1 (ix3 0 l k)) + (∑ k : Fin 768, a2 (ix2 r k) * b2 (ix3 0 l k)) + (∑ k : Fin 768, a3 (ix2 r k) * b3 (ix3 0 l k)) + (∑ k : Fin 768, a4 (ix2 r k) * b4 (ix3 0 l k)) + (∑ k : Fin 768, a5 (ix2 r k) * b5 (ix3 0 l k)) + (∑ k : Fin 768, a6 (ix2 r k) * b6 (ix3 0 l k)) + (∑ k : Fin 768, a7 (ix2 r k) * b7 (ix3 0 l k)) := by
  pointwise [k0_pay1, k0_pay2, k0_pay3]

/-- One of the eight products, of the whole blocks. -/
theorem part (x : Vec Ideal S512x6144 .bf16) (w : Vec Ideal S8x512x768 .bf16) (r l : Fin 512) (d : Fin 8)
    (o : Fin 2 → Nat) (ho : o = ![0, 768 * d.val]) (i0 : ∀ a, o a + S512x768.size a ≤ S512x6144.size a)
    (o' : Fin 3 → Nat) (ho' : o' = ![d.val, 0, 0]) (i1 : ∀ a, o' a + S1x512x768.size a ≤ S8x512x768.size a) :
    ∑ k : Fin 768, (View.ld (Val := Elt Ideal) (e' := .bf16) x (Rect.unit (s := S512x6144) o S512x768.size i0) : S512x768.Idx → EReal) (ix2 r k)
        * (View.ld (Val := Elt Ideal) (e' := .bf16) w (Rect.unit (s := S8x512x768) o' S1x512x768.size i1) : S1x512x768.Idx → EReal) (ix3 0 l k)
      = ∑ k : Fin 768, (x (ix2 r (Products.col d k)) : EReal) * w (ix3 d l k) := by
  subst ho ho'
  refine Finset.sum_congr rfl fun k _ => congrArg₂ (· * ·) ?_ ?_
  · refine View.ld_unit_apply_of x _ _ _ _ _ fun a => ?_
    match a with
    | ⟨0, _⟩ => show r.val = 0 + r.val; omega
    | ⟨1, _⟩ => rfl
  · refine View.ld_unit_apply_of w _ _ _ _ _ fun a => ?_
    match a with
    | ⟨0, _⟩ => show d.val = d.val + 0; omega
    | ⟨1, _⟩ => show l.val = 0 + l.val; omega
    | ⟨2, _⟩ => show k.val = 0 + k.val; omega

/-- An element of the block a point computes. -/
theorem out_apply (x : Vec Ideal S512x6144 .bf16) (w : Vec Ideal S8x512x768 .bf16) (z : Vec Ideal S8x128 .f32) (r l : Fin 512) :
    out0_3 (F := Ideal) x w z (ix2 r l) = ∑ d : Fin 8, ∑ k : Fin 768, x (ix2 r (Products.col d k)) * w (ix3 d l k) := by
  unfold out0_3
  rw [View.canon_unit_zero Products.zero2]
  refine (pay_apply _ _ _ _ _ _ _ _ _ _ _ _ _ _ _ _ r l).trans ?_
  rw [Fin.sum_univ_eight]
  exact congrArg₂ (· + ·) (congrArg₂ (· + ·) (congrArg₂ (· + ·) (congrArg₂ (· + ·) (congrArg₂ (· + ·) (congrArg₂ (· + ·) (congrArg₂ (· + ·)
    (part x w r l 0 _ rfl _ _ rfl _) (part x w r l 1 _ rfl _ _ rfl _)) (part x w r l 2 _ rfl _ _ rfl _)) (part x w r l 3 _ rfl _ _ rfl _)) (part x w r l 4 _ rfl _ _ rfl _)) (part x w r l 5 _ rfl _ _ rfl _)) (part x w r l 6 _ rfl _ _ rfl _)) (part x w r l 7 _ rfl _ _ rfl _)

/-! ## The result array -/

/-- The blocks cover the result, and each is its block of the reference's result. -/
theorem final (c : Dev nD) : (dats m 0 c).arrAt 3 cfg0.N = (refOut (wArg m c) (gArg m c) : S4096x2048.Idx → EReal) := by
  refine (dats m 0 c).arrAt_eq_of_covers 3 _ (by decide +kernel) fun t hf j => ?_
  have ht := point_lt t
  blk_simp
  rw [after0_3]
  have h0 : (j 0).val < 512 := (j 0).isLt
  have h1 : (j 1).val < 512 := (j 1).isLt
  refine (congrArg (out0_3 (iblk m c 0 t) (iblk m c 1 t) (iblk m c 2 t)) (show j = ix2 (j 0) (j 1) from Shape.idx_ext₂ rfl rfl)).trans ((out_apply _ _ _ _ _).trans ?_)
  refine Eq.trans ?_ (congrArg (refOut (wArg m c) (gArg m c)) (show _ = ix2 (⟨512 * (t.val / 4) + (j 0).val, by omega⟩ : Fin 4096) (⟨512 * (t.val % 4) + (j 1).val, by omega⟩ : Fin 2048) by blk_ext [index3])).symm
  rw [refOut_apply]
  refine Eq.trans ?_ (Products.sum_groups (d := 8) (n := 768) _).symm
  exact Finset.sum_congr rfl fun d _ => Finset.sum_congr rfl fun k _ => congrArg₂ (· * ·) (iblk0_apply m c t _ _ _ rfl) (iblk1_apply m c t d _ k _ rfl)

/-- Kernel and reference end with equal results. -/
theorem equal_results : Cert.algebraic_Kernel14Ideal_Reference14Ideal := fun m g m' g' _ hargs =>
  ⟨_, (θ_run defs _ _).mono (fun _ h c => ⟨(h c).1.trans (final m c), (h c).2⟩) (Cert.Kernel14Ideal.Value.run_blocks m g),
    (θ_run Cert.Reference14Ideal.defs _ _).mono (fun _ h c =>
      ⟨(h c).1.trans (by rw [(hargs c).2.1, (hargs c).2.2]; rfl), (h c).2⟩) (Cert.Reference14Ideal.Value.run m' g')⟩

end Cert.ConvDh

end
-- ==== Proof.MlaDo.lean ====
/-
  The gradient of the attention's output: over the extended reals the kernel's array is the
  product of the output's gradient with the weight transposed, element for element as the reference has it.
-/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlaDo

open Idealize.ShloMosaic Idealize.ShloMosaic.TcCoe Idealize.SL.Sem

/-! ## The reference -/

section Ref
open Cert.Reference15Ideal Cert.Reference15Ideal.Gen

/-- The reference's result, of its arguments. -/
def refOut (w : FVec Ideal S2048x2048 .f32) (g : FVec Ideal S4096x2048 .f32) : FVec Ideal S4096x2048 .bf16 :=
  truncf .bf16 (Host.dotGeneral dot_S4096x2048_S2048x2048_S4096x2048_1_1_0_0_n_n none g w : FVec Ideal S4096x2048 .f32) bitsLt_bf16_f32

/-- An element of the reference's result. -/
theorem refOut_apply (w : FVec Ideal S2048x2048 .f32) (g : FVec Ideal S4096x2048 .f32) (p : Fin 4096) (q : Fin 2048) :
    refOut w g (ix2 p q) = ∑ k : Fin 2048, g (ix2 p k) * w (ix2 q k) := by
  pointwise [refOut]

/-- The reference's run: straight-line host code, which declares no counter. -/
theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

end Ref

open Cert.Kernel15Ideal Cert.Kernel15Ideal.Gen
open Idealize.ShloMosaic.Pipeline (Dat Window)

/-- The kernel as compiled. -/
theorem frame_kernel : Cert.quiescent_Kernel15 := fun m ρ _ => Cert.Kernel15.Gen.frame m ρ

/-- The idealized kernel. -/
theorem frame_ideal : Cert.quiescent_Kernel15Ideal := fun m ρ _ => Cert.Kernel15Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 8 := lt_of_lt_of_eq t.isLt N_0

/-- The weight. -/
abbrev wArg (c : Dev nD) : S2048x2048.Idx → EReal := m ((c.tc : Thread nD τ).loc main_arg1)

/-- The output's gradient. -/
abbrev gArg (c : Dev nD) : S4096x2048.Idx → EReal := m ((c.tc : Thread nD τ).loc main_arg2)

/-- One of the arrays the call reads: an argument. -/
theorem found0 (c : Dev nD) : (V m c main_v0 : S4096x2048.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = t.val / 2 ∧ win0_0.index t 1 = 0 :=
  (by decide +kernel : ∀ t : Fin grid0.N, win0_0.index t 0 = t.val / 2 ∧ win0_0.index t 1 = 0)

/-- One of the arrays the call reads: an argument. -/
theorem found1 (c : Dev nD) : (V m c main_v1 : S2048x2048.Idx → EReal) = wArg m c := by
  unfold V
  simp only [hostOps0, List.flatten_cons, List.flatten_nil, List.append_nil, List.cons_append, List.nil_append]
  after_results
  rfl

/-- Where a window's block begins, in blocks, at every point. -/
theorem index1 : ∀ t : Fin cfg0.N, win0_1.index t 0 = t.val % 2 ∧ win0_1.index t 1 = 0 :=
  (by decide +kernel : ∀ t : Fin grid0.N, win0_1.index t 0 = t.val % 2 ∧ win0_1.index t 1 = 0)

/-- Where a window's block begins, in blocks, at every point. -/
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- An element of a point's block of window 0. -/
theorem iblk0_apply (c : Dev nD) (t : Fin cfg0.N) (r : Fin 1024) (k : Fin 2048) (p : Fin 4096) (hp : p.val = 1024 * (t.val / 2) + r.val) :
    (iblk m c 0 t : S1024x2048.Idx → EReal) (ix2 r k) = gArg m c (ix2 p k) := by
  rw [← found0]
  blk_simp [iblk]
  exact congrArg (V m c main_v0) (by blk_ext [index0])

/-- An element of a point's block of window 1. -/
theorem iblk1_apply (c : Dev nD) (t : Fin cfg0.N) (l : Fin 1024) (k : Fin 2048) (q : Fin 2048) (hq : q.val = 1024 * (t.val % 2) + l.val) :
    (iblk m c 1 t : S1024x2048.Idx → EReal) (ix2 l k) = wArg m c (ix2 q k) := by
  rw [← found1]
  blk_simp [iblk]
  exact congrArg (V m c main_v1) (by blk_ext [index1])

/-- An element of the block a point computes. -/
theorem out_apply (x : Vec Ideal S1024x2048 .bf16) (w : Vec Ideal S1024x2048 .bf16) (r : Fin 1024) (l : Fin 1024) :
    out0_2 (F := Ideal) x w (ix2 r l) = ∑ k : Fin 2048, x (ix2 r k) * w (ix2 l k) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (wArg m c) (gArg m c) : S4096x2048.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 1024 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (wArg m c) (gArg m c)) (show _ = ix2 (⟨1024 * (t.val / 2) + (j 0).val, by omega⟩ : Fin 4096) (⟨1024 * (t.val % 2) + (j 1).val, by omega⟩ : Fin 2048) by blk_ext [index2])).symm
  rw [refOut_apply]
  exact Finset.sum_congr rfl fun k _ => congrArg₂ (· * ·) (iblk0_apply m c t _ k _ rfl) (iblk1_apply m c t _ k _ rfl)

/-- Kernel and reference end with equal results. -/
theorem equal_results : Cert.algebraic_Kernel15Ideal_Reference15Ideal := fun m g m' g' _ hargs =>
  ⟨_, (θ_run defs _ _).mono (fun _ h c => ⟨(h c).1.trans (final m c), (h c).2⟩) (Cert.Kernel15Ideal.Value.run_blocks m g),
    (θ_run Cert.Reference15Ideal.defs _ _).mono (fun _ h c =>
      ⟨(h c).1.trans (by rw [(hargs c).2.1, (hargs c).2.2]; rfl), (h c).2⟩) (Cert.Reference15Ideal.Value.run m' g')⟩

end Cert.MlaDo

end
-- ==== Proof.MlaKv.lean ====
/-
  The keys and values from their latent: over the extended reals the kernel's array is the
  product of its arguments, element for element as the reference has it.
-/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlaKv

open Idealize.ShloMosaic Idealize.ShloMosaic.TcCoe Idealize.SL.Sem

/-! ## The reference -/

section Ref
open Cert.Reference16Ideal Cert.Reference16Ideal.Gen

/-- The reference's result, of its arguments. -/
def refOut (h : FVec Ideal S4096x512 .f32) (w : FVec Ideal S512x4096 .f32) : FVec Ideal S4096x4096 .bf16 :=
  truncf .bf16 (Host.dotGeneral dot_S4096x512_S512x4096_S4096x4096_1_0_0_1_n_n none h w : FVec Ideal S4096x4096 .f32) bitsLt_bf16_f32

/-- An element of the reference's result. -/
theorem refOut_apply (h : FVec Ideal S4096x512 .f32) (w : FVec Ideal S512x4096 .f32) (p : Fin 4096) (q : Fin 4096) :
    refOut h w (ix2 p q) = ∑ k : Fin 512, h (ix2 p k) * w (ix2 k q) := by
  pointwise [refOut]

/-- The reference's run: straight-line host code, which declares no counter. -/
theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

end Ref

open Cert.Kernel16Ideal Cert.Kernel16Ideal.Gen
open Idealize.ShloMosaic.Pipeline (Dat Window)

/-- The kernel as compiled. -/
theorem frame_kernel : Cert.quiescent_Kernel16 := fun m ρ _ => Cert.Kernel16.Gen.frame m ρ

/-- The idealized kernel. -/
theorem frame_ideal : Cert.quiescent_Kernel16Ideal := fun m ρ _ => Cert.Kernel16Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 16 := lt_of_lt_of_eq t.isLt N_0

/-- The first factor. -/
abbrev hArg (c : Dev nD) : S4096x512.Idx → EReal := m ((c.tc : Thread nD τ).loc main_arg0)

/-- The weight. -/
abbrev wArg (c : Dev nD) : S512x4096.Idx → EReal := m ((c.tc : Thread nD τ).loc main_arg1)

/-- One of the arrays the call reads: an argument. -/
theorem found0 (c : Dev nD) : (V m c main_v0 : S4096x512.Idx → EReal) = hArg m c := by
  unfold V
  simp only [hostOps0, List.flatten_cons, List.flatten_nil, List.append_nil, List.cons_append, List.nil_append]
  after_results
  rfl

/-- One of the arrays the call reads: an argument. -/
theorem found1 (c : Dev nD) : (V m c main_v1 : S512x4096.Idx → EReal) = wArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = t.val / 4 ∧ win0_0.index t 1 = 0 :=
  (by decide +kernel : ∀ t : Fin grid0.N, win0_0.index t 0 = t.val / 4 ∧ win0_0.index t 1 = 0)

/-- Where a window's block begins, in blocks, at every point. -/
theorem index1 : ∀ t : Fin cfg0.N, win0_1.index t 0 = 0 ∧ win0_1.index t 1 = t.val % 4 :=
  (by decide +kernel : ∀ t : Fin grid0.N, win0_1.index t 0 = 0 ∧ win0_1.index t 1 = t.val % 4)

/-- Where a window's block begins, in blocks, at every point. -/
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- An element of a point's block of window 0. -/
theorem iblk0_apply (c : Dev nD) (t : Fin cfg0.N) (r : Fin 1024) (k : Fin 512) (p : Fin 4096) (hp : p.val = 1024 * (t.val / 4) + r.val) :
    (iblk m c 0 t : S1024x512.Idx → EReal) (ix2 r k) = hArg m c (ix2 p k) := by
  rw [← found0]
  blk_simp [iblk]
  exact congrArg (V m c main_v0) (by blk_ext [index0])

/-- An element of a point's block of window 1. -/
theorem iblk1_apply (c : Dev nD) (t : Fin cfg0.N) (k : Fin 512) (l : Fin 1024) (q : Fin 4096) (hq : q.val = 1024 * (t.val % 4) + l.val) :
    (iblk m c 1 t : S512x1024.Idx → EReal) (ix2 k l) = wArg m c (ix2 k q) := by
  rw [← found1]
  blk_simp [iblk]
  exact congrArg (V m c main_v1) (by blk_ext [index1])

/-- An element of the block a point computes. -/
theorem out_apply (x : Vec Ideal S1024x512 .bf16) (w : Vec Ideal S512x1024 .bf16) (r : Fin 1024) (l : Fin 1024) :
    out0_2 (F := Ideal) x w (ix2 r l) = ∑ k : Fin 512, x (ix2 r k) * w (ix2 k l) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (hArg m c) (wArg m c) : S4096x4096.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 1024 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (hArg m c) (wArg m c)) (show _ = ix2 (⟨1024 * (t.val / 4) + (j 0).val, by omega⟩ : Fin 4096) (⟨1024 * (t.val % 4) + (j 1).val, by omega⟩ : Fin 4096) by blk_ext [index2])).symm
  rw [refOut_apply]
  exact Finset.sum_congr rfl fun k _ => congrArg₂ (· * ·) (iblk0_apply m c t _ k _ rfl) (iblk1_apply m c t k _ _ rfl)

/-- Kernel and reference end with equal results. -/
theorem equal_results : Cert.algebraic_Kernel16Ideal_Reference16Ideal := fun m g m' g' _ hargs =>
  ⟨_, (θ_run defs _ _).mono (fun _ h c => ⟨(h c).1.trans (final m c), (h c).2⟩) (Cert.Kernel16Ideal.Value.run_blocks m g),
    (θ_run Cert.Reference16Ideal.defs _ _).mono (fun _ h c =>
      ⟨(h c).1.trans (by rw [(hargs c).1, (hargs c).2]; rfl), (h c).2⟩) (Cert.Reference16Ideal.Value.run m' g')⟩

end Cert.MlaKv

end
-- ==== Proof.MlaDckv.lean ====
/-
  The gradient of the keys' and values' latent: over the extended reals the kernel's array is the
  product of the output's gradient with the weight transposed, element for element as the reference has it.
-/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlaDckv

open Idealize.ShloMosaic Idealize.ShloMosaic.TcCoe Idealize.SL.Sem

/-! ## The reference -/

section Ref
open Cert.Reference17Ideal Cert.Reference17Ideal.Gen

/-- The reference's result, of its arguments. -/
def refOut (w : FVec Ideal S512x4096 .f32) (g : FVec Ideal S4096x4096 .f32) : FVec Ideal S4096x512 .f32 :=
  Host.dotGeneral dot_S4096x4096_S512x4096_S4096x512_1_1_0_0_n_n none g w

/-- An element of the reference's result. -/
theorem refOut_apply (w : FVec Ideal S512x4096 .f32) (g : FVec Ideal S4096x4096 .f32) (p : Fin 4096) (q : Fin 512) :
    refOut w g (ix2 p q) = ∑ k : Fin 4096, g (ix2 p k) * w (ix2 q k) := by
  pointwise [refOut]

/-- The reference's run: straight-line host code, which declares no counter. -/
theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run m ρ)

end Ref

open Cert.Kernel17Ideal Cert.Kernel17Ideal.Gen
open Idealize.ShloMosaic.Pipeline (Dat Window)

/-- The kernel as compiled. -/
theorem frame_kernel : Cert.quiescent_Kernel17 := fun m ρ _ => Cert.Kernel17.Gen.frame m ρ

/-- The idealized kernel. -/
theorem frame_ideal : Cert.quiescent_Kernel17Ideal := fun m ρ _ => Cert.Kernel17Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 4 := lt_of_lt_of_eq t.isLt N_0

/-- The weight. -/
abbrev wArg (c : Dev nD) : S512x4096.Idx → EReal := m ((c.tc : Thread nD τ).loc main_arg1)

/-- The output's gradient. -/
abbrev gArg (c : Dev nD) : S4096x4096.Idx → EReal := m ((c.tc : Thread nD τ).loc main_arg2)

/-- One of the arrays the call reads: an argument. -/
theorem found0 (c : Dev nD) : (V m c main_v0 : S4096x4096.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = t.val / 1 ∧ win0_0.index t 1 = 0 :=
  (by decide +kernel : ∀ t : Fin grid0.N, win0_0.index t 0 = t.val / 1 ∧ win0_0.index t 1 = 0)

/-- One of the arrays the call reads: an argument. -/
theorem found1 (c : Dev nD) : (V m c main_v1 : S512x4096.Idx → EReal) = wArg m c := by
  unfold V
  simp only [hostOps0, List.flatten_cons, List.flatten_nil, List.append_nil, List.cons_append, List.nil_append]
  after_results
  rfl

/-- Where a window's block begins, in blocks, at every point. -/
theorem index1 : ∀ t : Fin cfg0.N, win0_1.index t 0 = t.val % 1 ∧ win0_1.index t 1 = 0 :=
  (by decide +kernel : ∀ t : Fin grid0.N, win0_1.index t 0 = t.val % 1 ∧ win0_1.index t 1 = 0)

/-- Where a window's block begins, in blocks, at every point. -/
theorem index2 : ∀ t : Fin cfg0.N, win0_2.index t 0 = t.val / 1 ∧ win0_2.index t 1 = t.val % 1 :=
  (by decide +kernel : ∀ t : Fin grid0.N, win0_2.index t 0 = t.val / 1 ∧ win0_2.index t 1 = t.val % 1)

/-- An element of a point's block of window 0. -/
theorem iblk0_apply (c : Dev nD) (t : Fin cfg0.N) (r : Fin 1024) (k : Fin 4096) (p : Fin 4096) (hp : p.val = 1024 * (t.val / 1) + r.val) :
    (iblk m c 0 t : S1024x4096.Idx → EReal) (ix2 r k) = gArg m c (ix2 p k) := by
  rw [← found0]
  blk_simp [iblk]
  exact congrArg (V m c main_v0) (by blk_ext [index0])

/-- An element of a point's block of window 1. -/
theorem iblk1_apply (c : Dev nD) (t : Fin cfg0.N) (l : Fin 512) (k : Fin 4096) (q : Fin 512) (hq : q.val = 512 * (t.val % 1) + l.val) :
    (iblk m c 1 t : S512x4096.Idx → EReal) (ix2 l k) = wArg m c (ix2 q k) := by
  rw [← found1]
  blk_simp [iblk]
  exact congrArg (V m c main_v1) (by blk_ext [index1])

/-- An element of the block a point computes. -/
theorem out_apply (x : Vec Ideal S1024x4096 .bf16) (w : Vec Ideal S512x4096 .bf16) (r : Fin 1024) (l : Fin 512) :
    out0_2 (F := Ideal) x w (ix2 r l) = ∑ k : Fin 4096, x (ix2 r k) * w (ix2 l k) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (wArg m c) (gArg m c) : S4096x512.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 512 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (wArg m c) (gArg m c)) (show _ = ix2 (⟨1024 * (t.val / 1) + (j 0).val, by omega⟩ : Fin 4096) (⟨512 * (t.val % 1) + (j 1).val, by omega⟩ : Fin 512) by blk_ext [index2])).symm
  rw [refOut_apply]
  exact Finset.sum_congr rfl fun k _ => congrArg₂ (· * ·) (iblk0_apply m c t _ k _ rfl) (iblk1_apply m c t _ k _ rfl)

/-- Kernel and reference end with equal results. -/
theorem equal_results : Cert.algebraic_Kernel17Ideal_Reference17Ideal := fun m g m' g' _ hargs =>
  ⟨_, (θ_run defs _ _).mono (fun _ h c => ⟨(h c).1.trans (final m c), (h c).2⟩) (Cert.Kernel17Ideal.Value.run_blocks m g),
    (θ_run Cert.Reference17Ideal.defs _ _).mono (fun _ h c =>
      ⟨(h c).1.trans (by rw [(hargs c).2.1, (hargs c).2.2]; rfl), (h c).2⟩) (Cert.Reference17Ideal.Value.run m' g')⟩

end Cert.MlaDckv

end
-- ==== Proof.MlaDwUkv.lean ====
/-
  The gradient of the weight of the keys and values: over the extended reals the kernel's array is the
  input transposed times the output's gradient, element for element as the reference has it.
-/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlaDwUkv

open Idealize.ShloMosaic Idealize.ShloMosaic.TcCoe Idealize.SL.Sem

/-! ## The reference -/

section Ref
open Cert.Reference18Ideal Cert.Reference18Ideal.Gen

/-- The reference's result, of its arguments. -/
def refOut (h : FVec Ideal S4096x512 .f32) (g : FVec Ideal S4096x4096 .f32) : FVec Ideal S512x4096 .bf16 :=
  truncf .bf16 (transpose S512x4096 [1, 0] (Host.dotGeneral dot_S4096x4096_S4096x512_S4096x512_0_0_1_1_n_n none g h) transposes_S4096x512_S512x4096_1_0) bitsLt_bf16_f32

/-- An element of the reference's result. -/
theorem refOut_apply (h : FVec Ideal S4096x512 .f32) (g : FVec Ideal S4096x4096 .f32) (p : Fin 512) (q : Fin 4096) :
    refOut h g (ix2 p q) = ∑ k : Fin 4096, g (ix2 k q) * h (ix2 k p) := by
  pointwise [refOut]

/-- The reference's run: straight-line host code, which declares no counter. -/
theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run m ρ)

end Ref

open Cert.Kernel18Ideal Cert.Kernel18Ideal.Gen
open Idealize.ShloMosaic.Pipeline (Dat Window)

/-- The kernel as compiled. -/
theorem frame_kernel : Cert.quiescent_Kernel18 := fun m ρ _ => Cert.Kernel18.Gen.frame m ρ

/-- The idealized kernel. -/
theorem frame_ideal : Cert.quiescent_Kernel18Ideal := fun m ρ _ => Cert.Kernel18Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 4 := lt_of_lt_of_eq t.isLt N_0

/-- The input. -/
abbrev hArg (c : Dev nD) : S4096x512.Idx → EReal := m ((c.tc : Thread nD τ).loc main_arg0)

/-- The output's gradient. -/
abbrev gArg (c : Dev nD) : S4096x4096.Idx → EReal := m ((c.tc : Thread nD τ).loc main_arg2)

/-- One of the arrays the call reads: an argument. -/
theorem found0 (c : Dev nD) : (V m c main_v0 : S4096x512.Idx → EReal) = hArg m c := by
  unfold V
  simp only [hostOps0, List.flatten_cons, List.flatten_nil, List.append_nil, List.cons_append, List.nil_append]
  after_results
  rfl

/-- One of the arrays the call reads: an argument. -/
theorem found1 (c : Dev nD) : (V m c main_v1 : S4096x4096.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = 0 ∧ win0_0.index t 1 = t.val / 4 :=
  (by decide +kernel : ∀ t : Fin grid0.N, win0_0.index t 0 = 0 ∧ win0_0.index t 1 = t.val / 4)

/-- Where a window's block begins, in blocks, at every point. -/
theorem index1 : ∀ t : Fin cfg0.N, win0_1.index t 0 = 0 ∧ win0_1.index t 1 = t.val % 4 :=
  (by decide +kernel : ∀ t : Fin grid0.N, win0_1.index t 0 = 0 ∧ win0_1.index t 1 = t.val % 4)

/-- Where a window's block begins, in blocks, at every point. -/
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- An element of a point's block of window 0. -/
theorem iblk0_apply (c : Dev nD) (t : Fin cfg0.N) (k : Fin 4096) (r : Fin 512) (p : Fin 512) (hp : p.val = 512 * (t.val / 4) + r.val) :
    (iblk m c 0 t : S4096x512.Idx → EReal) (ix2 k r) = hArg m c (ix2 k p) := by
  rw [← found0]
  blk_simp [iblk]
  exact congrArg (V m c main_v0) (by blk_ext [index0])

/-- An element of a point's block of window 1. -/
theorem iblk1_apply (c : Dev nD) (t : Fin cfg0.N) (k : Fin 4096) (l : Fin 1024) (q : Fin 4096) (hq : q.val = 1024 * (t.val % 4) + l.val) :
    (iblk m c 1 t : S4096x1024.Idx → EReal) (ix2 k l) = gArg m c (ix2 k q) := by
  rw [← found1]
  blk_simp [iblk]
  exact congrArg (V m c main_v1) (by blk_ext [index1])

/-- An element of the block a point computes. -/
theorem out_apply (x : Vec Ideal S4096x512 .bf16) (w : Vec Ideal S4096x1024 .bf16) (r : Fin 512) (l : Fin 1024) :
    out0_2 (F := Ideal) x w (ix2 r l) = ∑ k : Fin 4096, x (ix2 k r) * w (ix2 k l) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (hArg m c) (gArg m c) : S512x4096.Idx → EReal) := by
  refine (dats m 0 c).arrAt_eq_of_covers 2 _ (by decide +kernel) fun t hf j => ?_
  have ht := point_lt t
  blk_simp
  rw [after0_2]
  have h0 : (j 0).val < 512 := (j 0).isLt
  have h1 : (j 1).val < 1024 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (hArg m c) (gArg m c)) (show _ = ix2 (⟨512 * (t.val / 4) + (j 0).val, by omega⟩ : Fin 512) (⟨1024 * (t.val % 4) + (j 1).val, by omega⟩ : Fin 4096) by blk_ext [index2])).symm
  rw [refOut_apply]
  exact Finset.sum_congr rfl fun k _ => Eq.trans (congrArg₂ (fun a b : EReal => a * b) (iblk0_apply m c t k _ _ rfl) (iblk1_apply m c t k _ _ rfl)) (mul_comm (_ : EReal) _)

/-- Kernel and reference end with equal results. -/
theorem equal_results : Cert.algebraic_Kernel18Ideal_Reference18Ideal := fun m g m' g' _ hargs =>
  ⟨_, (θ_run defs _ _).mono (fun _ h c => ⟨(h c).1.trans (final m c), (h c).2⟩) (Cert.Kernel18Ideal.Value.run_blocks m g),
    (θ_run Cert.Reference18Ideal.defs _ _).mono (fun _ h c =>
      ⟨(h c).1.trans (by rw [(hargs c).1, (hargs c).2.2]; rfl), (h c).2⟩) (Cert.Reference18Ideal.Value.run m' g')⟩

end Cert.MlaDwUkv

end
-- ==== Proof.MlaLat.lean ====
/-
  The projection to the latents: over the extended reals the kernel's array is the
  product of its arguments, element for element as the reference has it.
-/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlaLat

open Idealize.ShloMosaic Idealize.ShloMosaic.TcCoe Idealize.SL.Sem

/-! ## The reference -/

section Ref
open Cert.Reference19Ideal Cert.Reference19Ideal.Gen

/-- The reference's result, of its arguments. -/
def refOut (h : FVec Ideal S4096x2048 .f32) (w : FVec Ideal S2048x1152 .f32) : FVec Ideal S4096x1152 .f32 :=
  Host.dotGeneral dot_S4096x2048_S2048x1152_S4096x1152_1_0_0_1_n_n none h w

/-- An element of the reference's result. -/
theorem refOut_apply (h : FVec Ideal S4096x2048 .f32) (w : FVec Ideal S2048x1152 .f32) (p : Fin 4096) (q : Fin 1152) :
    refOut h w (ix2 p q) = ∑ k : Fin 2048, h (ix2 p k) * w (ix2 k q) := by
  pointwise [refOut]

/-- The reference's run: straight-line host code, which declares no counter. -/
theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

end Ref

open Cert.Kernel19Ideal Cert.Kernel19Ideal.Gen
open Idealize.ShloMosaic.Pipeline (Dat Window)

/-- The kernel as compiled. -/
theorem frame_kernel : Cert.quiescent_Kernel19 := fun m ρ _ => Cert.Kernel19.Gen.frame m ρ

/-- The idealized kernel. -/
theorem frame_ideal : Cert.quiescent_Kernel19Ideal := fun m ρ _ => Cert.Kernel19Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 12 := lt_of_lt_of_eq t.isLt N_0

/-- The first factor. -/
abbrev hArg (c : Dev nD) : S4096x2048.Idx → EReal := m ((c.tc : Thread nD τ).loc main_arg0)

/-- The weight. -/
abbrev wArg (c : Dev nD) : S2048x1152.Idx → EReal := m ((c.tc : Thread nD τ).loc main_arg1)

/-- One of the arrays the call reads: an argument. -/
theorem found0 (c : Dev nD) : (V m c main_v0 : S4096x2048.Idx → EReal) = hArg m c := by
  unfold V
  simp only [hostOps0, List.flatten_cons, List.flatten_nil, List.append_nil, List.cons_append, List.nil_append]
  after_results
  rfl

/-- One of the arrays the call reads: an argument. -/
theorem found1 (c : Dev nD) : (V m c main_v1 : S2048x1152.Idx → EReal) = wArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = t.val / 3 ∧ win0_0.index t 1 = 0 :=
  (by decide +kernel : ∀ t : Fin grid0.N, win0_0.index t 0 = t.val / 3 ∧ win0_0.index t 1 = 0)

/-- Where a window's block begins, in blocks, at every point. -/
theorem index1 : ∀ t : Fin cfg0.N, win0_1.index t 0 = 0 ∧ win0_1.index t 1 = t.val % 3 :=
  (by decide +kernel : ∀ t : Fin grid0.N, win0_1.index t 0 = 0 ∧ win0_1.index t 1 = t.val % 3)

/-- Where a window's block begins, in blocks, at every point. -/
theorem index2 : ∀ t : Fin cfg0.N, win0_2.index t 0 = t.val / 3 ∧ win0_2.index t 1 = t.val % 3 :=
  (by decide +kernel : ∀ t : Fin grid0.N, win0_2.index t 0 = t.val / 3 ∧ win0_2.index t 1 = t.val % 3)

/-- An element of a point's block of window 0. -/
theorem iblk0_apply (c : Dev nD) (t : Fin cfg0.N) (r : Fin 1024) (k : Fin 2048) (p : Fin 4096) (hp : p.val = 1024 * (t.val / 3) + r.val) :
    (iblk m c 0 t : S1024x2048.Idx → EReal) (ix2 r k) = hArg m c (ix2 p k) := by
  rw [← found0]
  blk_simp [iblk]
  exact congrArg (V m c main_v0) (by blk_ext [index0])

/-- An element of a point's block of window 1. -/
theorem iblk1_apply (c : Dev nD) (t : Fin cfg0.N) (k : Fin 2048) (l : Fin 384) (q : Fin 1152) (hq : q.val = 384 * (t.val % 3) + l.val) :
    (iblk m c 1 t : S2048x384.Idx → EReal) (ix2 k l) = wArg m c (ix2 k q) := by
  rw [← found1]
  blk_simp [iblk]
  exact congrArg (V m c main_v1) (by blk_ext [index1])

/-- An element of the block a point computes. -/
theorem out_apply (x : Vec Ideal S1024x2048 .bf16) (w : Vec Ideal S2048x384 .bf16) (r : Fin 1024) (l : Fin 384) :
    out0_2 (F := Ideal) x w (ix2 r l) = ∑ k : Fin 2048, x (ix2 r k) * w (ix2 k l) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (hArg m c) (wArg m c) : S4096x1152.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 384 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (hArg m c) (wArg m c)) (show _ = ix2 (⟨1024 * (t.val / 3) + (j 0).val, by omega⟩ : Fin 4096) (⟨384 * (t.val % 3) + (j 1).val, by omega⟩ : Fin 1152) by blk_ext [index2])).symm
  rw [refOut_apply]
  exact Finset.sum_congr rfl fun k _ => congrArg₂ (· * ·) (iblk0_apply m c t _ k _ rfl) (iblk1_apply m c t k _ _ rfl)

/-- Kernel and reference end with equal results. -/
theorem equal_results : Cert.algebraic_Kernel19Ideal_Reference19Ideal := fun m g m' g' _ hargs =>
  ⟨_, (θ_run defs _ _).mono (fun _ h c => ⟨(h c).1.trans (final m c), (h c).2⟩) (Cert.Kernel19Ideal.Value.run_blocks m g),
    (θ_run Cert.Reference19Ideal.defs _ _).mono (fun _ h c =>
      ⟨(h c).1.trans (by rw [(hargs c).1, (hargs c).2]; rfl), (h c).2⟩) (Cert.Reference19Ideal.Value.run m' g')⟩

end Cert.MlaLat

end
-- ==== Proof.MlaDwIn.lean ====
/-
  The gradient of the projection to the latents: over the extended reals the kernel's array is the
  input transposed times the output's gradient, element for element as the reference has it.
-/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlaDwIn

open Idealize.ShloMosaic Idealize.ShloMosaic.TcCoe Idealize.SL.Sem

/-! ## The reference -/

section Ref
open Cert.Reference20Ideal Cert.Reference20Ideal.Gen

/-- The reference's result, of its arguments. -/
def refOut (h : FVec Ideal S4096x2048 .f32) (g : FVec Ideal S4096x1152 .f32) : FVec Ideal S2048x1152 .bf16 :=
  truncf .bf16 (transpose S2048x1152 [1, 0] (Host.dotGeneral dot_S4096x1152_S4096x2048_S1152x2048_0_0_1_1_n_n none g h) transposes_S1152x2048_S2048x1152_1_0) bitsLt_bf16_f32

/-- An element of the reference's result. -/
theorem refOut_apply (h : FVec Ideal S4096x2048 .f32) (g : FVec Ideal S4096x1152 .f32) (p : Fin 2048) (q : Fin 1152) :
    refOut h g (ix2 p q) = ∑ k : Fin 4096, g (ix2 k q) * h (ix2 k p) := by
  pointwise [refOut]

/-- The reference's run: straight-line host code, which declares no counter. -/
theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

end Ref

open Cert.Kernel20Ideal Cert.Kernel20Ideal.Gen
open Idealize.ShloMosaic.Pipeline (Dat Window)

/-- The kernel as compiled. -/
theorem frame_kernel : Cert.quiescent_Kernel20 := fun m ρ _ => Cert.Kernel20.Gen.frame m ρ

/-- The idealized kernel. -/
theorem frame_ideal : Cert.quiescent_Kernel20Ideal := fun m ρ _ => Cert.Kernel20Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 6 := lt_of_lt_of_eq t.isLt N_0

/-- The input. -/
abbrev hArg (c : Dev nD) : S4096x2048.Idx → EReal := m ((c.tc : Thread nD τ).loc main_arg0)

/-- The output's gradient. -/
abbrev gArg (c : Dev nD) : S4096x1152.Idx → EReal := m ((c.tc : Thread nD τ).loc main_arg2)

/-- One of the arrays the call reads: an argument. -/
theorem found0 (c : Dev nD) : (V m c main_v0 : S4096x2048.Idx → EReal) = hArg m c := by
  unfold V
  simp only [hostOps0, List.flatten_cons, List.flatten_nil, List.append_nil, List.cons_append, List.nil_append]
  after_results
  rfl

/-- One of the arrays the call reads: an argument. -/
theorem found1 (c : Dev nD) : (V m c main_v1 : S4096x1152.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = 0 ∧ win0_0.index t 1 = t.val / 3 :=
  (by decide +kernel : ∀ t : Fin grid0.N, win0_0.index t 0 = 0 ∧ win0_0.index t 1 = t.val / 3)

/-- Where a window's block begins, in blocks, at every point. -/
theorem index1 : ∀ t : Fin cfg0.N, win0_1.index t 0 = 0 ∧ win0_1.index t 1 = t.val % 3 :=
  (by decide +kernel : ∀ t : Fin grid0.N, win0_1.index t 0 = 0 ∧ win0_1.index t 1 = t.val % 3)

/-- Where a window's block begins, in blocks, at every point. -/
theorem index2 : ∀ t : Fin cfg0.N, win0_2.index t 0 = t.val / 3 ∧ win0_2.index t 1 = t.val % 3 :=
  (by decide +kernel : ∀ t : Fin grid0.N, win0_2.index t 0 = t.val / 3 ∧ win0_2.index t 1 = t.val % 3)

/-- An element of a point's block of window 0. -/
theorem iblk0_apply (c : Dev nD) (t : Fin cfg0.N) (k : Fin 4096) (r : Fin 1024) (p : Fin 2048) (hp : p.val = 1024 * (t.val / 3) + r.val) :
    (iblk m c 0 t : S4096x1024.Idx → EReal) (ix2 k r) = hArg m c (ix2 k p) := by
  rw [← found0]
  blk_simp [iblk]
  exact congrArg (V m c main_v0) (by blk_ext [index0])

/-- An element of a point's block of window 1. -/
theorem iblk1_apply (c : Dev nD) (t : Fin cfg0.N) (k : Fin 4096) (l : Fin 384) (q : Fin 1152) (hq : q.val = 384 * (t.val % 3) + l.val) :
    (iblk m c 1 t : S4096x384.Idx → EReal) (ix2 k l) = gArg m c (ix2 k q) := by
  rw [← found1]
  blk_simp [iblk]
  exact congrArg (V m c main_v1) (by blk_ext [index1])

/-- An element of the block a point computes. -/
theorem out_apply (x : Vec Ideal S4096x1024 .bf16) (w : Vec Ideal S4096x384 .bf16) (r : Fin 1024) (l : Fin 384) :
    out0_2 (F := Ideal) x w (ix2 r l) = ∑ k : Fin 4096, x (ix2 k r) * w (ix2 k l) := by
  unfold out0_2
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 2 cfg0.N = (refOut (hArg m c) (gArg m c) : S2048x1152.Idx → EReal) := by
  refine (dats m 0 c).arrAt_eq_of_covers 2 _ (by decide +kernel) fun t hf j => ?_
  have ht := point_lt t
  blk_simp
  rw [after0_2]
  have h0 : (j 0).val < 1024 := (j 0).isLt
  have h1 : (j 1).val < 384 := (j 1).isLt
  refine (congrArg (out0_2 (iblk m c 0 t) (iblk m c 1 t)) (show j = ix2 (j 0) (j 1) from Shape.idx_ext₂ rfl rfl)).trans ((out_apply _ _ _ _).trans ?_)
  refine Eq.trans ?_ (congrArg (refOut (hArg m c) (gArg m c)) (show _ = ix2 (⟨1024 * (t.val / 3) + (j 0).val, by omega⟩ : Fin 2048) (⟨384 * (t.val % 3) + (j 1).val, by omega⟩ : Fin 1152) by blk_ext [index2])).symm
  rw [refOut_apply]
  exact Finset.sum_congr rfl fun k _ => Eq.trans (congrArg₂ (fun a b : EReal => a * b) (iblk0_apply m c t k _ _ rfl) (iblk1_apply m c t k _ _ rfl)) (mul_comm (_ : EReal) _)

/-- Kernel and reference end with equal results. -/
theorem equal_results : Cert.algebraic_Kernel20Ideal_Reference20Ideal := fun m g m' g' _ hargs =>
  ⟨_, (θ_run defs _ _).mono (fun _ h c => ⟨(h c).1.trans (final m c), (h c).2⟩) (Cert.Kernel20Ideal.Value.run_blocks m g),
    (θ_run Cert.Reference20Ideal.defs _ _).mono (fun _ h c =>
      ⟨(h c).1.trans (by rw [(hargs c).1, (hargs c).2.2]; rfl), (h c).2⟩) (Cert.Reference20Ideal.Value.run m' g')⟩

end Cert.MlaDwIn

end
-- ==== Proof.MlaDh.lean ====
/-
  The gradient of the attention's input: over the extended reals the kernel's array is the
  product of the output's gradient with the weight transposed, element for element as the reference has it.
-/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.Products
public import Idealize.ShloMosaic.Lib.Quiescent
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.MlaDh

open Idealize.ShloMosaic Idealize.ShloMosaic.TcCoe Idealize.SL.Sem

/-! ## The reference -/

section Ref
open Cert.Reference21Ideal Cert.Reference21Ideal.Gen

/-- The reference's result, of its arguments. -/
def refOut (w : FVec Ideal S2048x1152 .f32) (g : FVec Ideal S4096x1152 .f32) : FVec Ideal S4096x2048 .f32 :=
  Host.dotGeneral dot_S4096x1152_S2048x1152_S4096x2048_1_1_0_0_n_n none g w

/-- An element of the reference's result. -/
theorem refOut_apply (w : FVec Ideal S2048x1152 .f32) (g : FVec Ideal S4096x1152 .f32) (p : Fin 4096) (q : Fin 2048) :
    refOut w g (ix2 p q) = ∑ k : Fin 1152, g (ix2 p k) * w (ix2 q k) := by
  pointwise [refOut]

/-- The reference's run: straight-line host code, which declares no counter. -/
theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run m ρ)

end Ref

open Cert.Kernel21Ideal Cert.Kernel21Ideal.Gen
open Idealize.ShloMosaic.Pipeline (Dat Window)

/-- The kernel as compiled. -/
theorem frame_kernel : Cert.quiescent_Kernel21 := fun m ρ _ => Cert.Kernel21.Gen.frame m ρ

/-- The idealized kernel. -/
theorem frame_ideal : Cert.quiescent_Kernel21Ideal := fun m ρ _ => Cert.Kernel21Ideal.Gen.frame m ρ

variable (m : (ℓ : Loc nD τ sig) → Buf (Elt Ideal) ℓ) (ρ : Dev nD → PrngReg)

/-! ## The blocks, an element at a time -/

/-- The number of points. -/
theorem point_lt (t : Fin cfg0.N) : t.val < 8 := lt_of_lt_of_eq t.isLt N_0

/-- The weight. -/
abbrev wArg (c : Dev nD) : S2048x1152.Idx → EReal := m ((c.tc : Thread nD τ).loc main_arg1)

/-- The output's gradient. -/
abbrev gArg (c : Dev nD) : S4096x1152.Idx → EReal := m ((c.tc : Thread nD τ).loc main_arg2)

/-- One of the arrays the call reads: an argument. -/
theorem found0 (c : Dev nD) : (V m c main_v0 : S4096x1152.Idx → EReal) = gArg m c := by
  unfold V
  simp only [hostOps0, List.flatten_cons, List.flatten_nil, List.append_nil, List.cons_append, List.nil_append]
  after_results
  rfl

/-- Where a window's block begins, in blocks, at every point. -/
theorem index0 : ∀ t : Fin cfg0.N, win0_0.index t 0 = t.val / 2 ∧ win0_0.index t 1 = 0 :=
  (by decide +kernel : ∀ t : Fin grid0.N, win0_0.index t 0 = t.val / 2 ∧ win0_0.index t 1 = 0)

/-- One of the arrays the call reads: an argument. -/
theorem found1 (c : Dev nD) : (V m c main_v1 : S2048x1152.Idx → EReal) = wArg m c := by
  unfold V
  simp only [hostOps0, List.flatten_cons, List.flatten_nil, List.append_nil, List.cons_append, List.nil_append]
  after_results
  rfl

/-- Where a window's block begins, in blocks, at every point. -/
theorem index1 : ∀ t : Fin cfg0.N, win0_1.index t 0 = t.val % 2 ∧ win0_1.index t 1 = 0 :=
  (by decide +kernel : ∀ t : Fin grid0.N, win0_1.index t 0 = t.val % 2 ∧ win0_1.index t 1 = 0)

/-- Where a window's block begins, in blocks, at every point. -/
theorem index3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

/-- An element of a point's block of window 0. -/
theorem iblk0_apply (c : Dev nD) (t : Fin cfg0.N) (r : Fin 1024) (k : Fin 1152) (p : Fin 4096) (hp : p.val = 1024 * (t.val / 2) + r.val) :
    (iblk m c 0 t : S1024x1152.Idx → EReal) (ix2 r k) = gArg m c (ix2 p k) := by
  rw [← found0]
  blk_simp [iblk]
  exact congrArg (V m c main_v0) (by blk_ext [index0])

/-- An element of a point's block of window 1. -/
theorem iblk1_apply (c : Dev nD) (t : Fin cfg0.N) (l : Fin 1024) (k : Fin 1152) (q : Fin 2048) (hq : q.val = 1024 * (t.val % 2) + l.val) :
    (iblk m c 1 t : S1024x1152.Idx → EReal) (ix2 l k) = wArg m c (ix2 q k) := by
  rw [← found1]
  blk_simp [iblk]
  exact congrArg (V m c main_v1) (by blk_ext [index1])

/-- An element of the block a point computes. -/
theorem out_apply (x : Vec Ideal S1024x1152 .bf16) (w : Vec Ideal S1024x1152 .bf16) (z : Vec Ideal S8x128 .f32) (r : Fin 1024) (l : Fin 1024) :
    out0_3 (F := Ideal) x w z (ix2 r l) = ∑ k : Fin 1152, x (ix2 r k) * w (ix2 l k) := by
  unfold out0_3
  rw [View.canon_unit_zero Products.zero2, View.ld_unit_zero Products.zero2, View.ld_unit_zero Products.zero2]
  pointwise [k0_pay1]

/-! ## The result array -/

/-- The blocks cover the result, and each is its block of the reference's result. -/
theorem final (c : Dev nD) : (dats m 0 c).arrAt 3 cfg0.N = (refOut (wArg m c) (gArg m c) : S4096x2048.Idx → EReal) := by
  refine (dats m 0 c).arrAt_eq_of_covers 3 _ (by decide +kernel) fun t hf j => ?_
  have ht := point_lt t
  blk_simp
  rw [after0_3]
  have h0 : (j 0).val < 1024 := (j 0).isLt
  have h1 : (j 1).val < 1024 := (j 1).isLt
  refine (congrArg (out0_3 (iblk m c 0 t) (iblk m c 1 t) (iblk m c 2 t)) (show j = ix2 (j 0) (j 1) from Shape.idx_ext₂ rfl rfl)).trans ((out_apply _ _ _ _ _).trans ?_)
  refine Eq.trans ?_ (congrArg (refOut (wArg m c) (gArg m c)) (show _ = ix2 (⟨1024 * (t.val / 2) + (j 0).val, by omega⟩ : Fin 4096) (⟨1024 * (t.val % 2) + (j 1).val, by omega⟩ : Fin 2048) by blk_ext [index3])).symm
  rw [refOut_apply]
  exact Finset.sum_congr rfl fun k _ => congrArg₂ (· * ·) (iblk0_apply m c t _ k _ rfl) (iblk1_apply m c t _ k _ rfl)

/-- Kernel and reference end with equal results. -/
theorem equal_results : Cert.algebraic_Kernel21Ideal_Reference21Ideal := fun m g m' g' _ hargs =>
  ⟨_, (θ_run defs _ _).mono (fun _ h c => ⟨(h c).1.trans (final m c), (h c).2⟩) (Cert.Kernel21Ideal.Value.run_blocks m g),
    (θ_run Cert.Reference21Ideal.defs _ _).mono (fun _ h c =>
      ⟨(h c).1.trans (by rw [(hargs c).2.1, (hargs c).2.2]; rfl), (h c).2⟩) (Cert.Reference21Ideal.Value.run m' g')⟩

end Cert.MlaDh

end
-- ==== Proof.lean ====
/-
  The claims about the backward passes of the gated causal convolution and of causal attention, and about the matrix
  products of the layers in both passes: their runs end with the arguments unchanged and every counter at zero, their
  idealizations compute what the compiled kernels do, and over the extended reals their results are the references'.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.ConvValue
public import proofs.«01_k».proof.Proof.AttnFrames
public import proofs.«01_k».proof.Proof.AttnEqual
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.MlpDact
public import proofs.«01_k».proof.Proof.MlpDwDown
public import proofs.«01_k».proof.Proof.MlpDwUp
public import proofs.«01_k».proof.Proof.MlpDh
public import proofs.«01_k».proof.Proof.MlpUp
public import proofs.«01_k».proof.Proof.MlpDown
public import proofs.«01_k».proof.Proof.ConvOut
public import proofs.«01_k».proof.Proof.ConvDbz
public import proofs.«01_k».proof.Proof.ConvDwOut
public import proofs.«01_k».proof.Proof.ConvIn
public import proofs.«01_k».proof.Proof.ConvDwIn
public import proofs.«01_k».proof.Proof.ConvDh
public import proofs.«01_k».proof.Proof.MlaDo
public import proofs.«01_k».proof.Proof.MlaKv
public import proofs.«01_k».proof.Proof.MlaDckv
public import proofs.«01_k».proof.Proof.MlaDwUkv
public import proofs.«01_k».proof.Proof.MlaLat
public import proofs.«01_k».proof.Proof.MlaDwIn
public import proofs.«01_k».proof.Proof.MlaDh
public import Idealize.ShloMosaic.Lib.Quiescent
public import Idealize.ShloMosaic.Adequacy
public import Idealize.ShloMosaic.Init

@[expose] public section

noncomputable section

namespace Cert.Proof

open Idealize.ShloMosaic Idealize.SL.Sem

/-- The compiled kernel's body is the idealized one's: the same text, label by label. -/
theorem body_table : Cert.Kernel.defs₀ (F := Bits) = Cert.KernelIdeal.defs₀ (F := Bits) := by
  unfold Cert.Kernel.defs₀ Cert.KernelIdeal.defs₀
  refine congrArg Defs.onTc ?_
  funext b x
  match b, x with
  | 0, ⟨t, s⟩ => rfl

/-- So their tables of procedures agree. -/
theorem table : Cert.Kernel.defs (F := Bits) = Cert.KernelIdeal.defs (F := Bits) := by
  unfold Cert.Kernel.defs Cert.KernelIdeal.defs
  exact congrArg (Pipeline.defs _) body_table

/-- The kernel as compiled: the run generic over the floats serves it too. -/
theorem frame_kernel : Cert.quiescent_Kernel := fun m ρ _ => by
  rw [table]
  exact Cert.Conv.frame_all (F := Bits) m ρ

/-- The idealized kernel: the same run over the extended reals. -/
theorem frame_ideal : Cert.quiescent_KernelIdeal := fun m ρ _ => Cert.Conv.frame_all (F := Ideal) m ρ

/-- The reference: straight-line host code, which declares no counter. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.Conv.ref_run m ρ)

/-- Kernel and reference end with equal results. -/
theorem equal_results : Cert.algebraic_KernelIdeal_ReferenceIdeal := fun m g m' g' _ hargs =>
  ⟨_, _, Cert.Conv.kernel_run m g, (θ_run Cert.ReferenceIdeal.defs _ _).mono (fun _ h c =>
    ⟨(h c).1.trans (by rw [(hargs c).1, (hargs c).2.1, (hargs c).2.2]), (h c).2.1.trans (by rw [(hargs c).1, (hargs c).2.1]), (h c).2.2⟩)
    (Cert.Conv.ref_run m' g')⟩

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Pre_finite.Gen.facts,
  frame_kernel, frame_ideal, frame_reference,
  Cert.Attn.frame_kernel2, Cert.Attn.frame_ideal2, fun m ρ _ => Cert.Attn.frame_ideal2 m ρ trivial,
  Cert.Attn.frame_reference2, fun m ρ _ => Cert.Attn.frame_reference2 m ρ trivial,
  Cert.MlpDact.frame_kernel, Cert.MlpDact.frame_ideal, Cert.MlpDact.frame_reference,
  Cert.MlpDwDown.frame_kernel, Cert.MlpDwDown.frame_ideal, Cert.MlpDwDown.frame_reference,
  Cert.MlpDwUp.frame_kernel, Cert.MlpDwUp.frame_ideal, Cert.MlpDwUp.frame_reference,
  Cert.MlpDh.frame_kernel, Cert.MlpDh.frame_ideal, Cert.MlpDh.frame_reference,
  Cert.MlpUp.frame_kernel, Cert.MlpUp.frame_ideal, Cert.MlpUp.frame_reference,
  Cert.MlpDown.frame_kernel, Cert.MlpDown.frame_ideal, Cert.MlpDown.frame_reference,
  Cert.ConvOut.frame_kernel, Cert.ConvOut.frame_ideal, Cert.ConvOut.frame_reference,
  Cert.ConvDbz.frame_kernel, Cert.ConvDbz.frame_ideal, Cert.ConvDbz.frame_reference,
  Cert.ConvDwOut.frame_kernel, Cert.ConvDwOut.frame_ideal, Cert.ConvDwOut.frame_reference,
  Cert.ConvIn.frame_kernel, Cert.ConvIn.frame_ideal, Cert.ConvIn.frame_reference,
  Cert.ConvDwIn.frame_kernel, Cert.ConvDwIn.frame_ideal, Cert.ConvDwIn.frame_reference,
  Cert.ConvDh.frame_kernel, Cert.ConvDh.frame_ideal, Cert.ConvDh.frame_reference,
  Cert.MlaDo.frame_kernel, Cert.MlaDo.frame_ideal, Cert.MlaDo.frame_reference,
  Cert.MlaKv.frame_kernel, Cert.MlaKv.frame_ideal, Cert.MlaKv.frame_reference,
  Cert.MlaDckv.frame_kernel, Cert.MlaDckv.frame_ideal, Cert.MlaDckv.frame_reference,
  Cert.MlaDwUkv.frame_kernel, Cert.MlaDwUkv.frame_ideal, Cert.MlaDwUkv.frame_reference,
  Cert.MlaLat.frame_kernel, Cert.MlaLat.frame_ideal, Cert.MlaLat.frame_reference,
  Cert.MlaDwIn.frame_kernel, Cert.MlaDwIn.frame_ideal, Cert.MlaDwIn.frame_reference,
  Cert.MlaDh.frame_kernel, Cert.MlaDh.frame_ideal, Cert.MlaDh.frame_reference,
  trivial, equal_results, Cert.Attn.preserves2, Cert.Attn.equal_results2,
  trivial, Cert.MlpDact.equal_results,
  trivial, Cert.MlpDwDown.equal_results,
  trivial, Cert.MlpDwUp.equal_results,
  trivial, Cert.MlpDh.equal_results,
  trivial, Cert.MlpUp.equal_results,
  trivial, Cert.MlpDown.equal_results,
  trivial, Cert.ConvOut.equal_results,
  trivial, Cert.ConvDbz.equal_results,
  trivial, Cert.ConvDwOut.equal_results,
  trivial, Cert.ConvIn.equal_results,
  trivial, Cert.ConvDwIn.equal_results,
  trivial, Cert.ConvDh.equal_results,
  trivial, Cert.MlaDo.equal_results,
  trivial, Cert.MlaKv.equal_results,
  trivial, Cert.MlaDckv.equal_results,
  trivial, Cert.MlaDwUkv.equal_results,
  trivial, Cert.MlaLat.equal_results,
  trivial, Cert.MlaDwIn.equal_results,
  trivial, Cert.MlaDh.equal_results⟩

end Cert.Proof

end
